-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_KernelIdeal [hPre_finite_KernelIdeal : Cert.Pre_finite_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_finite_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_ReferenceIdeal [hPre_finite_ReferenceIdeal : Cert.Pre_finite_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite_KernelIdeal [hKernelIdeal : Cert.KernelIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite_ReferenceIdeal [hReferenceIdeal : Cert.ReferenceIdeal.Facts] [hPre_finite_ReferenceIdeal : Cert.Pre_finite_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite_KernelIdeal [hKernelIdeal : Cert.KernelIdeal.Facts] [hReferenceIdeal : Cert.ReferenceIdeal.Facts] [hPre_finite_KernelIdeal : Cert.Pre_finite_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_KernelIdeal m →
    (∀ c : Dev Cert.KernelIdeal.nD,
      m ((c.tc : Thread Cert.KernelIdeal.nD Cert.KernelIdeal.τ).loc Cert.KernelIdeal.main_arg0) = Layout.blockN ⟨4, ![1, 1024, 16, 128]⟩ ⟨4, ![1, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![1, 1024, 16, 128]⟩ ⟨4, ![1, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![1, 1024, 16, 128]⟩ ⟨4, ![1, 4096, 16, 128]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨3, ![1024, 16, 128]⟩ ⟨3, ![4096, 16, 128]⟩ (Layout.meshBlock [2, 4, 4] ![[2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v14) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_KernelIdeal : Cert.Pre_finite_KernelIdeal.Facts) (hPre_finite_ReferenceIdeal : Cert.Pre_finite_ReferenceIdeal.Facts),
    quiescent_Kernel (hKernel := hKernel)
    ∧ quiescent_KernelIdeal (hKernelIdeal := hKernelIdeal)
    ∧ quiescent_KernelIdeal_pre_finite_KernelIdeal (hKernelIdeal := hKernelIdeal) (hPre_finite_KernelIdeal := hPre_finite_KernelIdeal)
    ∧ quiescent_ReferenceIdeal (hReferenceIdeal := hReferenceIdeal)
    ∧ quiescent_ReferenceIdeal_pre_finite_ReferenceIdeal (hReferenceIdeal := hReferenceIdeal) (hPre_finite_ReferenceIdeal := hPre_finite_ReferenceIdeal)
    ∧ preserves_Kernel_KernelIdeal
    ∧ algebraic_KernelIdeal_ReferenceIdeal_pre_finite_KernelIdeal (hKernelIdeal := hKernelIdeal) (hReferenceIdeal := hReferenceIdeal) (hPre_finite_KernelIdeal := hPre_finite_KernelIdeal)
-- ==== Pre_finite_KernelIdeal.lean ====
abbrev S1x1024x16x128 : Shape := ⟨4, ![1, 1024, 16, 128]⟩
abbrev S_ : Shape := ⟨0, ![]⟩

class Facts : Prop where
  bcast_S_S1x1024x16x128 : S_.BroadcastsInDim S1x1024x16x128 (![] : Fin 0 → Fin S1x1024x16x128.rank)
  reducesTo_S1x1024x16x128_S_d0_1_2_3 : S1x1024x16x128.ReducesTo [0, 1, 2, 3] S_
  h_S_ : 0 < S_.numel

variable [Facts]

def fn {F : FTy → Type} [FloatOps F] (main_arg0 : FVec F S1x1024x16x128 .f32) (main_arg1 : FVec F S1x1024x16x128 .f32) (main_arg2 : FVec F S1x1024x16x128 .f32) : IVec S_ 1 :=
  let main_v0 : FVec F S1x1024x16x128 .f32 := Host.absf main_arg0
  let main_cst : FVec F S_ .f32 := constant S_ .f32 0x7F800000#32
  let main_v1 : FVec F S1x1024x16x128 .f32 := broadcastInDim S1x1024x16x128 ![] bcast_S_S1x1024x16x128 main_cst
  let main_v2 : IVec S1x1024x16x128 1 := cmpf .olt main_v0 main_v1
  let main_c : IVec S_ 1 := constantI S_ 1 1#1
  let main_v3 : IVec S_ 1 := (fun x v => Host.reduce IntOp.andi x v reducesTo_S1x1024x16x128_S_d0_1_2_3 h_S_) main_v2 main_c
  let main_v4 : FVec F S1x1024x16x128 .f32 := Host.absf main_arg1
  let main_cst_0 : FVec F S_ .f32 := constant S_ .f32 0x7F800000#32
  let main_v5 : FVec F S1x1024x16x128 .f32 := broadcastInDim S1x1024x16x128 ![] bcast_S_S1x1024x16x128 main_cst_0
  let main_v6 : IVec S1x1024x16x128 1 := cmpf .olt main_v4 main_v5
  let main_c_1 : IVec S_ 1 := constantI S_ 1 1#1
  let main_v7 : IVec S_ 1 := (fun x v => Host.reduce IntOp.andi x v reducesTo_S1x1024x16x128_S_d0_1_2_3 h_S_) main_v6 main_c_1
  let main_v8 : IVec S_ 1 := andi main_v3 main_v7
  main_v8
-- ==== Pre_finite_ReferenceIdeal.lean ====
abbrev S1x4096x16x128 : Shape := ⟨4, ![1, 4096, 16, 128]⟩
abbrev S_ : Shape := ⟨0, ![]⟩

class Facts : Prop where
  bcast_S_S1x4096x16x128 : S_.BroadcastsInDim S1x4096x16x128 (![] : Fin 0 → Fin S1x4096x16x128.rank)
  reducesTo_S1x4096x16x128_S_d0_1_2_3 : S1x4096x16x128.ReducesTo [0, 1, 2, 3] S_
  h_S_ : 0 < S_.numel

variable [Facts]

def fn {F : FTy → Type} [FloatOps F] (main_arg0 : FVec F S1x4096x16x128 .f32) (main_arg1 : FVec F S1x4096x16x128 .f32) (main_arg2 : FVec F S1x4096x16x128 .f32) : IVec S_ 1 :=
  let main_v0 : FVec F S1x4096x16x128 .f32 := Host.absf main_arg0
  let main_cst : FVec F S_ .f32 := constant S_ .f32 0x7F800000#32
  let main_v1 : FVec F S1x4096x16x128 .f32 := broadcastInDim S1x4096x16x128 ![] bcast_S_S1x4096x16x128 main_cst
  let main_v2 : IVec S1x4096x16x128 1 := cmpf .olt main_v0 main_v1
  let main_c : IVec S_ 1 := constantI S_ 1 1#1
  let main_v3 : IVec S_ 1 := (fun x v => Host.reduce IntOp.andi x v reducesTo_S1x4096x16x128_S_d0_1_2_3 h_S_) main_v2 main_c
  let main_v4 : FVec F S1x4096x16x128 .f32 := Host.absf main_arg1
  let main_cst_0 : FVec F S_ .f32 := constant S_ .f32 0x7F800000#32
  let main_v5 : FVec F S1x4096x16x128 .f32 := broadcastInDim S1x4096x16x128 ![] bcast_S_S1x4096x16x128 main_cst_0
  let main_v6 : IVec S1x4096x16x128 1 := cmpf .olt main_v4 main_v5
  let main_c_1 : IVec S_ 1 := constantI S_ 1 1#1
  let main_v7 : IVec S_ 1 := (fun x v => Host.reduce IntOp.andi x v reducesTo_S1x4096x16x128_S_d0_1_2_3 h_S_) main_v6 main_c_1
  let main_v8 : IVec S_ 1 := andi main_v3 main_v7
  main_v8
-- ==== Kernel.lean ====
abbrev S1x1024x16x128 : Shape := ⟨4, ![1, 1024, 16, 128]⟩
abbrev S1024x16x128 : Shape := ⟨3, ![1024, 16, 128]⟩
abbrev S4x2x1024x128 : Shape := ⟨4, ![4, 2, 1024, 128]⟩
abbrev S2x1024x128 : Shape := ⟨3, ![2, 1024, 128]⟩
abbrev S16x1024x128 : Shape := ⟨3, ![16, 1024, 128]⟩
abbrev S1024x2x128 : Shape := ⟨3, ![1024, 2, 128]⟩
abbrev S4x3 : Shape := ⟨2, ![4, 3]⟩
abbrev S_ : Shape := ⟨0, ![]⟩
abbrev S2x3 : Shape := ⟨2, ![2, 3]⟩
abbrev S3 : Shape := ⟨1, ![3]⟩
abbrev S1 : Shape := ⟨1, ![1]⟩
abbrev S1x1024x2x128 : Shape := ⟨4, ![1, 1024, 2, 128]⟩
abbrev S1024x1x128 : Shape := ⟨3, ![1024, 1, 128]⟩
abbrev S1024x128 : Shape := ⟨2, ![1024, 128]⟩
abbrev S1x1024x128 : Shape := ⟨3, ![1, 1024, 128]⟩
abbrev S1x1x1024x128 : Shape := ⟨4, ![1, 1, 1024, 128]⟩
abbrev S1x1 : Shape := ⟨2, ![1, 1]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 4
  | .vmem => 10
  | .smem => 0
  | _ => 0

abbrev bufTy : (tb : Table) → Fin (tcTables nBuf tb) → BufTy
  | .hbm, ⟨0, _⟩ => ⟨S1x1024x16x128, .f32⟩
  | .hbm, ⟨1, _⟩ => ⟨S1x1024x16x128, .f32⟩
  | .hbm, ⟨2, _⟩ => ⟨S1x1024x16x128, .f32⟩
  | .hbm, ⟨3, _⟩ => ⟨S1024x16x128, .f32⟩
  | .local _ .vmem, ⟨0, _⟩ => ⟨S1024x16x128, .f32⟩
  | .local _ .vmem, ⟨1, _⟩ => ⟨S4x2x1024x128, .bf16⟩
  | .local _ .vmem, ⟨2, _⟩ => ⟨S4x2x1024x128, .bf16⟩
  | .local _ .vmem, ⟨3, _⟩ => ⟨S2x1024x128, .bf16⟩
  | .local _ .vmem, ⟨4, _⟩ => ⟨S2x1024x128, .f32⟩
  | .local _ .vmem, ⟨5, _⟩ => ⟨S2x1024x128, .f32⟩
  | .local _ .vmem, ⟨6, _⟩ => ⟨S16x1024x128, .bf16⟩
  | .local _ .vmem, ⟨7, _⟩ => ⟨S1024x2x128, .f32⟩
  | .local _ .vmem, ⟨8, _⟩ => ⟨S1024x2x128, .f32⟩
  | .local _ .vmem, ⟨9, _⟩ => ⟨S1024x2x128, .f32⟩
  | _, _ => ⟨S1x1024x16x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 1 → Bool
  | ⟨0, _⟩ => false
  | _ => false

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  (ofTc nBuf bufTy 1 42 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_scratch7 : Ref sig .tc := ⟨.vmem, 8, rfl⟩
abbrev cc0_scratch8 : Ref sig .tc := ⟨.vmem, 9, rfl⟩
abbrev cc0_sem0_0 : DmaSem sig := 0
abbrev barrier0 : Sem sig := 0

abbrev nD : Nat := 32
abbrev τ : Topo := Topo.v7x

variable {F : FTy → Type} [FloatOps F]

abbrev grid0 : Pipeline.Grid := .none

def k0_off1 (d0 : Dev nD) : Fin 4 → Nat :=
  let c0_i32_32 : BitVec 32 := 0#32
  let c0_i32_34 : BitVec 32 := 0#32
  let c4_i32_30 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v54 : BitVec 32 := Scalar.muli c4_i32_30 v5
  let c2_i32_31 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v55 : BitVec 32 := Scalar.muli c2_i32_31 v2
  let v56 : BitVec 32 := Scalar.addi v54 v55
  let c0_i32_35 : BitVec 32 := 0#32
  ![0, 0, v56.toNat, 0]
def k0_dev1 (d0 : Dev nD) : Nat :=
  let c0_i32_46 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_45 : BitVec 32 := 16#32
  let v70 : BitVec 32 := Scalar.muli v2 c16_i32_45
  let v71 : BitVec 32 := Scalar.addi c0_i32_46 v70
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_47 : BitVec 32 := 4#32
  let v72 : BitVec 32 := Scalar.muli v5 c4_i32_47
  let v73 : BitVec 32 := Scalar.addi v71 v72
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_48 : BitVec 32 := 1#32
  let v74 : BitVec 32 := Scalar.muli v30 c1_i32_48
  let v75 : BitVec 32 := Scalar.addi v73 v74
  v75.toNat
def k0_dev2 (d0 : Dev nD) : Nat :=
  let c0_i32_51 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_50 : BitVec 32 := 16#32
  let v76 : BitVec 32 := Scalar.muli v2 c16_i32_50
  let v77 : BitVec 32 := Scalar.addi c0_i32_51 v76
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_52 : BitVec 32 := 4#32
  let v78 : BitVec 32 := Scalar.muli v5 c4_i32_52
  let v79 : BitVec 32 := Scalar.addi v77 v78
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_53 : BitVec 32 := 1#32
  let v80 : BitVec 32 := Scalar.muli v19 c1_i32_53
  let v81 : BitVec 32 := Scalar.addi v79 v80
  v81.toNat
def k0_dev3 (d0 : Dev nD) : Nat :=
  let c0_i32_56 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_55 : BitVec 32 := 16#32
  let v82 : BitVec 32 := Scalar.muli v53 c16_i32_55
  let v83 : BitVec 32 := Scalar.addi c0_i32_56 v82
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v84 : BitVec 32 := Scalar.muli v5 c4_i32_57
  let v85 : BitVec 32 := Scalar.addi v83 v84
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_58 : BitVec 32 := 1#32
  let v86 : BitVec 32 := Scalar.muli v8 c1_i32_58
  let v87 : BitVec 32 := Scalar.addi v85 v86
  v87.toNat
def k0_dev4 (d0 : Dev nD) : Nat :=
  let c0_i32_61 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_60 : BitVec 32 := 16#32
  let v88 : BitVec 32 := Scalar.muli v2 c16_i32_60
  let v89 : BitVec 32 := Scalar.addi c0_i32_61 v88
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v42 : BitVec 32 := Scalar.subi v5 c1_i32_22
  let c4_i32_23 : BitVec 32 := 4#32
  let c0_i32_24 : BitVec 32 := 0#32
  let v43 : BitVec 1 := Scalar.cmpi .eq c4_i32_23 c0_i32_24
  let c1_i32_25 : BitVec 32 := 1#32
  let v44 : BitVec 32 := Scalar.select v43 c1_i32_25 c4_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c4_i32_62 : BitVec 32 := 4#32
  let v90 : BitVec 32 := Scalar.muli v52 c4_i32_62
  let v91 : BitVec 32 := Scalar.addi v89 v90
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_63 : BitVec 32 := 1#32
  let v92 : BitVec 32 := Scalar.muli v8 c1_i32_63
  let v93 : BitVec 32 := Scalar.addi v91 v92
  v93.toNat
def k0_dev5 (d0 : Dev nD) : Nat :=
  let c0_i32_66 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_65 : BitVec 32 := 16#32
  let v94 : BitVec 32 := Scalar.muli v2 c16_i32_65
  let v95 : BitVec 32 := Scalar.addi c0_i32_66 v94
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_67 : BitVec 32 := 4#32
  let v96 : BitVec 32 := Scalar.muli v41 c4_i32_67
  let v97 : BitVec 32 := Scalar.addi v95 v96
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_68 : BitVec 32 := 1#32
  let v98 : BitVec 32 := Scalar.muli v8 c1_i32_68
  let v99 : BitVec 32 := Scalar.addi v97 v98
  v99.toNat
def k0_off2 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v121 : Index := Scalar.indexCast v8
  let c0_89 : Index := 0#32
  let c0_90 : Index := 0#32
  let c0_91 : Index := 0#32
  ![v121.toNat, 0, 0, 0]
def k0_off3 (d0 : Dev nD) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v141 : Index := Scalar.indexCast v8
  let c1_106 : Index := 1#32
  let c0_107 : Index := 0#32
  let c0_108 : Index := 0#32
  ![v141.toNat, 1, 0, 0]
def k0_off4 (d0 : Dev nD) (c0_i32_122 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v160 : BitVec 32 := Scalar.subi v8 c0_i32_122
  let c4_i32_123 : BitVec 32 := 4#32
  let c0_i32_124 : BitVec 32 := 0#32
  let v161 : BitVec 1 := Scalar.cmpi .eq c4_i32_123 c0_i32_124
  let c1_i32_125 : BitVec 32 := 1#32
  let v162 : BitVec 32 := Scalar.select v161 c1_i32_125 c4_i32_123
  let v163 : BitVec 32 := Scalar.remsi v160 v162
  let c0_i32_127 : BitVec 32 := 0#32
  let v165 : BitVec 1 := Scalar.cmpi .slt v163 c0_i32_127
  let c0_i32_128 : BitVec 32 := 0#32
  let v166 : BitVec 1 := Scalar.cmpi .slt v162 c0_i32_128
  let v167 : BitVec 1 := Scalar.xori v165 v166
  let c0_i32_126 : BitVec 32 := 0#32
  let v164 : BitVec 1 := Scalar.cmpi .ne v163 c0_i32_126
  let v168 : BitVec 1 := Scalar.andi v167 v164
  let v169 : BitVec 32 := Scalar.addi v163 v162
  let v170 : BitVec 32 := Scalar.select v168 v169 v163
  let c0_i32_144 : BitVec 32 := 0#32
  let c0_i32_145 : BitVec 32 := 0#32
  let c0_i32_146 : BitVec 32 := 0#32
  ![v170.toNat, 0, 0, 0]
def k0_dev6 (d0 : Dev nD) : Nat :=
  let c0_i32_141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_140 : BitVec 32 := 16#32
  let v182 : BitVec 32 := Scalar.muli v2 c16_i32_140
  let v183 : BitVec 32 := Scalar.addi c0_i32_141 v182
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_142 : BitVec 32 := 4#32
  let v184 : BitVec 32 := Scalar.muli v5 c4_i32_142
  let v185 : BitVec 32 := Scalar.addi v183 v184
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_143 : BitVec 32 := 1#32
  let v186 : BitVec 32 := Scalar.muli v19 c1_i32_143
  let v187 : BitVec 32 := Scalar.addi v185 v186
  v187.toNat
def k0_dev7 (d0 : Dev nD) : Nat :=
  let c0_i32_155 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_154 : BitVec 32 := 16#32
  let v196 : BitVec 32 := Scalar.muli v2 c16_i32_154
  let v197 : BitVec 32 := Scalar.addi c0_i32_155 v196
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_156 : BitVec 32 := 4#32
  let v198 : BitVec 32 := Scalar.muli v5 c4_i32_156
  let v199 : BitVec 32 := Scalar.addi v197 v198
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_157 : BitVec 32 := 1#32
  let v200 : BitVec 32 := Scalar.muli v19 c1_i32_157
  let v201 : BitVec 32 := Scalar.addi v199 v200
  v201.toNat
def k0_off5 (d0 : Dev nD) (c0_i32_129 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v171 : BitVec 32 := Scalar.addi v8 c0_i32_129
  let c4_i32_130 : BitVec 32 := 4#32
  let c0_i32_131 : BitVec 32 := 0#32
  let v172 : BitVec 1 := Scalar.cmpi .eq c4_i32_130 c0_i32_131
  let c1_i32_132 : BitVec 32 := 1#32
  let v173 : BitVec 32 := Scalar.select v172 c1_i32_132 c4_i32_130
  let v174 : BitVec 32 := Scalar.remsi v171 v173
  let c0_i32_134 : BitVec 32 := 0#32
  let v176 : BitVec 1 := Scalar.cmpi .slt v174 c0_i32_134
  let c0_i32_135 : BitVec 32 := 0#32
  let v177 : BitVec 1 := Scalar.cmpi .slt v173 c0_i32_135
  let v178 : BitVec 1 := Scalar.xori v176 v177
  let c0_i32_133 : BitVec 32 := 0#32
  let v175 : BitVec 1 := Scalar.cmpi .ne v174 c0_i32_133
  let v179 : BitVec 1 := Scalar.andi v178 v175
  let v180 : BitVec 32 := Scalar.addi v174 v173
  let v181 : BitVec 32 := Scalar.select v179 v180 v174
  let c1_i32_172 : BitVec 32 := 1#32
  let c0_i32_173 : BitVec 32 := 0#32
  let c0_i32_174 : BitVec 32 := 0#32
  ![v181.toNat, 1, 0, 0]
def k0_dev8 (d0 : Dev nD) : Nat :=
  let c0_i32_169 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_168 : BitVec 32 := 16#32
  let v210 : BitVec 32 := Scalar.muli v2 c16_i32_168
  let v211 : BitVec 32 := Scalar.addi c0_i32_169 v210
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_170 : BitVec 32 := 4#32
  let v212 : BitVec 32 := Scalar.muli v5 c4_i32_170
  let v213 : BitVec 32 := Scalar.addi v211 v212
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_171 : BitVec 32 := 1#32
  let v214 : BitVec 32 := Scalar.muli v30 c1_i32_171
  let v215 : BitVec 32 := Scalar.addi v213 v214
  v215.toNat
def k0_dev9 (d0 : Dev nD) : Nat :=
  let c0_i32_182 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_181 : BitVec 32 := 16#32
  let v224 : BitVec 32 := Scalar.muli v2 c16_i32_181
  let v225 : BitVec 32 := Scalar.addi c0_i32_182 v224
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_183 : BitVec 32 := 4#32
  let v226 : BitVec 32 := Scalar.muli v5 c4_i32_183
  let v227 : BitVec 32 := Scalar.addi v225 v226
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_184 : BitVec 32 := 1#32
  let v228 : BitVec 32 := Scalar.muli v30 c1_i32_184
  let v229 : BitVec 32 := Scalar.addi v227 v228
  v229.toNat
def k0_off6 (d0 : Dev nD) (c0_i32_191 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v238 : BitVec 32 := Scalar.subi v8 c0_i32_191
  let c4_i32_192 : BitVec 32 := 4#32
  let c0_i32_193 : BitVec 32 := 0#32
  let v239 : BitVec 1 := Scalar.cmpi .eq c4_i32_192 c0_i32_193
  let c1_i32_194 : BitVec 32 := 1#32
  let v240 : BitVec 32 := Scalar.select v239 c1_i32_194 c4_i32_192
  let v241 : BitVec 32 := Scalar.remsi v238 v240
  let c0_i32_196 : BitVec 32 := 0#32
  let v243 : BitVec 1 := Scalar.cmpi .slt v241 c0_i32_196
  let c0_i32_197 : BitVec 32 := 0#32
  let v244 : BitVec 1 := Scalar.cmpi .slt v240 c0_i32_197
  let v245 : BitVec 1 := Scalar.xori v243 v244
  let c0_i32_195 : BitVec 32 := 0#32
  let v242 : BitVec 1 := Scalar.cmpi .ne v241 c0_i32_195
  let v246 : BitVec 1 := Scalar.andi v245 v242
  let v247 : BitVec 32 := Scalar.addi v241 v240
  let v248 : BitVec 32 := Scalar.select v246 v247 v241
  let v262 : Index := Scalar.indexCast v248
  let c0_208 : Index := 0#32
  let c0_209 : Index := 0#32
  let c0_210 : Index := 0#32
  ![v262.toNat, 0, 0, 0]
def k0_off7 (d0 : Dev nD) (c0_i32_198 : BitVec 32) : Fin 4 → Nat :=
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let v249 : BitVec 32 := Scalar.addi v8 c0_i32_198
  let c4_i32_199 : BitVec 32 := 4#32
  let c0_i32_200 : BitVec 32 := 0#32
  let v250 : BitVec 1 := Scalar.cmpi .eq c4_i32_199 c0_i32_200
  let c1_i32_201 : BitVec 32 := 1#32
  let v251 : BitVec 32 := Scalar.select v250 c1_i32_201 c4_i32_199
  let v252 : BitVec 32 := Scalar.remsi v249 v251
  let c0_i32_203 : BitVec 32 := 0#32
  let v254 : BitVec 1 := Scalar.cmpi .slt v252 c0_i32_203
  let c0_i32_204 : BitVec 32 := 0#32
  let v255 : BitVec 1 := Scalar.cmpi .slt v251 c0_i32_204
  let v256 : BitVec 1 := Scalar.xori v254 v255
  let c0_i32_202 : BitVec 32 := 0#32
  let v253 : BitVec 1 := Scalar.cmpi .ne v252 c0_i32_202
  let v257 : BitVec 1 := Scalar.andi v256 v253
  let v258 : BitVec 32 := Scalar.addi v252 v251
  let v259 : BitVec 32 := Scalar.select v257 v258 v252
  let v292 : Index := Scalar.indexCast v259
  let c1_233 : Index := 1#32
  let c0_234 : Index := 0#32
  let c0_235 : Index := 0#32
  ![v292.toNat, 1, 0, 0]
def k0_dev10 (d0 : Dev nD) : Nat :=
  let c0_i32_374 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_373 : BitVec 32 := 16#32
  let v414 : BitVec 32 := Scalar.muli v2 c16_i32_373
  let v415 : BitVec 32 := Scalar.addi c0_i32_374 v414
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_375 : BitVec 32 := 4#32
  let v416 : BitVec 32 := Scalar.muli v5 c4_i32_375
  let v417 : BitVec 32 := Scalar.addi v415 v416
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_376 : BitVec 32 := 1#32
  let v418 : BitVec 32 := Scalar.muli v19 c1_i32_376
  let v419 : BitVec 32 := Scalar.addi v417 v418
  v419.toNat
def k0_dev11 (d0 : Dev nD) : Nat :=
  let c0_i32_388 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_387 : BitVec 32 := 16#32
  let v428 : BitVec 32 := Scalar.muli v2 c16_i32_387
  let v429 : BitVec 32 := Scalar.addi c0_i32_388 v428
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_389 : BitVec 32 := 4#32
  let v430 : BitVec 32 := Scalar.muli v5 c4_i32_389
  let v431 : BitVec 32 := Scalar.addi v429 v430
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_390 : BitVec 32 := 1#32
  let v432 : BitVec 32 := Scalar.muli v19 c1_i32_390
  let v433 : BitVec 32 := Scalar.addi v431 v432
  v433.toNat
def k0_dev12 (d0 : Dev nD) : Nat :=
  let c0_i32_402 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_401 : BitVec 32 := 16#32
  let v442 : BitVec 32 := Scalar.muli v2 c16_i32_401
  let v443 : BitVec 32 := Scalar.addi c0_i32_402 v442
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_403 : BitVec 32 := 4#32
  let v444 : BitVec 32 := Scalar.muli v5 c4_i32_403
  let v445 : BitVec 32 := Scalar.addi v443 v444
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_404 : BitVec 32 := 1#32
  let v446 : BitVec 32 := Scalar.muli v30 c1_i32_404
  let v447 : BitVec 32 := Scalar.addi v445 v446
  v447.toNat
def k0_dev13 (d0 : Dev nD) : Nat :=
  let c0_i32_416 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_415 : BitVec 32 := 16#32
  let v456 : BitVec 32 := Scalar.muli v2 c16_i32_415
  let v457 : BitVec 32 := Scalar.addi c0_i32_416 v456
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_417 : BitVec 32 := 4#32
  let v458 : BitVec 32 := Scalar.muli v5 c4_i32_417
  let v459 : BitVec 32 := Scalar.addi v457 v458
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_418 : BitVec 32 := 1#32
  let v460 : BitVec 32 := Scalar.muli v30 c1_i32_418
  let v461 : BitVec 32 := Scalar.addi v459 v460
  v461.toNat
def k0_dev14 (d0 : Dev nD) : Nat :=
  let c0_i32_608 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_607 : BitVec 32 := 16#32
  let v646 : BitVec 32 := Scalar.muli v2 c16_i32_607
  let v647 : BitVec 32 := Scalar.addi c0_i32_608 v646
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_609 : BitVec 32 := 4#32
  let v648 : BitVec 32 := Scalar.muli v5 c4_i32_609
  let v649 : BitVec 32 := Scalar.addi v647 v648
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_610 : BitVec 32 := 1#32
  let v650 : BitVec 32 := Scalar.muli v19 c1_i32_610
  let v651 : BitVec 32 := Scalar.addi v649 v650
  v651.toNat
def k0_dev15 (d0 : Dev nD) : Nat :=
  let c0_i32_622 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_621 : BitVec 32 := 16#32
  let v660 : BitVec 32 := Scalar.muli v2 c16_i32_621
  let v661 : BitVec 32 := Scalar.addi c0_i32_622 v660
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_623 : BitVec 32 := 4#32
  let v662 : BitVec 32 := Scalar.muli v5 c4_i32_623
  let v663 : BitVec 32 := Scalar.addi v661 v662
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v9 : BitVec 32 := Scalar.addi v8 c1_i32_2
  let c4_i32_3 : BitVec 32 := 4#32
  let c0_i32 : BitVec 32 := 0#32
  let v10 : BitVec 1 := Scalar.cmpi .eq c4_i32_3 c0_i32
  let c1_i32_4 : BitVec 32 := 1#32
  let v11 : BitVec 32 := Scalar.select v10 c1_i32_4 c4_i32_3
  let v12 : BitVec 32 := Scalar.remsi v9 v11
  let c0_i32_6 : BitVec 32 := 0#32
  let v14 : BitVec 1 := Scalar.cmpi .slt v12 c0_i32_6
  let c0_i32_7 : BitVec 32 := 0#32
  let v15 : BitVec 1 := Scalar.cmpi .slt v11 c0_i32_7
  let v16 : BitVec 1 := Scalar.xori v14 v15
  let c0_i32_5 : BitVec 32 := 0#32
  let v13 : BitVec 1 := Scalar.cmpi .ne v12 c0_i32_5
  let v17 : BitVec 1 := Scalar.andi v16 v13
  let v18 : BitVec 32 := Scalar.addi v12 v11
  let v19 : BitVec 32 := Scalar.select v17 v18 v12
  let c1_i32_624 : BitVec 32 := 1#32
  let v664 : BitVec 32 := Scalar.muli v19 c1_i32_624
  let v665 : BitVec 32 := Scalar.addi v663 v664
  v665.toNat
def k0_dev16 (d0 : Dev nD) : Nat :=
  let c0_i32_636 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_635 : BitVec 32 := 16#32
  let v674 : BitVec 32 := Scalar.muli v2 c16_i32_635
  let v675 : BitVec 32 := Scalar.addi c0_i32_636 v674
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_637 : BitVec 32 := 4#32
  let v676 : BitVec 32 := Scalar.muli v5 c4_i32_637
  let v677 : BitVec 32 := Scalar.addi v675 v676
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_638 : BitVec 32 := 1#32
  let v678 : BitVec 32 := Scalar.muli v30 c1_i32_638
  let v679 : BitVec 32 := Scalar.addi v677 v678
  v679.toNat
def k0_dev17 (d0 : Dev nD) : Nat :=
  let c0_i32_650 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_649 : BitVec 32 := 16#32
  let v688 : BitVec 32 := Scalar.muli v2 c16_i32_649
  let v689 : BitVec 32 := Scalar.addi c0_i32_650 v688
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_651 : BitVec 32 := 4#32
  let v690 : BitVec 32 := Scalar.muli v5 c4_i32_651
  let v691 : BitVec 32 := Scalar.addi v689 v690
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_8 : BitVec 32 := 1#32
  let v20 : BitVec 32 := Scalar.subi v8 c1_i32_8
  let c4_i32_9 : BitVec 32 := 4#32
  let c0_i32_10 : BitVec 32 := 0#32
  let v21 : BitVec 1 := Scalar.cmpi .eq c4_i32_9 c0_i32_10
  let c1_i32_11 : BitVec 32 := 1#32
  let v22 : BitVec 32 := Scalar.select v21 c1_i32_11 c4_i32_9
  let v23 : BitVec 32 := Scalar.remsi v20 v22
  let c0_i32_13 : BitVec 32 := 0#32
  let v25 : BitVec 1 := Scalar.cmpi .slt v23 c0_i32_13
  let c0_i32_14 : BitVec 32 := 0#32
  let v26 : BitVec 1 := Scalar.cmpi .slt v22 c0_i32_14
  let v27 : BitVec 1 := Scalar.xori v25 v26
  let c0_i32_12 : BitVec 32 := 0#32
  let v24 : BitVec 1 := Scalar.cmpi .ne v23 c0_i32_12
  let v28 : BitVec 1 := Scalar.andi v27 v24
  let v29 : BitVec 32 := Scalar.addi v23 v22
  let v30 : BitVec 32 := Scalar.select v28 v29 v23
  let c1_i32_652 : BitVec 32 := 1#32
  let v692 : BitVec 32 := Scalar.muli v30 c1_i32_652
  let v693 : BitVec 32 := Scalar.addi v691 v692
  v693.toNat
def k0_off8 (d0 : Dev nD) (c0_i32_893 : BitVec 32) : Fin 3 → Nat :=
  let c4_i32_30 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v54 : BitVec 32 := Scalar.muli c4_i32_30 v5
  let c2_i32_31 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v55 : BitVec 32 := Scalar.muli c2_i32_31 v2
  let v56 : BitVec 32 := Scalar.addi v54 v55
  let v944 : BitVec 32 := Scalar.addi v56 c0_i32_893
  let v945 : Index := Scalar.indexCast v944
  let c0_894 : Index := 0#32
  let c0_895 : Index := 0#32
  ![v945.toNat, 0, 0]
def k0_off9 (d0 : Dev nD) : Fin 3 → Nat :=
  let c4_i32_30 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v54 : BitVec 32 := Scalar.muli c4_i32_30 v5
  let c2_i32_31 : BitVec 32 := 2#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v55 : BitVec 32 := Scalar.muli c2_i32_31 v2
  let v56 : BitVec 32 := Scalar.addi v54 v55
  let c0_i32_909 : BitVec 32 := 0#32
  let c0_i32_910 : BitVec 32 := 0#32
  ![v56.toNat, 0, 0]
def k0_dev18 (d0 : Dev nD) : Nat :=
  let c0_i32_906 : BitVec 32 := 0#32
  let c1_i32_29 : BitVec 32 := 1#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let v53 : BitVec 32 := Scalar.subi c1_i32_29 v2
  let c16_i32_905 : BitVec 32 := 16#32
  let v960 : BitVec 32 := Scalar.muli v53 c16_i32_905
  let v961 : BitVec 32 := Scalar.addi c0_i32_906 v960
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_907 : BitVec 32 := 4#32
  let v962 : BitVec 32 := Scalar.muli v5 c4_i32_907
  let v963 : BitVec 32 := Scalar.addi v961 v962
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_908 : BitVec 32 := 1#32
  let v964 : BitVec 32 := Scalar.muli v8 c1_i32_908
  let v965 : BitVec 32 := Scalar.addi v963 v964
  v965.toNat
def k0_off10 (d0 : Dev nD) (c0_i32_926 : BitVec 32) : Fin 3 → Nat :=
  let c4_i32_942 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v978 : BitVec 32 := Scalar.subi v5 c0_i32_926
  let c4_i32_927 : BitVec 32 := 4#32
  let c0_i32_928 : BitVec 32 := 0#32
  let v979 : BitVec 1 := Scalar.cmpi .eq c4_i32_927 c0_i32_928
  let c1_i32_929 : BitVec 32 := 1#32
  let v980 : BitVec 32 := Scalar.select v979 c1_i32_929 c4_i32_927
  let v981 : BitVec 32 := Scalar.remsi v978 v980
  let c0_i32_931 : BitVec 32 := 0#32
  let v983 : BitVec 1 := Scalar.cmpi .slt v981 c0_i32_931
  let c0_i32_932 : BitVec 32 := 0#32
  let v984 : BitVec 1 := Scalar.cmpi .slt v980 c0_i32_932
  let v985 : BitVec 1 := Scalar.xori v983 v984
  let c0_i32_930 : BitVec 32 := 0#32
  let v982 : BitVec 1 := Scalar.cmpi .ne v981 c0_i32_930
  let v986 : BitVec 1 := Scalar.andi v985 v982
  let v987 : BitVec 32 := Scalar.addi v981 v980
  let v988 : BitVec 32 := Scalar.select v986 v987 v981
  let v1002 : BitVec 32 := Scalar.muli c4_i32_942 v988
  let c0_i32_943 : BitVec 32 := 0#32
  let v1003 : BitVec 32 := Scalar.addi v1002 c0_i32_943
  let c0_i32_952 : BitVec 32 := 0#32
  let c0_i32_953 : BitVec 32 := 0#32
  ![v1003.toNat, 0, 0]
def k0_dev19 (d0 : Dev nD) : Nat :=
  let c0_i32_949 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_948 : BitVec 32 := 16#32
  let v1004 : BitVec 32 := Scalar.muli v2 c16_i32_948
  let v1005 : BitVec 32 := Scalar.addi c0_i32_949 v1004
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_950 : BitVec 32 := 4#32
  let v1006 : BitVec 32 := Scalar.muli v41 c4_i32_950
  let v1007 : BitVec 32 := Scalar.addi v1005 v1006
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_951 : BitVec 32 := 1#32
  let v1008 : BitVec 32 := Scalar.muli v8 c1_i32_951
  let v1009 : BitVec 32 := Scalar.addi v1007 v1008
  v1009.toNat
def k0_off11 (d0 : Dev nD) (c0_i32_933 : BitVec 32) : Fin 3 → Nat :=
  let c4_i32_958 : BitVec 32 := 4#32
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let v989 : BitVec 32 := Scalar.addi v5 c0_i32_933
  let c4_i32_934 : BitVec 32 := 4#32
  let c0_i32_935 : BitVec 32 := 0#32
  let v990 : BitVec 1 := Scalar.cmpi .eq c4_i32_934 c0_i32_935
  let c1_i32_936 : BitVec 32 := 1#32
  let v991 : BitVec 32 := Scalar.select v990 c1_i32_936 c4_i32_934
  let v992 : BitVec 32 := Scalar.remsi v989 v991
  let c0_i32_938 : BitVec 32 := 0#32
  let v994 : BitVec 1 := Scalar.cmpi .slt v992 c0_i32_938
  let c0_i32_939 : BitVec 32 := 0#32
  let v995 : BitVec 1 := Scalar.cmpi .slt v991 c0_i32_939
  let v996 : BitVec 1 := Scalar.xori v994 v995
  let c0_i32_937 : BitVec 32 := 0#32
  let v993 : BitVec 1 := Scalar.cmpi .ne v992 c0_i32_937
  let v997 : BitVec 1 := Scalar.andi v996 v993
  let v998 : BitVec 32 := Scalar.addi v992 v991
  let v999 : BitVec 32 := Scalar.select v997 v998 v992
  let v1018 : BitVec 32 := Scalar.muli c4_i32_958 v999
  let c2_i32_959 : BitVec 32 := 2#32
  let v1019 : BitVec 32 := Scalar.addi v1018 c2_i32_959
  let c0_i32_968 : BitVec 32 := 0#32
  let c0_i32_969 : BitVec 32 := 0#32
  ![v1019.toNat, 0, 0]
def k0_dev20 (d0 : Dev nD) : Nat :=
  let c0_i32_965 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_964 : BitVec 32 := 16#32
  let v1020 : BitVec 32 := Scalar.muli v2 c16_i32_964
  let v1021 : BitVec 32 := Scalar.addi c0_i32_965 v1020
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v42 : BitVec 32 := Scalar.subi v5 c1_i32_22
  let c4_i32_23 : BitVec 32 := 4#32
  let c0_i32_24 : BitVec 32 := 0#32
  let v43 : BitVec 1 := Scalar.cmpi .eq c4_i32_23 c0_i32_24
  let c1_i32_25 : BitVec 32 := 1#32
  let v44 : BitVec 32 := Scalar.select v43 c1_i32_25 c4_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c4_i32_966 : BitVec 32 := 4#32
  let v1022 : BitVec 32 := Scalar.muli v52 c4_i32_966
  let v1023 : BitVec 32 := Scalar.addi v1021 v1022
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_967 : BitVec 32 := 1#32
  let v1024 : BitVec 32 := Scalar.muli v8 c1_i32_967
  let v1025 : BitVec 32 := Scalar.addi v1023 v1024
  v1025.toNat
def k0_dev21 (d0 : Dev nD) : Nat :=
  let c0_i32_1037 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1036 : BitVec 32 := 16#32
  let v1086 : BitVec 32 := Scalar.muli v2 c16_i32_1036
  let v1087 : BitVec 32 := Scalar.addi c0_i32_1037 v1086
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1038 : BitVec 32 := 4#32
  let v1088 : BitVec 32 := Scalar.muli v41 c4_i32_1038
  let v1089 : BitVec 32 := Scalar.addi v1087 v1088
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1039 : BitVec 32 := 1#32
  let v1090 : BitVec 32 := Scalar.muli v8 c1_i32_1039
  let v1091 : BitVec 32 := Scalar.addi v1089 v1090
  v1091.toNat
def k0_dev22 (d0 : Dev nD) : Nat :=
  let c0_i32_1053 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1052 : BitVec 32 := 16#32
  let v1102 : BitVec 32 := Scalar.muli v2 c16_i32_1052
  let v1103 : BitVec 32 := Scalar.addi c0_i32_1053 v1102
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v42 : BitVec 32 := Scalar.subi v5 c1_i32_22
  let c4_i32_23 : BitVec 32 := 4#32
  let c0_i32_24 : BitVec 32 := 0#32
  let v43 : BitVec 1 := Scalar.cmpi .eq c4_i32_23 c0_i32_24
  let c1_i32_25 : BitVec 32 := 1#32
  let v44 : BitVec 32 := Scalar.select v43 c1_i32_25 c4_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c4_i32_1054 : BitVec 32 := 4#32
  let v1104 : BitVec 32 := Scalar.muli v52 c4_i32_1054
  let v1105 : BitVec 32 := Scalar.addi v1103 v1104
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1055 : BitVec 32 := 1#32
  let v1106 : BitVec 32 := Scalar.muli v8 c1_i32_1055
  let v1107 : BitVec 32 := Scalar.addi v1105 v1106
  v1107.toNat
def k0_dev23 (d0 : Dev nD) : Nat :=
  let c0_i32_1125 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1124 : BitVec 32 := 16#32
  let v1168 : BitVec 32 := Scalar.muli v2 c16_i32_1124
  let v1169 : BitVec 32 := Scalar.addi c0_i32_1125 v1168
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_15 : BitVec 32 := 1#32
  let v31 : BitVec 32 := Scalar.addi v5 c1_i32_15
  let c4_i32_16 : BitVec 32 := 4#32
  let c0_i32_17 : BitVec 32 := 0#32
  let v32 : BitVec 1 := Scalar.cmpi .eq c4_i32_16 c0_i32_17
  let c1_i32_18 : BitVec 32 := 1#32
  let v33 : BitVec 32 := Scalar.select v32 c1_i32_18 c4_i32_16
  let v34 : BitVec 32 := Scalar.remsi v31 v33
  let c0_i32_20 : BitVec 32 := 0#32
  let v36 : BitVec 1 := Scalar.cmpi .slt v34 c0_i32_20
  let c0_i32_21 : BitVec 32 := 0#32
  let v37 : BitVec 1 := Scalar.cmpi .slt v33 c0_i32_21
  let v38 : BitVec 1 := Scalar.xori v36 v37
  let c0_i32_19 : BitVec 32 := 0#32
  let v35 : BitVec 1 := Scalar.cmpi .ne v34 c0_i32_19
  let v39 : BitVec 1 := Scalar.andi v38 v35
  let v40 : BitVec 32 := Scalar.addi v34 v33
  let v41 : BitVec 32 := Scalar.select v39 v40 v34
  let c4_i32_1126 : BitVec 32 := 4#32
  let v1170 : BitVec 32 := Scalar.muli v41 c4_i32_1126
  let v1171 : BitVec 32 := Scalar.addi v1169 v1170
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1127 : BitVec 32 := 1#32
  let v1172 : BitVec 32 := Scalar.muli v8 c1_i32_1127
  let v1173 : BitVec 32 := Scalar.addi v1171 v1172
  v1173.toNat
def k0_dev24 (d0 : Dev nD) : Nat :=
  let c0_i32_1141 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_1140 : BitVec 32 := 16#32
  let v1184 : BitVec 32 := Scalar.muli v2 c16_i32_1140
  let v1185 : BitVec 32 := Scalar.addi c0_i32_1141 v1184
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c1_i32_22 : BitVec 32 := 1#32
  let v42 : BitVec 32 := Scalar.subi v5 c1_i32_22
  let c4_i32_23 : BitVec 32 := 4#32
  let c0_i32_24 : BitVec 32 := 0#32
  let v43 : BitVec 1 := Scalar.cmpi .eq c4_i32_23 c0_i32_24
  let c1_i32_25 : BitVec 32 := 1#32
  let v44 : BitVec 32 := Scalar.select v43 c1_i32_25 c4_i32_23
  let v45 : BitVec 32 := Scalar.remsi v42 v44
  let c0_i32_27 : BitVec 32 := 0#32
  let v47 : BitVec 1 := Scalar.cmpi .slt v45 c0_i32_27
  let c0_i32_28 : BitVec 32 := 0#32
  let v48 : BitVec 1 := Scalar.cmpi .slt v44 c0_i32_28
  let v49 : BitVec 1 := Scalar.xori v47 v48
  let c0_i32_26 : BitVec 32 := 0#32
  let v46 : BitVec 1 := Scalar.cmpi .ne v45 c0_i32_26
  let v50 : BitVec 1 := Scalar.andi v49 v46
  let v51 : BitVec 32 := Scalar.addi v45 v44
  let v52 : BitVec 32 := Scalar.select v50 v51 v45
  let c4_i32_1142 : BitVec 32 := 4#32
  let v1186 : BitVec 32 := Scalar.muli v52 c4_i32_1142
  let v1187 : BitVec 32 := Scalar.addi v1185 v1186
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_1143 : BitVec 32 := 1#32
  let v1188 : BitVec 32 := Scalar.muli v8 c1_i32_1143
  let v1189 : BitVec 32 := Scalar.addi v1187 v1188
  v1189.toNat
abbrev stage0_0 : Fin 1 → Memref sig .tc .vmem S1024x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S1x4096x16x128 : Shape := ⟨4, ![1, 4096, 16, 128]⟩
abbrev S1x16x4096x4096 : Shape := ⟨4, ![1, 16, 4096, 4096]⟩
abbrev S_ : Shape := ⟨0, ![]⟩
abbrev S1x16x4096 : Shape := ⟨3, ![1, 16, 4096]⟩
abbrev S1x16x4096x1 : Shape := ⟨4, ![1, 16, 4096, 1]⟩
abbrev S1x16x128x4096 : Shape := ⟨4, ![1, 16, 128, 4096]⟩
abbrev S4096x16x128 : Shape := ⟨3, ![4096, 16, 128]⟩

abbrev nBuf : Space → Nat
  | .hbm => 21
  | .vmem => 0
  | .smem => 0
  | _ => 0

abbrev bufTy : (tb : Table) → Fin (tcTables nBuf tb) → BufTy
  | .hbm, ⟨0, _⟩ => ⟨S1x4096x16x128, .f32⟩
  | .hbm, ⟨1, _⟩ => ⟨S1x4096x16x128, .f32⟩
  | .hbm, ⟨2, _⟩ => ⟨S1x4096x16x128, .f32⟩
  | .hbm, ⟨3, _⟩ => ⟨S1x16x4096x4096, .f32⟩
  | .hbm, ⟨4, _⟩ => ⟨S_, .f32⟩
  | .hbm, ⟨5, _⟩ => ⟨S1x16x4096x4096, .f32⟩
  | .hbm, ⟨6, _⟩ => ⟨S1x16x4096x4096, .f32⟩
  | .hbm, ⟨7, _⟩ => ⟨S_, .f32⟩
  | .hbm, ⟨8, _⟩ => ⟨S1x16x4096, .f32⟩
  | .hbm, ⟨9, _⟩ => ⟨S1x16x4096x1, .f32⟩
  | .hbm, ⟨10, _⟩ => ⟨S1x16x4096x4096, .f32⟩
  | .hbm, ⟨11, _⟩ => ⟨S1x16x4096x4096, .f32⟩
  | .hbm, ⟨12, _⟩ => ⟨S1x16x4096x4096, .f32⟩
  | .hbm, ⟨13, _⟩ => ⟨S_, .f32⟩
  | .hbm, ⟨14, _⟩ => ⟨S1x16x4096, .f32⟩
  | .hbm, ⟨15, _⟩ => ⟨S1x16x4096x1, .f32⟩
  | .hbm, ⟨16, _⟩ => ⟨S1x16x4096x4096, .f32⟩
  | .hbm, ⟨17, _⟩ => ⟨S1x16x4096x4096, .f32⟩
  | .hbm, ⟨18, _⟩ => ⟨S1x16x128x4096, .f32⟩
  | .hbm, ⟨19, _⟩ => ⟨S1x4096x16x128, .f32⟩
  | .hbm, ⟨20, _⟩ => ⟨S4096x16x128, .f32⟩
  | _, _ => ⟨S1x4096x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩

abbrev nD : Nat := 1
abbrev τ : Topo := Topo.v7x

variable {F : FTy → Type} [FloatOps F]
-- ==== Proof.KernelIdealMesh.lean ====
/-
# The mesh: neighbours, the blocks each device holds, and the kernel's index chains in closed form

The 2 × 4 × 4 mesh numbers its devices `16 x + 4 y + z`. Along `z` the sequence is cut in four blocks; along
`x` and `y` the heads are cut in eight pairs.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Pipeline.ValueKit.Geometry
public import Idealize.ShloMosaic.Lib.Tactic

@[expose] public section

noncomputable section

namespace Cert.KernelIdealProof

open Cert.KernelIdeal Cert.KernelIdeal.Gen
open Idealize.ShloMosaic Idealize.ShloMosaic.TcCoe

/-! ## Neighbours -/

section Devices
set_option backward.proofsInPublic true

/-- The next and the previous device along `z`. -/
def zr (c : Dev nD) : Dev nD := ⟨c.val / 4 * 4 + (c.val % 4 + 1) % 4, by have : c.val < 32 := c.isLt; show _ < 32; omega⟩
def zl (c : Dev nD) : Dev nD := ⟨c.val / 4 * 4 + (c.val % 4 + 3) % 4, by have : c.val < 32 := c.isLt; show _ < 32; omega⟩
/-- The other device along `x`. -/
def xp (c : Dev nD) : Dev nD := ⟨(c.val + 16) % 32, by show _ < 32; omega⟩
/-- The next and the previous device along `y`. -/
def yu (c : Dev nD) : Dev nD := ⟨c.val / 16 * 16 + (c.val % 16 + 4) % 16, by have : c.val < 32 := c.isLt; show _ < 32; omega⟩
def yd (c : Dev nD) : Dev nD := ⟨c.val / 16 * 16 + (c.val % 16 + 12) % 16, by have : c.val < 32 := c.isLt; show _ < 32; omega⟩

/-- The device at `c`'s `x` and `y` whose `z` is `o`: the one whose sequence block is block `o`. -/
def dz (c : Dev nD) (o : ℕ) : Dev nD := ⟨c.val / 4 * 4 + o % 4, by have : c.val < 32 := c.isLt; show _ < 32; omega⟩
/-- The device at `c`'s `z` which computes head `r`. -/
def dh (c : Dev nD) (r : ℕ) : Dev nD := ⟨16 * ((r / 2) % 2) + 4 * ((r / 4) % 4) + c.val % 4, by show _ < 32; omega⟩

end Devices

theorem zl_zr (c : Dev nD) : zl (zr c) = c := by revert c; decide
theorem zr_zl (c : Dev nD) : zr (zl c) = c := by revert c; decide
theorem xp_xp (c : Dev nD) : xp (xp c) = c := by revert c; decide
theorem yd_yu (c : Dev nD) : yd (yu c) = c := by revert c; decide
theorem yu_yd (c : Dev nD) : yu (yd c) = c := by revert c; decide

theorem dz_zr (c : Dev nD) (o : ℕ) : dz (zr c) o = dz c o := by
  apply Fin.ext; show (c.val / 4 * 4 + (c.val % 4 + 1) % 4) / 4 * 4 + o % 4 = c.val / 4 * 4 + o % 4; omega
theorem dz_zl (c : Dev nD) (o : ℕ) : dz (zl c) o = dz c o := by
  apply Fin.ext; show (c.val / 4 * 4 + (c.val % 4 + 3) % 4) / 4 * 4 + o % 4 = c.val / 4 * 4 + o % 4; omega
theorem dh_xp (c : Dev nD) (r : ℕ) : dh (xp c) r = dh c r := by
  apply Fin.ext; show _ + (c.val + 16) % 32 % 4 = _ + c.val % 4; omega
theorem dh_yu (c : Dev nD) (r : ℕ) : dh (yu c) r = dh c r := by
  apply Fin.ext; show _ + (c.val / 16 * 16 + (c.val % 16 + 4) % 16) % 4 = _ + c.val % 4; omega
theorem dh_yd (c : Dev nD) (r : ℕ) : dh (yd c) r = dh c r := by
  apply Fin.ext; show _ + (c.val / 16 * 16 + (c.val % 16 + 12) % 16) % 4 = _ + c.val % 4; omega

/-! ## Which block is where -/

/-- The sequence block the stream towards the next `z` carries at its hop `h`, and the one the stream towards the previous `z` carries. -/
def zb (c : Dev nD) (h : ℕ) : ℕ := (c.val % 4 + 4 - h) % 4
def zf (c : Dev nD) (h : ℕ) : ℕ := (c.val % 4 + h) % 4
/-- The head pair the stream towards the next `y` carries at its hop `h`, and the one the stream towards the previous `y` carries. -/
def yb (c : Dev nD) (h : ℕ) : ℕ := 2 * (((c.val / 4) % 4 + 4 - h) % 4)
def yf (c : Dev nD) (h : ℕ) : ℕ := 2 * (((c.val / 4) % 4 + h) % 4) + 1
/-- The pair of heads `c` computes, and the one its `x` partner computes. -/
def pr (c : Dev nD) : ℕ := 2 * ((c.val / 4) % 4) + c.val / 16
def prx (c : Dev nD) : ℕ := 2 * ((c.val / 4) % 4) + (1 - c.val / 16)

theorem zb_zr (c : Dev nD) (h : ℕ) (hh : h < 3) : zb (zr c) (h + 1) = zb c h := by
  show ((c.val / 4 * 4 + (c.val % 4 + 1) % 4) % 4 + 4 - (h + 1)) % 4 = (c.val % 4 + 4 - h) % 4; omega
theorem zf_zl (c : Dev nD) (h : ℕ) : zf (zl c) (h + 1) = zf c h := by
  show ((c.val / 4 * 4 + (c.val % 4 + 3) % 4) % 4 + (h + 1)) % 4 = (c.val % 4 + h) % 4; omega
theorem yb_yu (c : Dev nD) (h : ℕ) (hh : h < 3) : yb (yu c) (h + 1) = yb c h := by
  have : c.val < 32 := c.isLt
  show 2 * (((c.val / 16 * 16 + (c.val % 16 + 4) % 16) / 4 % 4 + 4 - (h + 1)) % 4) = 2 * ((c.val / 4 % 4 + 4 - h) % 4); omega
theorem yf_yd (c : Dev nD) (h : ℕ) : yf (yd c) (h + 1) = yf c h := by
  have : c.val < 32 := c.isLt
  show 2 * (((c.val / 16 * 16 + (c.val % 16 + 12) % 16) / 4 % 4 + (h + 1)) % 4) + 1 = 2 * ((c.val / 4 % 4 + h) % 4) + 1; omega
theorem pr_xp (c : Dev nD) : pr (xp c) = prx c := by revert c; decide
theorem prx_xp (c : Dev nD) : prx (xp c) = pr c := by revert c; decide

/-! ## The kernel's destinations and offsets -/

theorem dev1_eq (c : Dev nD) : (⟨k0_dev1 c, k0_dev1_lt c⟩ : Dev nD) = zl c := by revert c; decide +kernel
theorem dev2_eq (c : Dev nD) : (⟨k0_dev2 c, k0_dev2_lt c⟩ : Dev nD) = zr c := by revert c; decide +kernel
theorem dev3_eq (c : Dev nD) : (⟨k0_dev3 c, k0_dev3_lt c⟩ : Dev nD) = xp c := by revert c; decide +kernel
theorem dev4_eq (c : Dev nD) : (⟨k0_dev4 c, k0_dev4_lt c⟩ : Dev nD) = yd c := by revert c; decide +kernel
theorem dev5_eq (c : Dev nD) : (⟨k0_dev5 c, k0_dev5_lt c⟩ : Dev nD) = yu c := by revert c; decide +kernel
theorem dev6_eq (c : Dev nD) : (⟨k0_dev6 c, k0_dev6_lt c⟩ : Dev nD) = zr c := by revert c; decide +kernel
theorem dev7_eq (c : Dev nD) : (⟨k0_dev7 c, k0_dev7_lt c⟩ : Dev nD) = zr c := by revert c; decide +kernel
theorem dev8_eq (c : Dev nD) : (⟨k0_dev8 c, k0_dev8_lt c⟩ : Dev nD) = zl c := by revert c; decide +kernel
theorem dev9_eq (c : Dev nD) : (⟨k0_dev9 c, k0_dev9_lt c⟩ : Dev nD) = zl c := by revert c; decide +kernel
theorem dev10_eq (c : Dev nD) : (⟨k0_dev10 c, k0_dev10_lt c⟩ : Dev nD) = zr c := by revert c; decide +kernel
theorem dev11_eq (c : Dev nD) : (⟨k0_dev11 c, k0_dev11_lt c⟩ : Dev nD) = zr c := by revert c; decide +kernel
theorem dev12_eq (c : Dev nD) : (⟨k0_dev12 c, k0_dev12_lt c⟩ : Dev nD) = zl c := by revert c; decide +kernel
theorem dev13_eq (c : Dev nD) : (⟨k0_dev13 c, k0_dev13_lt c⟩ : Dev nD) = zl c := by revert c; decide +kernel
theorem dev14_eq (c : Dev nD) : (⟨k0_dev14 c, k0_dev14_lt c⟩ : Dev nD) = zr c := by revert c; decide +kernel
theorem dev15_eq (c : Dev nD) : (⟨k0_dev15 c, k0_dev15_lt c⟩ : Dev nD) = zr c := by revert c; decide +kernel
theorem dev16_eq (c : Dev nD) : (⟨k0_dev16 c, k0_dev16_lt c⟩ : Dev nD) = zl c := by revert c; decide +kernel
theorem dev17_eq (c : Dev nD) : (⟨k0_dev17 c, k0_dev17_lt c⟩ : Dev nD) = zl c := by revert c; decide +kernel
theorem dev18_eq (c : Dev nD) : (⟨k0_dev18 c, k0_dev18_lt c⟩ : Dev nD) = xp c := by revert c; decide +kernel
theorem dev19_eq (c : Dev nD) : (⟨k0_dev19 c, k0_dev19_lt c⟩ : Dev nD) = yu c := by revert c; decide +kernel
theorem dev20_eq (c : Dev nD) : (⟨k0_dev20 c, k0_dev20_lt c⟩ : Dev nD) = yd c := by revert c; decide +kernel
theorem dev21_eq (c : Dev nD) : (⟨k0_dev21 c, k0_dev21_lt c⟩ : Dev nD) = yu c := by revert c; decide +kernel
theorem dev22_eq (c : Dev nD) : (⟨k0_dev22 c, k0_dev22_lt c⟩ : Dev nD) = yd c := by revert c; decide +kernel
theorem dev23_eq (c : Dev nD) : (⟨k0_dev23 c, k0_dev23_lt c⟩ : Dev nD) = yu c := by revert c; decide +kernel
theorem dev24_eq (c : Dev nD) : (⟨k0_dev24 c, k0_dev24_lt c⟩ : Dev nD) = yd c := by revert c; decide +kernel

theorem off2_eq (c : Dev nD) : k0_off2 c = ![zb c 0, 0, 0, 0] := by revert c; decide +kernel
theorem off3_eq (c : Dev nD) : k0_off3 c = ![zf c 0, 1, 0, 0] := by revert c; decide +kernel
theorem off4_eq (c : Dev nD) (r : Fin 3) : k0_off4 c (BitVec.ofNat 32 r.val) = ![zb c r.val, 0, 0, 0] := by revert c r; decide +kernel
theorem off5_eq (c : Dev nD) (r : Fin 3) : k0_off5 c (BitVec.ofNat 32 r.val) = ![zf c r.val, 1, 0, 0] := by revert c r; decide +kernel
theorem off6_eq (c : Dev nD) (r : Fin 4) : k0_off6 c (BitVec.ofNat 32 r.val) = ![zb c r.val, 0, 0, 0] := by revert c r; decide +kernel
theorem off7_eq (c : Dev nD) (r : Fin 4) : k0_off7 c (BitVec.ofNat 32 r.val) = ![zf c r.val, 1, 0, 0] := by revert c r; decide +kernel
theorem off8_eq (c : Dev nD) (r : Fin 2) : k0_off8 c (BitVec.ofNat 32 r.val) = ![2 * pr c + r.val, 0, 0] := by revert c r; decide +kernel
theorem off9_eq (c : Dev nD) : k0_off9 c = ![2 * pr c, 0, 0] := by revert c; decide +kernel
theorem off10_eq (c : Dev nD) (r : Fin 3) : k0_off10 c (BitVec.ofNat 32 r.val) = ![2 * yb c r.val, 0, 0] := by revert c r; decide +kernel
theorem off11_eq (c : Dev nD) (r : Fin 3) : k0_off11 c (BitVec.ofNat 32 r.val) = ![2 * yf c r.val, 0, 0] := by revert c r; decide +kernel

end Cert.KernelIdealProof

end
-- ==== Proof.KernelIdealContents.lean ====
/-
# What each buffer holds

Every buffer's contents as a function of the launch memory: the gathered keys and values, the accumulators after
each block, the gathered heads, the output; and how the kernel's loads and stores act on them.
-/
module

public import proofs.«01_k».proof.Proof.KernelIdealMesh
public import Idealize.ShloMosaic.Lib.Pointwise.Index

@[expose] public section

noncomputable section

namespace Cert.KernelIdealProof

open Cert.KernelIdeal Cert.KernelIdeal.Gen
open Idealize.ShloMosaic Idealize.ShloMosaic.TcCoe

variable {F : FTy → Type} [FloatOps F]

variable (m : (ℓ : Loc nD τ sig) → Buf (Elt F) ℓ)

/-! ## The local copies: each device's own two heads of its block of the queries, keys and values -/

/-- The part of the queries a device copies in: its two heads, all rows of its block. -/
abbrev mQ (c : Dev nD) : Memref sig .tc .hbm S1024x2x128 .f32 :=
  ((Memref.whole main_arg0).slice (Rect.unit (s := S1x1024x16x128) (k0_off1 c) S1x1024x2x128.size (k0_off1_inb c)) (fun _ => rfl)).squeeze S1024x2x128 squeezes_S1x1024x2x128_S1024x2x128
def tQ (c : Dev nD) : Vec F S1024x2x128 .f32 := (mQ c).view.read (Elt F) (m ((c : Thread nD τ).loc main_arg0))

/-- The part of the keys a device copies in: its two heads, all rows of its block. -/
abbrev mK (c : Dev nD) : Memref sig .tc .hbm S1024x2x128 .f32 :=
  ((Memref.whole main_arg1).slice (Rect.unit (s := S1x1024x16x128) (k0_off1 c) S1x1024x2x128.size (k0_off1_inb c)) (fun _ => rfl)).squeeze S1024x2x128 squeezes_S1x1024x2x128_S1024x2x128
def tK (c : Dev nD) : Vec F S1024x2x128 .f32 := (mK c).view.read (Elt F) (m ((c : Thread nD τ).loc main_arg1))

/-- The part of the values a device copies in: its two heads, all rows of its block. -/
abbrev mV (c : Dev nD) : Memref sig .tc .hbm S1024x2x128 .f32 :=
  ((Memref.whole main_arg2).slice (Rect.unit (s := S1x1024x16x128) (k0_off1 c) S1x1024x2x128.size (k0_off1_inb c)) (fun _ => rfl)).squeeze S1024x2x128 squeezes_S1x1024x2x128_S1024x2x128
def tV (c : Dev nD) : Vec F S1024x2x128 .f32 := (mV c).view.read (Elt F) (m ((c : Thread nD τ).loc main_arg2))

/-- Head `i` of a local copy. -/
def col (x : Vec F S1024x2x128 .f32) (i : ℕ) : Vec F S1024x1x128 .f32 :=
  fun j => x (ix3 (j 0) (⟨i % 2, Nat.mod_lt _ (by decide)⟩ : Fin 2) (j 2))

/-! ## The gathered keys and values -/

/-- Head `i` of a device's queries, and of its block of the keys and of the values, rounded to half width. -/
def qrow (c : Dev nD) (i : ℕ) : Vec F S1x1024x128 .bf16 := k0_pay2 (col (tQ m c) i)
def kblk (d : Dev nD) (i : ℕ) : Vec F S1x1x1024x128 .bf16 := k0_pay3 (col (tK m d) i)
def vblk (d : Dev nD) (i : ℕ) : Vec F S1x1x1024x128 .bf16 := k0_pay4 (col (tV m d) i)

/-- The gathered keys and values of a device's two heads: block `o` is the block of the device whose `z` is `o`. -/
def KF (c : Dev nD) : Vec F S4x2x1024x128 .bf16 := fun j => kblk m (dz c (j 0).val) (j 1).val (ix4 (0 : Fin 1) (0 : Fin 1) (j 2) (j 3))
def VF (c : Dev nD) : Vec F S4x2x1024x128 .bf16 := fun j => vblk m (dz c (j 0).val) (j 1).val (ix4 (0 : Fin 1) (0 : Fin 1) (j 2) (j 3))

theorem KF_zr (c : Dev nD) : KF m (zr c) = KF m c := funext fun j => by simp only [KF, dz_zr]
theorem KF_zl (c : Dev nD) : KF m (zl c) = KF m c := funext fun j => by simp only [KF, dz_zl]
theorem VF_zr (c : Dev nD) : VF m (zr c) = VF m c := funext fun j => by simp only [VF, dz_zr]
theorem VF_zl (c : Dev nD) : VF m (zl c) = VF m c := funext fun j => by simp only [VF, dz_zl]

/-- The block of the sequence head `i` is attended to at step `t`. -/
def zi (c : Dev nD) (i t : ℕ) : ℕ := if i = 0 then zb c t else zf c t

/-! ## The accumulators -/

/-- The running sum of weights of head `i` after `t` blocks, and the running sum of weighted values. -/
def Lc (c : Dev nD) (i : ℕ) : ℕ → Vec F S1x1024x128 .f32
  | 0 => fun _ => Scalar.ofBits .f32 0x00000000#32
  | t + 1 => k0_pay12 (qrow m c i) (kblk m (dz c (zi c i t)) i) (Lc c i t)
def Ac (c : Dev nD) (i : ℕ) : ℕ → Vec F S1x1024x128 .f32
  | 0 => fun _ => Scalar.ofBits .f32 0x00000000#32
  | t + 1 => k0_pay13 (k0_pay11 (qrow m c i) (kblk m (dz c (zi c i t)) i)) (Ac c i t) (vblk m (dz c (zi c i t)) i)

/-! ## The gathered heads and the output -/

/-- Head `i` of a device's result. -/
def orow (c : Dev nD) (i : ℕ) : Vec F S1x1024x128 .bf16 := k0_pay42 (Ac m c i 4) (Lc m c i 4)
/-- All sixteen heads: head `r` is the one the device `dh c r` computes. -/
def OG (c : Dev nD) : Vec F S16x1024x128 .bf16 := fun j => orow m (dh c (j 0).val) ((j 0).val % 2) (ix3 (0 : Fin 1) (j 1) (j 2))
theorem OG_xp (c : Dev nD) : OG m (xp c) = OG m c := funext fun j => by simp only [OG, dh_xp]
theorem OG_yu (c : Dev nD) : OG m (yu c) = OG m c := funext fun j => by simp only [OG, dh_yu]
theorem OG_yd (c : Dev nD) : OG m (yd c) = OG m c := funext fun j => by simp only [OG, dh_yd]

/-- The device's block of the result. -/
def OUT (c : Dev nD) : Vec F S1024x16x128 .f32 :=
  fun j => k0_pay43 (orow m (dh c (j 1).val) ((j 1).val % 2)) (ix3 (j 0) (0 : Fin 1) (j 2))

/-! ## Element sets -/

/-- Block `o` of head `i` of the gathered keys or values. -/
def kset (o i : ℕ) : Finset S4x2x1024x128.Idx := Finset.univ.filter fun j => (j 0).val = o ∧ (j 1).val = i
/-- Pair `p` of the gathered heads. -/
def gset (p : ℕ) : Finset S16x1024x128.Idx := Finset.univ.filter fun j => (j 0).val / 2 = p

theorem mem_kset {o i : ℕ} {j : S4x2x1024x128.Idx} : j ∈ kset o i ↔ (j 0).val = o ∧ (j 1).val = i := by
  simp only [kset, Finset.mem_filter, Finset.mem_univ, true_and]
theorem mem_gset {p : ℕ} {j : S16x1024x128.Idx} : j ∈ gset p ↔ (j 0).val / 2 = p := by
  simp only [gset, Finset.mem_filter, Finset.mem_univ, true_and]

theorem kset_disj {o i o' i' : ℕ} (h : o ≠ o' ∨ i ≠ i') : Disjoint (kset o i) (kset o' i') :=
  Finset.disjoint_left.2 fun j h1 h2 => by
    rw [mem_kset] at h1 h2
    rcases h with h | h
    · exact h (h1.1.symm.trans h2.1)
    · exact h (h1.2.symm.trans h2.2)
theorem gset_disj {p p' : ℕ} (h : p ≠ p') : Disjoint (gset p) (gset p') :=
  Finset.disjoint_left.2 fun j h1 h2 => by
    rw [mem_gset] at h1 h2
    exact h (h1.symm.trans h2)

theorem kset_rect {off : Fin 4 → ℕ} {o i : ℕ} (h : off = ![o, i, 0, 0]) (inb : ∀ a, off a + S1x1x1024x128.size a ≤ S4x2x1024x128.size a) :
    (Rect.unit (s := S4x2x1024x128) off S1x1x1024x128.size inb).set = kset o i := by
  subst h
  ext j
  rw [LoadRect.mem_set, mem_kset]
  constructor
  · intro hj
    obtain ⟨x, hx, e0⟩ := hj 0
    obtain ⟨y, hy, e1⟩ := hj 1
    have hx : x < 1 := hx
    have hy : y < 1 := hy
    have e0 : (j 0).val = o + 1 * x := e0
    have e1 : (j 1).val = i + 1 * y := e1
    constructor <;> omega
  · rintro ⟨e0, e1⟩ a
    match a with
    | ⟨0, _⟩ => exact ⟨0, by show 0 < 1; decide, by show (j 0).val = o + 1 * 0; omega⟩
    | ⟨1, _⟩ => exact ⟨0, by show 0 < 1; decide, by show (j 1).val = i + 1 * 0; omega⟩
    | ⟨2, _⟩ => exact ⟨(j 2).val, (j 2).isLt, by show (j 2).val = 0 + 1 * (j 2).val; omega⟩
    | ⟨3, _⟩ => exact ⟨(j 3).val, (j 3).isLt, by show (j 3).val = 0 + 1 * (j 3).val; omega⟩

theorem gset_rect {off : Fin 3 → ℕ} {p : ℕ} (h : off = ![2 * p, 0, 0]) (inb : ∀ a, off a + S2x1024x128.size a ≤ S16x1024x128.size a) :
    (Rect.unit (s := S16x1024x128) off S2x1024x128.size inb).set = gset p := by
  subst h
  ext j
  rw [LoadRect.mem_set, mem_gset]
  constructor
  · intro hj
    obtain ⟨x, hx, e0⟩ := hj 0
    have hx : x < 2 := hx
    have e0 : (j 0).val = 2 * p + 1 * x := e0
    omega
  · rintro e0 a
    match a with
    | ⟨0, _⟩ => exact ⟨(j 0).val - 2 * p, by show (j 0).val - 2 * p < 2; omega, by show (j 0).val = 2 * p + 1 * ((j 0).val - 2 * p); omega⟩
    | ⟨1, _⟩ => exact ⟨(j 1).val, (j 1).isLt, by show (j 1).val = 0 + 1 * (j 1).val; omega⟩
    | ⟨2, _⟩ => exact ⟨(j 2).val, (j 2).isLt, by show (j 2).val = 0 + 1 * (j 2).val; omega⟩

/-- Row `r` of the gathered heads lies in its pair. -/
theorem row_gset {off : Fin 3 → ℕ} {r p : ℕ} (h : off = ![r, 0, 0]) (hr : r / 2 = p) (inb : ∀ a, off a + S1x1024x128.size a ≤ S16x1024x128.size a) :
    (Rect.unit (s := S16x1024x128) off S1x1024x128.size inb).set ⊆ gset p := by
  subst h
  intro j hj
  rw [LoadRect.mem_set] at hj
  rw [mem_gset]
  obtain ⟨x, hx, e0⟩ := hj 0
  have hx : x < 1 := hx
  have e0 : (j 0).val = r + 1 * x := e0
  omega

/-! ## Loads and stores of one block -/

/-- A write to a rectangle of a whole buffer, at an index of the rectangle. -/
theorem write_emb_unit (b : Ref sig .tc) {off size : Fin b.ty.shape.rank → ℕ} (inb) (f : b.ty.Contents (Elt F)) (w) (x) :
    ((Memref.whole b).access (Rect.unit off size inb) : View sig .tc _ _ _).write (Elt F) f w Finset.univ ((Rect.unit off size inb).emb x) = w x :=
  View.write_emb_of_mem (v := (View.whole b).slice (Rect.unit off size inb)) (Val := Elt F) f w (Finset.mem_univ x)
/-- Off the rectangle the buffer keeps what it held. -/
theorem write_off_unit (b : Ref sig .tc) {off size : Fin b.ty.shape.rank → ℕ} (inb) (f : b.ty.Contents (Elt F)) (w) (i) (h : i ∉ (Rect.unit off size inb).set) :
    ((Memref.whole b).access (Rect.unit off size inb) : View sig .tc _ _ _).write (Elt F) f w Finset.univ i = f i :=
  View.write_of_not_mem (v := (View.whole b).slice (Rect.unit off size inb)) (Val := Elt F) f w Finset.univ
    (by rw [View.setOn_univ, View.set_slice_whole]; exact h)

theorem read_kf (c : Dev nD) {off : Fin 4 → ℕ} {o i : ℕ} (h : off = ![o, i, 0, 0]) (inb : ∀ a, off a + S1x1x1024x128.size a ≤ S4x2x1024x128.size a) :
    (Memref.whole cc0_scratch0 : Memref sig .tc .vmem S4x2x1024x128 .bf16).view.readAt (Elt F) (Rect.unit (s := S4x2x1024x128) off S1x1x1024x128.size inb).toLoadRect (KF m c)
      = kblk m (dz c o) i := by
  subst h
  funext x
  have h0 : (x 0).val < 1 := (x 0).isLt
  have h1 : (x 1).val < 1 := (x 1).isLt
  show kblk m (dz c (o + 1 * (x 0).val)) (i + 1 * (x 1).val) _ = _
  rw [show o + 1 * (x 0).val = o by omega, show i + 1 * (x 1).val = i by omega]
  congr 1
  funext a
  match a with
  | ⟨0, _⟩ => exact Fin.ext (by show 0 = (x 0).val; omega)
  | ⟨1, _⟩ => exact Fin.ext (by show 0 = (x 1).val; omega)
  | ⟨2, _⟩ => exact Fin.ext (by show 0 + 1 * (x 2).val = (x 2).val; omega)
  | ⟨3, _⟩ => exact Fin.ext (by show 0 + 1 * (x 3).val = (x 3).val; omega)

theorem write_kf (c : Dev nD) {off : Fin 4 → ℕ} {o i : ℕ} (h : off = ![o, i, 0, 0]) (inb : ∀ a, off a + S1x1x1024x128.size a ≤ S4x2x1024x128.size a)
    (f : Vec F S4x2x1024x128 .bf16) (w : Vec F S1x1x1024x128 .bf16) (hw : w = kblk m (dz c o) i) :
    ∀ j ∈ kset o i, ((Memref.whole cc0_scratch0 : Memref sig .tc .vmem S4x2x1024x128 .bf16).access (Rect.unit (s := S4x2x1024x128) off S1x1x1024x128.size inb) : View sig .tc _ _ _).write (Elt F) f w Finset.univ j
      = KF m c j := by
  subst h hw
  intro j hj
  obtain ⟨e0, e1⟩ := mem_kset.1 hj
  have hx : (Rect.unit (s := S4x2x1024x128) ![o, i, 0, 0] S1x1x1024x128.size inb).emb (ix4 (0 : Fin 1) (0 : Fin 1) (j 2) (j 3)) = j := by
    funext a
    apply Fin.ext
    match a with
    | ⟨0, _⟩ => show o + 1 * 0 = (j 0).val; omega
    | ⟨1, _⟩ => show i + 1 * 0 = (j 1).val; omega
    | ⟨2, _⟩ => show 0 + 1 * (j 2).val = (j 2).val; omega
    | ⟨3, _⟩ => show 0 + 1 * (j 3).val = (j 3).val; omega
  have := write_emb_unit cc0_scratch0 inb f (kblk m (dz c o) i) (ix4 (0 : Fin 1) (0 : Fin 1) (j 2) (j 3))
  rw [hx] at this
  refine this.trans ?_
  rw [KF, e0, e1]

theorem read_vf (c : Dev nD) {off : Fin 4 → ℕ} {o i : ℕ} (h : off = ![o, i, 0, 0]) (inb : ∀ a, off a + S1x1x1024x128.size a ≤ S4x2x1024x128.size a) :
    (Memref.whole cc0_scratch1 : Memref sig .tc .vmem S4x2x1024x128 .bf16).view.readAt (Elt F) (Rect.unit (s := S4x2x1024x128) off S1x1x1024x128.size inb).toLoadRect (VF m c)
      = vblk m (dz c o) i := by
  subst h
  funext x
  have h0 : (x 0).val < 1 := (x 0).isLt
  have h1 : (x 1).val < 1 := (x 1).isLt
  show vblk m (dz c (o + 1 * (x 0).val)) (i + 1 * (x 1).val) _ = _
  rw [show o + 1 * (x 0).val = o by omega, show i + 1 * (x 1).val = i by omega]
  congr 1
  funext a
  match a with
  | ⟨0, _⟩ => exact Fin.ext (by show 0 = (x 0).val; omega)
  | ⟨1, _⟩ => exact Fin.ext (by show 0 = (x 1).val; omega)
  | ⟨2, _⟩ => exact Fin.ext (by show 0 + 1 * (x 2).val = (x 2).val; omega)
  | ⟨3, _⟩ => exact Fin.ext (by show 0 + 1 * (x 3).val = (x 3).val; omega)

theorem write_vf (c : Dev nD) {off : Fin 4 → ℕ} {o i : ℕ} (h : off = ![o, i, 0, 0]) (inb : ∀ a, off a + S1x1x1024x128.size a ≤ S4x2x1024x128.size a)
    (f : Vec F S4x2x1024x128 .bf16) (w : Vec F S1x1x1024x128 .bf16) (hw : w = vblk m (dz c o) i) :
    ∀ j ∈ kset o i, ((Memref.whole cc0_scratch1 : Memref sig .tc .vmem S4x2x1024x128 .bf16).access (Rect.unit (s := S4x2x1024x128) off S1x1x1024x128.size inb) : View sig .tc _ _ _).write (Elt F) f w Finset.univ j
      = VF m c j := by
  subst h hw
  intro j hj
  obtain ⟨e0, e1⟩ := mem_kset.1 hj
  have hx : (Rect.unit (s := S4x2x1024x128) ![o, i, 0, 0] S1x1x1024x128.size inb).emb (ix4 (0 : Fin 1) (0 : Fin 1) (j 2) (j 3)) = j := by
    funext a
    apply Fin.ext
    match a with
    | ⟨0, _⟩ => show o + 1 * 0 = (j 0).val; omega
    | ⟨1, _⟩ => show i + 1 * 0 = (j 1).val; omega
    | ⟨2, _⟩ => show 0 + 1 * (j 2).val = (j 2).val; omega
    | ⟨3, _⟩ => show 0 + 1 * (j 3).val = (j 3).val; omega
  have := write_emb_unit cc0_scratch1 inb f (vblk m (dz c o) i) (ix4 (0 : Fin 1) (0 : Fin 1) (j 2) (j 3))
  rw [hx] at this
  refine this.trans ?_
  rw [VF, e0, e1]

/-! ## Loads of one head of a local copy -/

theorem read_tq0 (inb : ∀ a, (![0, 0, 0] : Fin 3 → ℕ) a + S1024x1x128.size a ≤ S1024x2x128.size a) (f : Vec F S1024x2x128 .f32) :
    (Memref.whole cc0_scratch6 : Memref sig .tc .vmem S1024x2x128 .f32).view.readAt (Elt F) (Rect.unit (s := S1024x2x128) ![0, 0, 0] S1024x1x128.size inb).toLoadRect f = col f 0 := by
  funext x
  have h1 : (x 1).val < 1 := (x 1).isLt
  show f _ = f _
  congr 1
  funext a
  apply Fin.ext
  match a with
  | ⟨0, _⟩ => show 0 + 1 * (x 0).val = (x 0).val; omega
  | ⟨1, _⟩ => show 0 + 1 * (x 1).val = 0 % 2; omega
  | ⟨2, _⟩ => show 0 + 1 * (x 2).val = (x 2).val; omega

theorem read_tq1 (inb : ∀ a, (![0, 1, 0] : Fin 3 → ℕ) a + S1024x1x128.size a ≤ S1024x2x128.size a) (f : Vec F S1024x2x128 .f32) :
    (Memref.whole cc0_scratch6 : Memref sig .tc .vmem S1024x2x128 .f32).view.readAt (Elt F) (Rect.unit (s := S1024x2x128) ![0, 1, 0] S1024x1x128.size inb).toLoadRect f = col f 1 := by
  funext x
  have h1 : (x 1).val < 1 := (x 1).isLt
  show f _ = f _
  congr 1
  funext a
  apply Fin.ext
  match a with
  | ⟨0, _⟩ => show 0 + 1 * (x 0).val = (x 0).val; omega
  | ⟨1, _⟩ => show 1 + 1 * (x 1).val = 1 % 2; omega
  | ⟨2, _⟩ => show 0 + 1 * (x 2).val = (x 2).val; omega

theorem read_tk0 (inb : ∀ a, (![0, 0, 0] : Fin 3 → ℕ) a + S1024x1x128.size a ≤ S1024x2x128.size a) (f : Vec F S1024x2x128 .f32) :
    (Memref.whole cc0_scratch7 : Memref sig .tc .vmem S1024x2x128 .f32).view.readAt (Elt F) (Rect.unit (s := S1024x2x128) ![0, 0, 0] S1024x1x128.size inb).toLoadRect f = col f 0 := by
  funext x
  have h1 : (x 1).val < 1 := (x 1).isLt
  show f _ = f _
  congr 1
  funext a
  apply Fin.ext
  match a with
  | ⟨0, _⟩ => show 0 + 1 * (x 0).val = (x 0).val; omega
  | ⟨1, _⟩ => show 0 + 1 * (x 1).val = 0 % 2; omega
  | ⟨2, _⟩ => show 0 + 1 * (x 2).val = (x 2).val; omega

theorem read_tk1 (inb : ∀ a, (![0, 1, 0] : Fin 3 → ℕ) a + S1024x1x128.size a ≤ S1024x2x128.size a) (f : Vec F S1024x2x128 .f32) :
    (Memref.whole cc0_scratch7 : Memref sig .tc .vmem S1024x2x128 .f32).view.readAt (Elt F) (Rect.unit (s := S1024x2x128) ![0, 1, 0] S1024x1x128.size inb).toLoadRect f = col f 1 := by
  funext x
  have h1 : (x 1).val < 1 := (x 1).isLt
  show f _ = f _
  congr 1
  funext a
  apply Fin.ext
  match a with
  | ⟨0, _⟩ => show 0 + 1 * (x 0).val = (x 0).val; omega
  | ⟨1, _⟩ => show 1 + 1 * (x 1).val = 1 % 2; omega
  | ⟨2, _⟩ => show 0 + 1 * (x 2).val = (x 2).val; omega

theorem read_tv0 (inb : ∀ a, (![0, 0, 0] : Fin 3 → ℕ) a + S1024x1x128.size a ≤ S1024x2x128.size a) (f : Vec F S1024x2x128 .f32) :
    (Memref.whole cc0_scratch8 : Memref sig .tc .vmem S1024x2x128 .f32).view.readAt (Elt F) (Rect.unit (s := S1024x2x128) ![0, 0, 0] S1024x1x128.size inb).toLoadRect f = col f 0 := by
  funext x
  have h1 : (x 1).val < 1 := (x 1).isLt
  show f _ = f _
  congr 1
  funext a
  apply Fin.ext
  match a with
  | ⟨0, _⟩ => show 0 + 1 * (x 0).val = (x 0).val; omega
  | ⟨1, _⟩ => show 0 + 1 * (x 1).val = 0 % 2; omega
  | ⟨2, _⟩ => show 0 + 1 * (x 2).val = (x 2).val; omega

theorem read_tv1 (inb : ∀ a, (![0, 1, 0] : Fin 3 → ℕ) a + S1024x1x128.size a ≤ S1024x2x128.size a) (f : Vec F S1024x2x128 .f32) :
    (Memref.whole cc0_scratch8 : Memref sig .tc .vmem S1024x2x128 .f32).view.readAt (Elt F) (Rect.unit (s := S1024x2x128) ![0, 1, 0] S1024x1x128.size inb).toLoadRect f = col f 1 := by
  funext x
  have h1 : (x 1).val < 1 := (x 1).isLt
  show f _ = f _
  congr 1
  funext a
  apply Fin.ext
  match a with
  | ⟨0, _⟩ => show 0 + 1 * (x 0).val = (x 0).val; omega
  | ⟨1, _⟩ => show 1 + 1 * (x 1).val = 1 % 2; omega
  | ⟨2, _⟩ => show 0 + 1 * (x 2).val = (x 2).val; omega

/-! ## The two-row buffers -/

/-- A buffer of two rows. -/
def pack {e : EltTy} (a b : Vec F S1x1024x128 e) : Vec F S2x1024x128 e :=
  fun j => if (j 0).val = 0 then a (ix3 (0 : Fin 1) (j 1) (j 2)) else b (ix3 (0 : Fin 1) (j 1) (j 2))

/-- Every buffer of two rows is one. -/
theorem pack_eta {e : EltTy} (f : Vec F S2x1024x128 e) :
    f = pack (fun j => f (ix3 (0 : Fin 2) (j 1) (j 2))) (fun j => f (ix3 (1 : Fin 2) (j 1) (j 2))) := by
  funext j
  have h : (j 0).val < 2 := (j 0).isLt
  unfold pack
  split
  · rename_i h0
    congr 1; funext a; apply Fin.ext
    match a with | ⟨0, _⟩ => exact h0 | ⟨1, _⟩ => rfl | ⟨2, _⟩ => rfl
  · rename_i h0
    congr 1; funext a; apply Fin.ext
    match a with | ⟨0, _⟩ => (show (j 0).val = 1; omega) | ⟨1, _⟩ => rfl | ⟨2, _⟩ => rfl

theorem read_q0 (inb : ∀ a, (![0, 0, 0] : Fin 3 → ℕ) a + S1x1024x128.size a ≤ S2x1024x128.size a) (u v : Vec F S1x1024x128 .bf16) :
    (Memref.whole cc0_scratch2 : Memref sig .tc .vmem S2x1024x128 .bf16).view.readAt (Elt F) (Rect.unit (s := S2x1024x128) ![0, 0, 0] S1x1024x128.size inb).toLoadRect (pack u v) = u := by
  funext x
  have h0 : (x 0).val < 1 := (x 0).isLt
  show (if 0 + 1 * (x 0).val = 0 then _ else _) = _
  rw [if_pos (by omega)]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

theorem write_q0 (inb : ∀ a, (![0, 0, 0] : Fin 3 → ℕ) a + S1x1024x128.size a ≤ S2x1024x128.size a) (u v w : Vec F S1x1024x128 .bf16) :
    ((Memref.whole cc0_scratch2 : Memref sig .tc .vmem S2x1024x128 .bf16).access (Rect.unit (s := S2x1024x128) ![0, 0, 0] S1x1024x128.size inb) : View sig .tc _ _ _).write (Elt F) (pack u v) w Finset.univ
      = pack w v := by
  funext j
  have hj : (j 0).val < 2 := (j 0).isLt
  by_cases h : (j 0).val = 0
  · have hx : (Rect.unit (s := S2x1024x128) ![0, 0, 0] S1x1024x128.size inb).emb (ix3 (0 : Fin 1) (j 1) (j 2)) = j := by
      funext a
      apply Fin.ext
      match a with
      | ⟨0, _⟩ => show 0 + 1 * 0 = (j 0).val; omega
      | ⟨1, _⟩ => show 0 + 1 * (j 1).val = (j 1).val; omega
      | ⟨2, _⟩ => show 0 + 1 * (j 2).val = (j 2).val; omega
    have := write_emb_unit cc0_scratch2 inb (pack u v) w (ix3 (0 : Fin 1) (j 1) (j 2))
    rw [hx] at this
    refine this.trans ?_
    unfold pack
    rw [if_pos (by omega)]
  · refine (write_off_unit cc0_scratch2 inb (pack u v) w j ?_).trans ?_
    · intro hm
      obtain ⟨x, hx, e0⟩ := (LoadRect.mem_set _).1 hm 0
      have hx : x < 1 := hx
      have e0 : (j 0).val = 0 + 1 * x := e0
      omega
    · unfold pack
      rw [if_neg (by omega), if_neg (by omega)]

theorem read_q1 (inb : ∀ a, (![1, 0, 0] : Fin 3 → ℕ) a + S1x1024x128.size a ≤ S2x1024x128.size a) (u v : Vec F S1x1024x128 .bf16) :
    (Memref.whole cc0_scratch2 : Memref sig .tc .vmem S2x1024x128 .bf16).view.readAt (Elt F) (Rect.unit (s := S2x1024x128) ![1, 0, 0] S1x1024x128.size inb).toLoadRect (pack u v) = v := by
  funext x
  have h0 : (x 0).val < 1 := (x 0).isLt
  show (if 1 + 1 * (x 0).val = 0 then _ else _) = _
  rw [if_neg (by omega)]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

theorem write_q1 (inb : ∀ a, (![1, 0, 0] : Fin 3 → ℕ) a + S1x1024x128.size a ≤ S2x1024x128.size a) (u v w : Vec F S1x1024x128 .bf16) :
    ((Memref.whole cc0_scratch2 : Memref sig .tc .vmem S2x1024x128 .bf16).access (Rect.unit (s := S2x1024x128) ![1, 0, 0] S1x1024x128.size inb) : View sig .tc _ _ _).write (Elt F) (pack u v) w Finset.univ
      = pack u w := by
  funext j
  have hj : (j 0).val < 2 := (j 0).isLt
  by_cases h : (j 0).val = 1
  · have hx : (Rect.unit (s := S2x1024x128) ![1, 0, 0] S1x1024x128.size inb).emb (ix3 (0 : Fin 1) (j 1) (j 2)) = j := by
      funext a
      apply Fin.ext
      match a with
      | ⟨0, _⟩ => show 1 + 1 * 0 = (j 0).val; omega
      | ⟨1, _⟩ => show 0 + 1 * (j 1).val = (j 1).val; omega
      | ⟨2, _⟩ => show 0 + 1 * (j 2).val = (j 2).val; omega
    have := write_emb_unit cc0_scratch2 inb (pack u v) w (ix3 (0 : Fin 1) (j 1) (j 2))
    rw [hx] at this
    refine this.trans ?_
    unfold pack
    rw [if_neg (by omega)]
  · refine (write_off_unit cc0_scratch2 inb (pack u v) w j ?_).trans ?_
    · intro hm
      obtain ⟨x, hx, e0⟩ := (LoadRect.mem_set _).1 hm 0
      have hx : x < 1 := hx
      have e0 : (j 0).val = 1 + 1 * x := e0
      omega
    · unfold pack
      rw [if_pos (by omega), if_pos (by omega)]

theorem read_a0 (inb : ∀ a, (![0, 0, 0] : Fin 3 → ℕ) a + S1x1024x128.size a ≤ S2x1024x128.size a) (u v : Vec F S1x1024x128 .f32) :
    (Memref.whole cc0_scratch3 : Memref sig .tc .vmem S2x1024x128 .f32).view.readAt (Elt F) (Rect.unit (s := S2x1024x128) ![0, 0, 0] S1x1024x128.size inb).toLoadRect (pack u v) = u := by
  funext x
  have h0 : (x 0).val < 1 := (x 0).isLt
  show (if 0 + 1 * (x 0).val = 0 then _ else _) = _
  rw [if_pos (by omega)]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

theorem write_a0 (inb : ∀ a, (![0, 0, 0] : Fin 3 → ℕ) a + S1x1024x128.size a ≤ S2x1024x128.size a) (u v w : Vec F S1x1024x128 .f32) :
    ((Memref.whole cc0_scratch3 : Memref sig .tc .vmem S2x1024x128 .f32).access (Rect.unit (s := S2x1024x128) ![0, 0, 0] S1x1024x128.size inb) : View sig .tc _ _ _).write (Elt F) (pack u v) w Finset.univ
      = pack w v := by
  funext j
  have hj : (j 0).val < 2 := (j 0).isLt
  by_cases h : (j 0).val = 0
  · have hx : (Rect.unit (s := S2x1024x128) ![0, 0, 0] S1x1024x128.size inb).emb (ix3 (0 : Fin 1) (j 1) (j 2)) = j := by
      funext a
      apply Fin.ext
      match a with
      | ⟨0, _⟩ => show 0 + 1 * 0 = (j 0).val; omega
      | ⟨1, _⟩ => show 0 + 1 * (j 1).val = (j 1).val; omega
      | ⟨2, _⟩ => show 0 + 1 * (j 2).val = (j 2).val; omega
    have := write_emb_unit cc0_scratch3 inb (pack u v) w (ix3 (0 : Fin 1) (j 1) (j 2))
    rw [hx] at this
    refine this.trans ?_
    unfold pack
    rw [if_pos (by omega)]
  · refine (write_off_unit cc0_scratch3 inb (pack u v) w j ?_).trans ?_
    · intro hm
      obtain ⟨x, hx, e0⟩ := (LoadRect.mem_set _).1 hm 0
      have hx : x < 1 := hx
      have e0 : (j 0).val = 0 + 1 * x := e0
      omega
    · unfold pack
      rw [if_neg (by omega), if_neg (by omega)]

theorem read_a1 (inb : ∀ a, (![1, 0, 0] : Fin 3 → ℕ) a + S1x1024x128.size a ≤ S2x1024x128.size a) (u v : Vec F S1x1024x128 .f32) :
    (Memref.whole cc0_scratch3 : Memref sig .tc .vmem S2x1024x128 .f32).view.readAt (Elt F) (Rect.unit (s := S2x1024x128) ![1, 0, 0] S1x1024x128.size inb).toLoadRect (pack u v) = v := by
  funext x
  have h0 : (x 0).val < 1 := (x 0).isLt
  show (if 1 + 1 * (x 0).val = 0 then _ else _) = _
  rw [if_neg (by omega)]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

theorem write_a1 (inb : ∀ a, (![1, 0, 0] : Fin 3 → ℕ) a + S1x1024x128.size a ≤ S2x1024x128.size a) (u v w : Vec F S1x1024x128 .f32) :
    ((Memref.whole cc0_scratch3 : Memref sig .tc .vmem S2x1024x128 .f32).access (Rect.unit (s := S2x1024x128) ![1, 0, 0] S1x1024x128.size inb) : View sig .tc _ _ _).write (Elt F) (pack u v) w Finset.univ
      = pack u w := by
  funext j
  have hj : (j 0).val < 2 := (j 0).isLt
  by_cases h : (j 0).val = 1
  · have hx : (Rect.unit (s := S2x1024x128) ![1, 0, 0] S1x1024x128.size inb).emb (ix3 (0 : Fin 1) (j 1) (j 2)) = j := by
      funext a
      apply Fin.ext
      match a with
      | ⟨0, _⟩ => show 1 + 1 * 0 = (j 0).val; omega
      | ⟨1, _⟩ => show 0 + 1 * (j 1).val = (j 1).val; omega
      | ⟨2, _⟩ => show 0 + 1 * (j 2).val = (j 2).val; omega
    have := write_emb_unit cc0_scratch3 inb (pack u v) w (ix3 (0 : Fin 1) (j 1) (j 2))
    rw [hx] at this
    refine this.trans ?_
    unfold pack
    rw [if_neg (by omega)]
  · refine (write_off_unit cc0_scratch3 inb (pack u v) w j ?_).trans ?_
    · intro hm
      obtain ⟨x, hx, e0⟩ := (LoadRect.mem_set _).1 hm 0
      have hx : x < 1 := hx
      have e0 : (j 0).val = 1 + 1 * x := e0
      omega
    · unfold pack
      rw [if_pos (by omega), if_pos (by omega)]

theorem read_l0 (inb : ∀ a, (![0, 0, 0] : Fin 3 → ℕ) a + S1x1024x128.size a ≤ S2x1024x128.size a) (u v : Vec F S1x1024x128 .f32) :
    (Memref.whole cc0_scratch4 : Memref sig .tc .vmem S2x1024x128 .f32).view.readAt (Elt F) (Rect.unit (s := S2x1024x128) ![0, 0, 0] S1x1024x128.size inb).toLoadRect (pack u v) = u := by
  funext x
  have h0 : (x 0).val < 1 := (x 0).isLt
  show (if 0 + 1 * (x 0).val = 0 then _ else _) = _
  rw [if_pos (by omega)]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

theorem write_l0 (inb : ∀ a, (![0, 0, 0] : Fin 3 → ℕ) a + S1x1024x128.size a ≤ S2x1024x128.size a) (u v w : Vec F S1x1024x128 .f32) :
    ((Memref.whole cc0_scratch4 : Memref sig .tc .vmem S2x1024x128 .f32).access (Rect.unit (s := S2x1024x128) ![0, 0, 0] S1x1024x128.size inb) : View sig .tc _ _ _).write (Elt F) (pack u v) w Finset.univ
      = pack w v := by
  funext j
  have hj : (j 0).val < 2 := (j 0).isLt
  by_cases h : (j 0).val = 0
  · have hx : (Rect.unit (s := S2x1024x128) ![0, 0, 0] S1x1024x128.size inb).emb (ix3 (0 : Fin 1) (j 1) (j 2)) = j := by
      funext a
      apply Fin.ext
      match a with
      | ⟨0, _⟩ => show 0 + 1 * 0 = (j 0).val; omega
      | ⟨1, _⟩ => show 0 + 1 * (j 1).val = (j 1).val; omega
      | ⟨2, _⟩ => show 0 + 1 * (j 2).val = (j 2).val; omega
    have := write_emb_unit cc0_scratch4 inb (pack u v) w (ix3 (0 : Fin 1) (j 1) (j 2))
    rw [hx] at this
    refine this.trans ?_
    unfold pack
    rw [if_pos (by omega)]
  · refine (write_off_unit cc0_scratch4 inb (pack u v) w j ?_).trans ?_
    · intro hm
      obtain ⟨x, hx, e0⟩ := (LoadRect.mem_set _).1 hm 0
      have hx : x < 1 := hx
      have e0 : (j 0).val = 0 + 1 * x := e0
      omega
    · unfold pack
      rw [if_neg (by omega), if_neg (by omega)]

theorem read_l1 (inb : ∀ a, (![1, 0, 0] : Fin 3 → ℕ) a + S1x1024x128.size a ≤ S2x1024x128.size a) (u v : Vec F S1x1024x128 .f32) :
    (Memref.whole cc0_scratch4 : Memref sig .tc .vmem S2x1024x128 .f32).view.readAt (Elt F) (Rect.unit (s := S2x1024x128) ![1, 0, 0] S1x1024x128.size inb).toLoadRect (pack u v) = v := by
  funext x
  have h0 : (x 0).val < 1 := (x 0).isLt
  show (if 1 + 1 * (x 0).val = 0 then _ else _) = _
  rw [if_neg (by omega)]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

theorem write_l1 (inb : ∀ a, (![1, 0, 0] : Fin 3 → ℕ) a + S1x1024x128.size a ≤ S2x1024x128.size a) (u v w : Vec F S1x1024x128 .f32) :
    ((Memref.whole cc0_scratch4 : Memref sig .tc .vmem S2x1024x128 .f32).access (Rect.unit (s := S2x1024x128) ![1, 0, 0] S1x1024x128.size inb) : View sig .tc _ _ _).write (Elt F) (pack u v) w Finset.univ
      = pack u w := by
  funext j
  have hj : (j 0).val < 2 := (j 0).isLt
  by_cases h : (j 0).val = 1
  · have hx : (Rect.unit (s := S2x1024x128) ![1, 0, 0] S1x1024x128.size inb).emb (ix3 (0 : Fin 1) (j 1) (j 2)) = j := by
      funext a
      apply Fin.ext
      match a with
      | ⟨0, _⟩ => show 1 + 1 * 0 = (j 0).val; omega
      | ⟨1, _⟩ => show 0 + 1 * (j 1).val = (j 1).val; omega
      | ⟨2, _⟩ => show 0 + 1 * (j 2).val = (j 2).val; omega
    have := write_emb_unit cc0_scratch4 inb (pack u v) w (ix3 (0 : Fin 1) (j 1) (j 2))
    rw [hx] at this
    refine this.trans ?_
    unfold pack
    rw [if_neg (by omega)]
  · refine (write_off_unit cc0_scratch4 inb (pack u v) w j ?_).trans ?_
    · intro hm
      obtain ⟨x, hx, e0⟩ := (LoadRect.mem_set _).1 hm 0
      have hx : x < 1 := hx
      have e0 : (j 0).val = 1 + 1 * x := e0
      omega
    · unfold pack
      rw [if_pos (by omega), if_pos (by omega)]

/-! ## The gathered heads -/

theorem read_og (c : Dev nD) {off : Fin 3 → ℕ} {r : ℕ} (h : off = ![r, 0, 0]) (inb : ∀ a, off a + S1x1024x128.size a ≤ S16x1024x128.size a) :
    (Memref.whole cc0_scratch5 : Memref sig .tc .vmem S16x1024x128 .bf16).view.readAt (Elt F) (Rect.unit (s := S16x1024x128) off S1x1024x128.size inb).toLoadRect (OG m c)
      = orow m (dh c r) (r % 2) := by
  subst h
  funext x
  have h0 : (x 0).val < 1 := (x 0).isLt
  show orow m (dh c (r + 1 * (x 0).val)) ((r + 1 * (x 0).val) % 2) _ = _
  rw [show r + 1 * (x 0).val = r by omega]
  congr 1
  funext a
  apply Fin.ext
  match a with
  | ⟨0, _⟩ => show 0 = (x 0).val; omega
  | ⟨1, _⟩ => show 0 + 1 * (x 1).val = (x 1).val; omega
  | ⟨2, _⟩ => show 0 + 1 * (x 2).val = (x 2).val; omega

/-- The two stores of a device's own pair leave the pair's contents. -/
theorem write_og (c : Dev nD) {off off' : Fin 3 → ℕ} {p : ℕ} (h : off = ![2 * p, 0, 0]) (h' : off' = ![2 * p + 1, 0, 0])
    (inb : ∀ a, off a + S1x1024x128.size a ≤ S16x1024x128.size a) (inb' : ∀ a, off' a + S1x1024x128.size a ≤ S16x1024x128.size a)
    (f : Vec F S16x1024x128 .bf16) (w w' : Vec F S1x1024x128 .bf16) (hw : w = orow m (dh c (2 * p)) 0) (hw' : w' = orow m (dh c (2 * p)) 1) :
    ∀ j ∈ gset p, ((Memref.whole cc0_scratch5 : Memref sig .tc .vmem S16x1024x128 .bf16).access (Rect.unit (s := S16x1024x128) off' S1x1024x128.size inb') : View sig .tc _ _ _).write (Elt F)
        (((Memref.whole cc0_scratch5 : Memref sig .tc .vmem S16x1024x128 .bf16).access (Rect.unit (s := S16x1024x128) off S1x1024x128.size inb) : View sig .tc _ _ _).write (Elt F) f w Finset.univ) w' Finset.univ j
      = OG m c j := by
  subst h h' hw hw'
  intro j hj
  rw [mem_gset] at hj
  have hd : dh c (j 0).val = dh c (2 * p) := by apply Fin.ext; show 16 * ((j 0).val / 2 % 2) + 4 * ((j 0).val / 4 % 4) + _ = 16 * (2 * p / 2 % 2) + 4 * (2 * p / 4 % 4) + _; omega
  by_cases hb : (j 0).val = 2 * p + 1
  · have hx : (Rect.unit (s := S16x1024x128) ![2 * p + 1, 0, 0] S1x1024x128.size inb').emb (ix3 (0 : Fin 1) (j 1) (j 2)) = j := by
      funext a
      apply Fin.ext
      match a with
      | ⟨0, _⟩ => show 2 * p + 1 + 1 * 0 = (j 0).val; omega
      | ⟨1, _⟩ => show 0 + 1 * (j 1).val = (j 1).val; omega
      | ⟨2, _⟩ => show 0 + 1 * (j 2).val = (j 2).val; omega
    have := write_emb_unit cc0_scratch5 inb' (((Memref.whole cc0_scratch5 : Memref sig .tc .vmem S16x1024x128 .bf16).access (Rect.unit (s := S16x1024x128) ![2 * p, 0, 0] S1x1024x128.size inb) : View sig .tc _ _ _).write (Elt F) f (orow m (dh c (2 * p)) 0) Finset.univ)
      (orow m (dh c (2 * p)) 1) (ix3 (0 : Fin 1) (j 1) (j 2))
    rw [hx] at this
    refine this.trans ?_
    unfold OG
    rw [hd, show (j 0).val % 2 = 1 by omega]
  · have hb' : (j 0).val = 2 * p := by omega
    refine (write_off_unit cc0_scratch5 inb' _ _ j ?_).trans ?_
    · intro hm
      obtain ⟨x, hx, e0⟩ := (LoadRect.mem_set _).1 hm 0
      have hx : x < 1 := hx
      have e0 : (j 0).val = 2 * p + 1 + 1 * x := e0
      omega
    have hx : (Rect.unit (s := S16x1024x128) ![2 * p, 0, 0] S1x1024x128.size inb).emb (ix3 (0 : Fin 1) (j 1) (j 2)) = j := by
      funext a
      apply Fin.ext
      match a with
      | ⟨0, _⟩ => show 2 * p + 1 * 0 = (j 0).val; omega
      | ⟨1, _⟩ => show 0 + 1 * (j 1).val = (j 1).val; omega
      | ⟨2, _⟩ => show 0 + 1 * (j 2).val = (j 2).val; omega
    have := write_emb_unit cc0_scratch5 inb f (orow m (dh c (2 * p)) 0) (ix3 (0 : Fin 1) (j 1) (j 2))
    rw [hx] at this
    refine this.trans ?_
    unfold OG
    rw [hd, show (j 0).val % 2 = 0 by omega]

theorem dh_pr (c : Dev nD) : dh c (2 * pr c) = c := by revert c; decide

/-! ## The output -/

/-- The staging buffer holds the first `n` heads of the result. -/
def OutUpTo (c : Dev nD) (n : ℕ) (f : Vec F S1024x16x128 .f32) : Prop := ∀ j : S1024x16x128.Idx, (j 1).val < n → f j = OUT m c j

theorem outUpTo_zero (c : Dev nD) (f : Vec F S1024x16x128 .f32) : OutUpTo m c 0 f := fun _ h => absurd h (Nat.not_lt_zero _)
theorem outUpTo_all (c : Dev nD) (f : Vec F S1024x16x128 .f32) (h : OutUpTo m c 16 f) : f = OUT m c := funext fun j => h j (j 1).isLt

theorem outUpTo_succ (c : Dev nD) {n : ℕ} (inb : ∀ a, (![0, n, 0] : Fin 3 → ℕ) a + S1024x1x128.size a ≤ S1024x16x128.size a)
    (f : Vec F S1024x16x128 .f32) (w : Vec F S1024x1x128 .f32) (hf : OutUpTo m c n f) (hw : w = k0_pay43 (orow m (dh c n) (n % 2))) :
    OutUpTo m c (n + 1) (((Memref.whole cc0_stg0_0 : Memref sig .tc .vmem S1024x16x128 .f32).access (Rect.unit (s := S1024x16x128) ![0, n, 0] S1024x1x128.size inb) : View sig .tc _ _ _).write (Elt F) f w Finset.univ) := by
  subst hw
  intro j hj
  by_cases h : (j 1).val = n
  · have hx : (Rect.unit (s := S1024x16x128) ![0, n, 0] S1024x1x128.size inb).emb (ix3 (j 0) (0 : Fin 1) (j 2)) = j := by
      funext a
      apply Fin.ext
      match a with
      | ⟨0, _⟩ => show 0 + 1 * (j 0).val = (j 0).val; omega
      | ⟨1, _⟩ => show n + 1 * 0 = (j 1).val; omega
      | ⟨2, _⟩ => show 0 + 1 * (j 2).val = (j 2).val; omega
    have := write_emb_unit cc0_stg0_0 inb f (k0_pay43 (orow m (dh c n) (n % 2))) (ix3 (j 0) (0 : Fin 1) (j 2))
    rw [hx] at this
    refine this.trans ?_
    unfold OUT
    rw [h]
  · refine (write_off_unit cc0_stg0_0 inb f _ j ?_).trans (hf j (by omega))
    intro hm
    obtain ⟨x, hx, e1⟩ := (LoadRect.mem_set _).1 hm 1
    have hx : x < 1 := hx
    have e1 : (j 1).val = n + 1 * x := e1
    omega

end Cert.KernelIdealProof

end
-- ==== Proof.KernelIdealCells.lean ====
/-
# The protocol: cells, duties, payloads, levels, and what each device owes

Forty-two cells on each device: the barrier and the forty-one transfer semaphores the kernel owns. Each is used for
one round. The barrier's round has five duties of one unit, one from each neighbour; each hands over the places of
that neighbour's gathered buffers the device will write into. Every other cell has one duty of one transfer's amount:
a send cell hands the source back, a receive cell hands over the place written, with its contents.
-/
module

public import proofs.«01_k».proof.Proof.KernelIdealContents

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

abbrev UB : Type := URounds (GSem nD τ sig) (Fin 5)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The cells -/

/-- The barrier semaphore. -/
abbrev barS : Sem sig := (SemArray.scalar (sig.barrier 0 rfl) : Sems sig S_).sem

/-- Cell `0` is the barrier's, cell `k` the `k`-th transfer semaphore's. -/
abbrev csem (k : Fin 42) : SemLoc sig := match k with
  | ⟨0, _⟩ => .reg barS
  | ⟨n + 1, h⟩ => .dma (⟨n + 1, h⟩ : Fin 42)
abbrev kcell (ck : Dev nD × Fin 42) : GSem nD τ sig := ((ck.1 : Thread nD τ), csem ck.2)

/-! ## Pieces of the buffers -/

def kP (d : Dev nD) (o i : ℕ) (q : PosShare TreeShare) (f : Vec F S4x2x1024x128 .bf16) : sProp 𝕄 :=
  ((d : Thread nD τ).loc cc0_scratch0) ↦[kset o i]{q} f
def vP (d : Dev nD) (o i : ℕ) (q : PosShare TreeShare) (f : Vec F S4x2x1024x128 .bf16) : sProp 𝕄 :=
  ((d : Thread nD τ).loc cc0_scratch1) ↦[kset o i]{q} f
def gP (d : Dev nD) (p : ℕ) (f : Vec F S16x1024x128 .bf16) : sProp 𝕄 :=
  ((d : Thread nD τ).loc cc0_scratch5) ↦[gset p]{fullShare} f

def anyZ (d : Dev nD) (o i : ℕ) : sProp 𝕄 := iprop((∃ f, kP (F := F) d o i fullShare f) ∗ ∃ f, vP (F := F) d o i fullShare f)
def anyG (d : Dev nD) (p : ℕ) : sProp 𝕄 := iprop(∃ f, gP (F := F) d p f)

/-- The three local copies: the destination's contents and the source part back. -/
def qC (c : Dev nD) : sProp 𝕄 :=
  iprop((((c : Thread nD τ).loc cc0_scratch6) ↦{fullShare} tQ m c) ∗ ((mQ c).view.loc (c : Thread nD τ) ↦[(mQ c).view.set]{fullShare} m ((c : Thread nD τ).loc main_arg0)))
def kC (c : Dev nD) : sProp 𝕄 :=
  iprop((((c : Thread nD τ).loc cc0_scratch7) ↦{fullShare} tK m c) ∗ ((mK c).view.loc (c : Thread nD τ) ↦[(mK c).view.set]{fullShare} m ((c : Thread nD τ).loc main_arg1)))
def vC (c : Dev nD) : sProp 𝕄 :=
  iprop((((c : Thread nD τ).loc cc0_scratch8) ↦{fullShare} tV m c) ∗ ((mV c).view.loc (c : Thread nD τ) ↦[(mV c).view.set]{fullShare} m ((c : Thread nD τ).loc main_arg2)))

/-- The `h`-th block of stream `s` along `z`: keys and values of head `0` going up, of head `1` going down. -/
def zP (c : Dev nD) (s h : ℕ) (q : PosShare TreeShare) : sProp 𝕄 := match s with
  | 0 => kP c (zb c h) 0 q (KF m c)
  | 1 => vP c (zb c h) 0 q (VF m c)
  | 2 => kP c (zf c h) 1 q (KF m c)
  | _ => vP c (zf c h) 1 q (VF m c)
/-- The `h`-th pair of stream `s` along `y`. -/
def yP (c : Dev nD) (s h : ℕ) : sProp 𝕄 := match s with
  | 0 => gP c (yb c h) (OG m c)
  | _ => gP c (yf c h) (OG m c)

/-! ## The schedule -/

/-- What duty `d` of device `g`'s barrier hands over. -/
def barPay (g : Dev nD) (d : Fin 5) : sProp 𝕄 := match d with
  | 0 => iprop(anyZ (F := F) (zr g) (zb g 0) 0 ∗ anyZ (F := F) (zr g) (zb g 1) 0 ∗ anyZ (F := F) (zr g) (zb g 2) 0)
  | 1 => iprop(anyZ (F := F) (zl g) (zf g 0) 1 ∗ anyZ (F := F) (zl g) (zf g 1) 1 ∗ anyZ (F := F) (zl g) (zf g 2) 1)
  | 2 => anyG (F := F) (xp g) (pr g)
  | 3 => iprop(anyG (F := F) (yu g) (yb g 0) ∗ anyG (F := F) (yu g) (yb g 1) ∗ anyG (F := F) (yu g) (yb g 2))
  | _ => iprop(anyG (F := F) (yd g) (yf g 0) ∗ anyG (F := F) (yd g) (yf g 1) ∗ anyG (F := F) (yd g) (yf g 2))

/-- What transfer cell `k` of device `c` hands over. -/
def dmaPay (c : Dev nD) (k : ℕ) : sProp 𝕄 :=
  if k < 13 then zP m c ((k - 1) / 3) ((k - 1) % 3) fullShare.left
  else if k < 25 then zP m c ((k - 13) / 3) ((k - 13) % 3 + 1) fullShare
  else if k = 25 then gP c (pr c) (OG m c)
  else if k = 26 then gP c (prx c) (OG m c)
  else if k < 33 then yP m c ((k - 27) / 3) ((k - 27) % 3)
  else if k < 39 then yP m c ((k - 33) / 3) ((k - 33) % 3 + 1)
  else if k = 39 then qC m c
  else if k = 40 then kC m c
  else vC m c

abbrev zN : ℕ := (((Memref.whole cc0_scratch0 : Memref sig .tc .vmem S4x2x1024x128 .bf16).slice (Rect.unit (s := S4x2x1024x128) ![0, 0, 0, 0] S1x1x1024x128.size (by decide)) (fun _ => rfl)).squeeze S1x1024x128 squeezes_S1x1x1024x128_S1x1024x128).view.dmaCredit
abbrev gN : ℕ := ((Memref.whole cc0_scratch5 : Memref sig .tc .vmem S16x1024x128 .bf16).slice (Rect.unit (s := S16x1024x128) ![0, 0, 0] S2x1024x128.size (by decide)) (fun _ => rfl)).view.dmaCredit
abbrev cN : ℕ := (Memref.whole cc0_scratch6 : Memref sig .tc .vmem S1024x2x128 .f32).view.dmaCredit
theorem zN_pos : 0 < zN := View.dmaCredit_pos _ (by decide)
theorem gN_pos : 0 < gN := View.dmaCredit_pos _ (by decide)
theorem cN_pos : 0 < cN := View.dmaCredit_pos _ (by decide)

/-- The amount of transfer cell `k`'s round. -/
def dN (k : ℕ) : ℕ := if k < 25 then zN else if k < 39 then gN else cN
theorem dN_pos (k : ℕ) : 0 < dN k := by
  unfold dN
  split
  · exact zN_pos
  · split
    · exact gN_pos
    · exact cN_pos

def Rd : Rounds.Schedule (GSem nD τ sig) (Fin 5) 𝕄 where
  duties g r := if r = 0 ∧ g.1.2 = .tc then (match g.2 with | .reg _ => Finset.univ | .dma _ => {0}) else ∅
  unitless _ := False
  amount g _ _ := match g.2 with | .reg _ => 1 | .dma q => dN q.val
  payload g _ d := match g.2 with | .reg _ => barPay g.1.1 d | .dma q => dmaPay m g.1.1 q.val
  amount_pos g _ _ _ := by
    rcases g with ⟨t, s | q⟩
    · exact Nat.one_pos
    · exact dN_pos q.val

instance kP_storable (d : Dev nD) (o i) (q) (f) : BI.Storable (upEmb : UEmb _ 𝕄) (kP (F := F) d o i q f) := by unfold kP; infer_instance
instance vP_storable (d : Dev nD) (o i) (q) (f) : BI.Storable (upEmb : UEmb _ 𝕄) (vP (F := F) d o i q f) := by unfold vP; infer_instance
instance gP_storable (d : Dev nD) (p) (f) : BI.Storable (upEmb : UEmb _ 𝕄) (gP (F := F) d p f) := by unfold gP; infer_instance
instance anyZ_storable (d : Dev nD) (o i) : BI.Storable (upEmb : UEmb _ 𝕄) (anyZ (F := F) d o i) := by unfold anyZ; infer_instance
instance anyG_storable (d : Dev nD) (p) : BI.Storable (upEmb : UEmb _ 𝕄) (anyG (F := F) d p) := by unfold anyG; infer_instance
instance qC_storable (c : Dev nD) : BI.Storable (upEmb : UEmb _ 𝕄) (qC (F := F) m c) := by unfold qC; infer_instance
instance kC_storable (c : Dev nD) : BI.Storable (upEmb : UEmb _ 𝕄) (kC (F := F) m c) := by unfold kC; infer_instance
instance vC_storable (c : Dev nD) : BI.Storable (upEmb : UEmb _ 𝕄) (vC (F := F) m c) := by unfold vC; infer_instance
instance zP_storable (c : Dev nD) (s h) (q) : BI.Storable (upEmb : UEmb _ 𝕄) (zP (F := F) m c s h q) := by
  unfold zP; split <;> infer_instance
instance yP_storable (c : Dev nD) (s h) : BI.Storable (upEmb : UEmb _ 𝕄) (yP (F := F) m c s h) := by
  unfold yP; split <;> infer_instance
instance barPay_storable (c : Dev nD) (d) : BI.Storable (upEmb : UEmb _ 𝕄) (barPay (F := F) c d) := by
  unfold barPay; split <;> infer_instance
instance dmaPay_storable (c : Dev nD) (k) : BI.Storable (upEmb : UEmb _ 𝕄) (dmaPay (F := F) m c k) := by
  unfold dmaPay; (repeat' split) <;> infer_instance
instance Rd_storable (g : GSem nD τ sig) (r : ℕ) (d : Fin 5) : BI.Storable (upEmb : UEmb _ 𝕄) ((Rd (F := F) m).payload g r d) := by
  rcases g with ⟨t, s | q⟩
  · exact barPay_storable t.1 d
  · exact dmaPay_storable m t.1 q.val

section Sched
variable (c : Dev nD)

theorem duties_bar : (Rd (F := F) m).duties ((c : Thread nD τ), .reg barS) 0 = Finset.univ := by dsimp only [Rd]; exact if_pos ⟨rfl, rfl⟩
theorem duties_dma (q : DmaSem sig) : (Rd (F := F) m).duties ((c : Thread nD τ), .dma q) 0 = {0} := by dsimp only [Rd]; exact if_pos ⟨rfl, rfl⟩
theorem duties_later (g : GSem nD τ sig) : ∀ r, 0 + 1 ≤ r → (Rd (F := F) m).duties g r = ∅ :=
  fun r hr => by dsimp only [Rd]; exact if_neg fun h => by omega
theorem expect_bar : (Rd (F := F) m).expect ((c : Thread nD τ), .reg barS) 0 = 5 := by
  unfold Schedule.expect Schedule.amountOf
  rw [duties_bar]
  rfl
theorem expect_dma (q : DmaSem sig) : (Rd (F := F) m).expect ((c : Thread nD τ), .dma q) 0 = dN q.val := by
  unfold Schedule.expect Schedule.amountOf; rw [duties_dma, Finset.sum_singleton]; rfl
theorem rest_bar : bigSep ((Rd (F := F) m).duties ((c : Thread nD τ), .reg barS) 0 \ ∅) (fun d => (Rd (F := F) m).payload ((c : Thread nD τ), .reg barS) 0 d)
    = iprop(barPay (F := F) c 0 ∗ barPay (F := F) c 1 ∗ barPay (F := F) c 2 ∗ barPay (F := F) c 3 ∗ barPay (F := F) c 4) := by
  rw [Finset.sdiff_empty, duties_bar, bigSep_univ_eq_bigSepL [0, 1, 2, 3, 4] (by decide) (by decide), bigSepL_cons_cons, bigSepL_cons_cons, bigSepL_cons_cons, bigSepL_cons_cons,
    bigSepL_singleton]
  rfl
theorem rest_dma (q : DmaSem sig) : bigSep ((Rd (F := F) m).duties ((c : Thread nD τ), .dma q) 0 \ ∅) (fun d => (Rd (F := F) m).payload ((c : Thread nD τ), .dma q) 0 d)
    = dmaPay m c q.val := by
  rw [Finset.sdiff_empty, duties_dma, bigSep_singleton]
  rfl

end Sched

/-! ## Levels, and what each device owes -/

def L (g : GSem nD τ sig) : Finset Unit := if g.1.2 = .tc then {()} else ∅
/-- A transfer cell's level: receive cells in the order they are paid. -/
def dlv (k : ℕ) : ℕ := if 13 ≤ k ∧ k < 25 then 2 + (k - 13) % 3 else if k = 26 then 5 else if 33 ≤ k ∧ k < 39 then 6 + (k - 33) % 3 else 0
def lv (g : GSem nD τ sig) (_ : Unit) : ℕ := match g.2 with | .reg _ => 1 | .dma q => dlv q.val
theorem L_of_ne (g : GSem nD τ sig) (h : g.1.2 ≠ .tc) : L g = ∅ := if_neg h
theorem L_tc (c : Dev nD) (sm : SemLoc sig) : L ((c : Thread nD τ), sm) = {()} := if_pos rfl

/-- The cell of a payment and its amount. -/
abbrev pay (d : Dev nD) (k : Fin 42) (n : ℕ) : (Dev nD × Fin 42) × ℕ := ((d, k), n)
/-- What device `c` pays to other devices' cells, in the order it pays. -/
def pays (c : Dev nD) : List ((Dev nD × Fin 42) × ℕ) :=
  [pay (zl c) 0 1, pay (zr c) 0 1, pay (xp c) 0 1, pay (yd c) 0 1, pay (yu c) 0 1,
   pay (zr c) 13 zN, pay (zr c) 16 zN, pay (zl c) 19 zN, pay (zl c) 22 zN,
   pay (zr c) 14 zN, pay (zr c) 17 zN, pay (zl c) 20 zN, pay (zl c) 23 zN,
   pay (zr c) 15 zN, pay (zr c) 18 zN, pay (zl c) 21 zN, pay (zl c) 24 zN,
   pay (xp c) 26 gN,
   pay (yu c) 33 gN, pay (yd c) 36 gN, pay (yu c) 34 gN, pay (yd c) 37 gN, pay (yu c) 35 gN, pay (yd c) 38 gN]
def sumOf (l : List ((Dev nD × Fin 42) × ℕ)) : CellTallies nD τ sig Unit := l.foldr (fun p acc => acc + tallyAt (kcell p.1) () p.2) 0
/-- What is left to pay after `n` payments. -/
def Os (c : Dev nD) (n : ℕ) : CellTallies nD τ sig Unit := sumOf ((pays c).drop n)

theorem sumOf_pos {l : List ((Dev nD × Fin 42) × ℕ)} {g : GSem nD τ sig} {u : Unit} (h : 0 < sumOf l g u) : ∃ p ∈ l, g = kcell p.1 := by
  induction l with
  | nil => exact absurd h (Nat.lt_irrefl 0)
  | cons a l ih =>
    have h : 0 < (sumOf l + tallyAt (kcell a.1) () a.2 : CellTallies nD τ sig Unit) g u := h
    rw [Pi.add_apply, Finsupp.add_apply, tallyAt_apply] at h
    by_cases hg : g = kcell a.1 ∧ u = ()
    · exact ⟨a, List.mem_cons_self, hg.1⟩
    · rw [if_neg hg, Nat.add_zero] at h
      obtain ⟨p, hp, e⟩ := ih h
      exact ⟨p, List.mem_cons_of_mem _ hp, e⟩

def plv : List ℕ := [1, 1, 1, 1, 1, 2, 2, 2, 2, 3, 3, 3, 3, 4, 4, 4, 4, 5, 6, 6, 7, 7, 8, 8]
theorem pays_lv (c : Dev nD) : (pays c).map (fun p => lv (kcell p.1) ()) = plv := rfl

/-- A cell may be waited on when everything left to pay is at a higher level. -/
theorem mayWait (c : Dev nD) (sm : SemLoc sig) (n l : ℕ) (hl : lv ((c : Thread nD τ), sm) () ≤ l) (hn : ∀ x ∈ plv.drop n, l < x) :
    (levAts L lv : sProp 𝕄) ⊢ MayWait (c : Thread nD τ) sm () (Os c n) :=
  MayOwe.of_cut (L := L) (lev := lv) l (fun p hp => by rw [Finset.mem_singleton.mp hp, L_tc]; exact Finset.mem_singleton_self _)
    (fun g u hg => by
      obtain ⟨p, hp, e⟩ := sumOf_pos hg
      subst e; exact Finset.mem_singleton_self _)
    (fun p hp => by rw [Finset.mem_singleton.mp hp]; exact hl)
    (fun g u hg => by
      obtain ⟨p, hp, e⟩ := sumOf_pos hg
      subst e
      refine hn _ ?_
      rw [← pays_lv c, ← List.map_drop]
      exact List.mem_map.2 ⟨p, hp, rfl⟩)

/-! ## Tokens: who pays what -/

/-- The forty-six duties of a device's cells: the barrier's five, and one of each transfer cell. -/
abbrev tokOf (dj : Dev nD × Fin 46) : GSem nD τ sig × ℕ × Fin 5 :=
  if h : dj.2.val < 5 then (kcell (dj.1, 0), 0, ⟨dj.2.val, h⟩)
  else (((dj.1 : Thread nD τ), .dma (⟨dj.2.val - 4, by have := dj.2.isLt; omega⟩ : Fin 42)), 0, 0)

/-- The neighbours as permutations. -/
def zlE : Dev nD ≃ Dev nD := ⟨zl, zr, zr_zl, zl_zr⟩
def zrE : Dev nD ≃ Dev nD := ⟨zr, zl, zl_zr, zr_zl⟩
def xpE : Dev nD ≃ Dev nD := ⟨xp, xp, xp_xp, xp_xp⟩
def yuE : Dev nD ≃ Dev nD := ⟨yu, yd, yd_yu, yu_yd⟩
def ydE : Dev nD ≃ Dev nD := ⟨yd, yu, yu_yd, yd_yu⟩

/-- Device `c` pays duty `j` of device `payTo j c`. -/
def payTo (j : ℕ) : Dev nD ≃ Dev nD :=
  if j = 0 then zlE else if j = 1 then zrE else if j = 2 then xpE else if j = 3 then ydE else if j = 4 then yuE
  else if j < 17 then Equiv.refl _ else if j < 23 then zrE else if j < 29 then zlE else if j = 29 then Equiv.refl _ else if j = 30 then xpE
  else if j < 37 then Equiv.refl _ else if j < 40 then yuE else if j < 43 then ydE else Equiv.refl _

end Cert.KernelIdealProof

end
-- ==== Proof.KernelIdealSteps.lean ====
/-
# The steps: a signal, the barrier's wait, a remote copy, a local copy, a transfer's wait

Each rule is stated once, for any of the kernel's cells, with what the device owes threaded through.
-/
module

public import proofs.«01_k».proof.Proof.KernelIdealCells

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-- A transfer cell of a device. -/
abbrev dcell (c : Dev nD) (q : DmaSem sig) : GSem nD τ sig := ((c : Thread nD τ), .dma q)
abbrev bcell (c : Dev nD) : GSem nD τ sig := ((c : Thread nD τ), .reg barS)

/-- Every cell's invariant under the name it was allocated at, that its round is open, and the levels. -/
def records (K : Dev nD × Fin 42 → ℕ) : sProp 𝕄 :=
  iprop((bigSep Finset.univ fun ck : Dev nD × Fin 42 => iprop(cellInv ER (Rd m) (K ck) (kcell ck) ∗ reached ER (kcell ck) 0)) ∗ levAts L lv)

instance records_persistent (K : Dev nD × Fin 42 → ℕ) : BI.Persistent (records m K) := by unfold records; infer_instance

theorem records_lev (K : Dev nD × Fin 42 → ℕ) : records m K ⊢ (levAts L lv : sProp 𝕄) := by
  unfold records; iintro ⟨-, H⟩; iexact H
set_option maxRecDepth 100000 in
theorem records_mayWait (K : Dev nD × Fin 42 → ℕ) (c : Dev nD) (sm : SemLoc sig) (n l : ℕ) (hl : lv ((c : Thread nD τ), sm) () ≤ l) (hn : ∀ x ∈ plv.drop n, l < x) :
    records m K ⊢ (MayWait (c : Thread nD τ) sm () (Os c n) : sProp 𝕄) := by
  refine BIBase.Entails.trans (records_lev m K) ?_
  exact mayWait c sm n l hl hn
theorem records_cell (K : Dev nD × Fin 42 → ℕ) (ck : Dev nD × Fin 42) :
    records m K ⊢ iprop(cellInv ER (Rd m) (K ck) (kcell ck) ∗ reached ER (kcell ck) 0) := by
  have h : (bigSep Finset.univ fun ck : Dev nD × Fin 42 => iprop(cellInv ER (Rd m) (K ck) (kcell ck) ∗ reached ER (kcell ck) 0) : sProp 𝕄)
      ⊢ iprop(cellInv ER (Rd m) (K ck) (kcell ck) ∗ reached ER (kcell ck) 0) := bigSep_elim (Finset.mem_univ ck)
  refine BIBase.Entails.trans ?_ h
  unfold records
  iintro ⟨H, -⟩
  iexact H
theorem records_bar (K : Dev nD × Fin 42 → ℕ) (c : Dev nD) :
    records m K ⊢ iprop(cellInv ER (Rd m) (K (c, 0)) (bcell c) ∗ reached ER (bcell c) 0) := records_cell m K (c, 0)
theorem records_dma (K : Dev nD × Fin 42 → ℕ) (c : Dev nD) (q : DmaSem sig) (hq : q.val ≠ 0) :
    records m K ⊢ iprop(cellInv ER (Rd m) (K (c, q)) (dcell c q) ∗ reached ER (dcell c q) 0) := by
  rcases q with ⟨n, hn⟩
  cases n with
  | zero => exact absurd rfl hq
  | succ n => exact records_cell m K (c, ⟨n + 1, hn⟩)

/-- What device `c` still owes after `n` payments. -/
def Ow (c : Dev nD) (n : ℕ) : sProp 𝕄 := iprop(∃ W, owes (c : Thread nD τ) (Os c n) W)

variable (K : Dev nD × Fin 42 → ℕ)

/-- A signal to a neighbour's barrier, handing over the signaller's places. -/
theorem signal_step (c d n' : Dev nD) (hn : n' = d) (j : Fin 5) (n : ℕ) (hO : Os c n = Os c (n + 1) + tallyAt (bcell d) () 1)
    {α : Type} {Q : α → sProp 𝕄} {k : PUnit → Prog (TpuEff nD τ sig (Elt F) Λ₀ .tc) α} :
    iprop(records m K ∗ Ow (F := F) c n ∗ dutyTok ER (bcell d) 0 j ∗ barPay (F := F) d j)
      ⊢ iprop((Ow (F := F) c (n + 1) -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (n', Proc.tc) barS (BitVec.toInt 1#32)) k) Q) := by
  subst hn
  unfold Ow
  iintro ⟨#HR, ⟨%W, HO⟩, Ht, Hp⟩ Hk
  ihave Hp := (Entails.of_eq (show barPay (F := F) n' j = (Rd (F := F) m).payload (bcell n') 0 j from rfl)) $$ Hp
  ihave #HI := (records_bar m K n') $$ HR
  icases HI with ⟨#HI, #Hr⟩
  iapply (Rounds.wp_signal 𝒱₀ ER (Rd m) (c : Thread nD τ) none (dst := (n' : Thread nD τ)) (κ := K (n', 0))
      (d := j) (by rw [duties_bar]; exact Finset.mem_univ _) (show (Rd (F := F) m).amount (bcell n') 0 j = _ from (by decide : (1 : ℕ) = _)) () (Os c (n + 1)) hO)
    $$ [HO Ht Hp]
  · isplitr; · iexact HI
    isplitl [HO]; · iexact HO
    isplitl [Ht]; · iexact Ht
    isplitl [Hp]; · iexact Hp
    iexact Hr
  iintro HO
  iapply Hk
  iexists W; iexact HO

/-- The wait on the barrier: every neighbour's places. -/
theorem barrier_step (c : Dev nD) {α : Type} {Q : α → sProp 𝕄} {k : PUnit → Prog (TpuEff nD τ sig (Elt F) Λ₀ .tc) α} :
    iprop(records m K ∗ Ow (F := F) c 5 ∗ cred (tallyAt (bcell c) () 5) ∗ atPos ER (bcell c) 0 ∅ 0)
      ⊢ iprop(((Ow (F := F) c 5 ∗ semVal (bcell c) 0 ∗ barPay (F := F) c 0 ∗ barPay (F := F) c 1 ∗ barPay (F := F) c 2 ∗ barPay (F := F) c 3 ∗ barPay (F := F) c 4)
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (BitVec.toInt 5#32)) k) Q) := by
  unfold Ow
  iintro ⟨#HR, ⟨%W, HO⟩, Hc, Hat⟩ Hk
  ihave #HI := (records_bar m K c) $$ HR
  icases HI with ⟨#HI, #Hr⟩
  iapply (Rounds.wp_wait_rest_token 𝒱₀ ER (Rd m) (c : Thread nD τ) none (κ := K (c, 0))
      (wpE_semWait_eq 𝒱₀ (c : Thread nD τ) none Set.univ) (Set.mem_univ _) () (O := Os c 5) (W := W) (R := 0) (m := 0) (T := ∅)
      (by rw [expect_bar]; decide)) $$ [Hc HO Hat]
  · isplitr; · iexact HI
    isplitl [Hc]; · iexact Hc
    isplitl [HO]; · iexact HO
    isplitr; · iapply (records_mayWait m K c (.reg barS) 5 1 (le_refl _) (by decide)); iexact HR
    iexact Hat
  iintro ⟨HO, Hat, -, Hpay⟩
  ihave Hp := (Entails.of_eq (rest_bar m c)) $$ Hpay
  imod (Rounds.cell_close ER (Rd m) (Set.mem_univ (K (c, 0))) (fun h => h) (R := 0 + 1) (duties_later m (bcell c))) $$ [Hat] with Hz
  · isplitr; · iexact HI
    iexact Hat
  iapply Hk
  isplitl [HO]; · iexists _; iexact HO
  isplitl [Hz]; · iexact Hz
  iexact Hp

/-- A wait on one of the device's transfer cells: what the cell hands over, the cell closed. -/
theorem wait_step (c : Dev nD) (q : DmaSem sig) (hq : q.val ≠ 0) {S : DmaSem sig} (hS : S = q)
    {sp sp' : Space} {s : Shape} {e : EltTy} {src : Memref sig .tc sp s e} {dst : Memref sig .tc sp' s e}
    {hsrc : src.view.WordExact} {hdst : dst.view.WordExact}
    (N : ℕ) (hN : dN q.val = N) (hd : dst.view.dmaCredit = N) (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () N) ∗ atPos ER (dcell c q) 0 ∅ 0)
      ⊢ iprop(((Ow (F := F) c n ∗ semVal (dcell c q) 0 ∗ dmaPay m c q.val)
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src dst hsrc hdst) k) Q) := by
  subst hS
  subst hd
  unfold Ow
  iintro ⟨#HR, ⟨%W, HO⟩, Hc, Hat⟩ Hk
  ihave #HI := (records_dma m K c S hq) $$ HR
  icases HI with ⟨#HI, #Hr⟩
  iapply (Rounds.wp_wait_rest_token 𝒱₀ ER (Rd m) (c : Thread nD τ) none (κ := K (c, S))
      (wpE_waitDma2_eq 𝒱₀ (c : Thread nD τ) none Set.univ) (Set.mem_univ _) () (O := Os c n) (W := W) (R := 0) (m := 0) (T := ∅)
      (by rw [Nat.zero_add, expect_dma, hN])) $$ [Hc HO Hat]
  · isplitr; · iexact HI
    isplitl [Hc]; · iexact Hc
    isplitl [HO]; · iexact HO
    isplitr; · iapply (records_mayWait m K c (.dma S) n l hl hn); iexact HR
    iexact Hat
  iintro ⟨HO, Hat, -, Hpay⟩
  ihave Hp := (Entails.of_eq (rest_dma m c S)) $$ Hpay
  imod (Rounds.cell_close ER (Rd m) (Set.mem_univ (K (c, S))) (fun h => h) (R := 0 + 1) (duties_later m (dcell c S))) $$ [Hat] with Hz
  · isplitr; · iexact HI
    iexact Hat
  iapply Hk
  isplitl [HO]; · iexists _; iexact HO
  isplitl [Hz]; · iexact Hz
  iexact Hp

/-- A remote copy between the same place of a buffer here and there: the source comes back by the send cell, the place written by the receive cell. -/
theorem send_step (c d n' : Dev nD) (hn : n' = d) (q₁ q₂ : DmaSem sig) (h₁ : q₁.val ≠ 0) (h₂ : q₂.val ≠ 0) {S₁ S₂ : DmaSem sig} (e₁ : S₁ = q₁) (e₂ : S₂ = q₂)
    {s : Shape} {e : EltTy} (M : Memref sig .tc .vmem s e) (I : Finset (Idx (M.view.loc (c : Thread nD τ)))) (hI : M.view.set = I) {hsc : M.view.ref.isScScratch = false}
    {hsrc hdst : M.view.WordExact} {hsem : DmaTarget.Typed .vmem (.dma S₂) (.remote (Dev.tc n' : Thread nD τ) M (.dma S₁) hsc)}
    (N : ℕ) (hN : M.view.dmaCredit = N) (hN₁ : dN q₁.val = N) (hN₂ : dN q₂.val = N) (q : PosShare TreeShare)
    (f g : Buf (Elt F) (M.view.loc (c : Thread nD τ))) (hfg : f = g)
    (hp₁ : (M.view.loc (c : Thread nD τ) ↦[I]{q} f : sProp 𝕄) ⊢ dmaPay m c q₁.val)
    (hp₂ : (M.view.loc (d : Thread nD τ) ↦[I]{fullShare} g : sProp 𝕄) ⊢ dmaPay m d q₂.val)
    (n : ℕ) (hO : Os c n = Os c (n + 1) + tallyAt (dcell d q₂) () N)
    {α : Type} {Q : α → sProp 𝕄} {k : PUnit → Prog (TpuEff nD τ sig (Elt F) Λ₀ .tc) α} :
    iprop(records m K ∗ Ow (F := F) c n ∗ dutyTok ER (dcell c q₁) 0 0 ∗ dutyTok ER (dcell d q₂) 0 0
        ∗ (M.view.loc (c : Thread nD τ) ↦[I]{q} f) ∗ ∃ f', (M.view.loc (d : Thread nD τ) ↦[I]{fullShare} f'))
      ⊢ iprop(((cred (tallyAt (dcell c q₁) () N) ∗ Ow (F := F) c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma M (.remote (Dev.tc n' : Thread nD τ) M (.dma S₁) hsc) (.dma S₂) hsrc hdst hsem) k) Q) := by
  subst hn e₁ e₂ hI hfg
  unfold Ow
  iintro ⟨#HR, ⟨%W, HO⟩, Ht₁, Ht₂, Hs, ⟨%f', Hd⟩⟩ Hk
  ihave #HI1 := (records_dma m K c S₁ h₁) $$ HR
  icases HI1 with ⟨#HI1, #Hr1⟩
  ihave #HI2 := (records_dma m K n' S₂ h₂) $$ HR
  icases HI2 with ⟨#HI2, #Hr2⟩
  iapply (Rounds.wp_send_pointsTo 𝒱₀ ER (Rd m) (c : Thread nD τ) none (κ₁ := K (c, S₁)) (κ₂ := K (n', S₂))
    (r₁ := 0) (r₂ := 0) (d₁ := 0) (d₂ := 0) (fs := f) (fd := f')
    (by rw [duties_dma]; exact Finset.mem_singleton_self _) (by rw [duties_dma]; exact Finset.mem_singleton_self _)
    () () N (show M.view.amount (.dma S₂) = N from hN) (show (Rd (F := F) m).amount (dcell c S₁) 0 0 = N from hN₁) (show (Rd (F := F) m).amount (dcell n' S₂) 0 0 = N from hN₂) (Os c (n + 1)) hO (W := W)
    hp₁
    (by
      refine BIBase.Entails.trans (Entails.of_eq ?_) hp₂
      rw [View.write_read_eq_piecewise]
      refine pointsTo_congr fun i hi => ?_
      rw [View.setOn_univ]
      exact Finset.piecewise_eq_of_mem _ _ _ hi)) $$ [HO Ht₁ Ht₂ Hs Hd]
  · isplitr; · iexact HI1
    isplitr; · iexact HI2
    isplitl [Hs]; · iexact Hs
    isplitl [Hd]; · iexact Hd
    isplitl [HO]; · iexact HO
    isplitl [Ht₁]; · iexact Ht₁
    isplitr; · iexact Hr1
    isplitl [Ht₂]; · iexact Ht₂
    iexact Hr2
  iintro ⟨Hc, HO⟩
  iapply Hk
  isplitl [Hc]; · iexact Hc
  iexists W; iexact HO

/-- The remote copy of one block of the gathered keys. -/
theorem send_k (c d n' : Dev nD) (hn : n' = d) (hF : KF m d = KF m c) (q₁ q₂ : DmaSem sig) (h₁ : q₁.val ≠ 0) (h₂ : q₂.val ≠ 0) {S₁ S₂ : DmaSem sig} (e₁ : S₁ = q₁) (e₂ : S₂ = q₂)
    (o i : ℕ) {off : Fin 4 → ℕ} (hoff : off = ![o, i, 0, 0]) (inb : ∀ a, off a + S1x1x1024x128.size a ≤ S4x2x1024x128.size a)
    {st} {sq} {hsc} {hsrc} {hdst} {hsem}
    (hN₁ : dN q₁.val = zN) (hN₂ : dN q₂.val = zN)
    (hp₁ : kP c o i fullShare.left (KF m c) ⊢ dmaPay m c q₁.val)
    (hp₂ : kP d o i fullShare (KF m d) ⊢ dmaPay m d q₂.val)
    (n : ℕ) (hO : Os c n = Os c (n + 1) + tallyAt (dcell d q₂) () zN)
    {α : Type} {Q : α → sProp 𝕄} {k : PUnit → Prog (TpuEff nD τ sig (Elt F) Λ₀ .tc) α} :
    iprop(records m K ∗ Ow (F := F) c n ∗ dutyTok ER (dcell c q₁) 0 0 ∗ dutyTok ER (dcell d q₂) 0 0
        ∗ kP c o i fullShare.left (KF m c) ∗ ∃ f', kP (F := F) d o i fullShare f')
      ⊢ iprop(((cred (tallyAt (dcell c q₁) () zN) ∗ Ow (F := F) c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch0 : Memref sig .tc .vmem S4x2x1024x128 .bf16).slice (Rect.unit (s := S4x2x1024x128) off S1x1x1024x128.size inb) st).squeeze S1x1024x128 sq)
                (.remote (Dev.tc n' : Thread nD τ) (((Memref.whole cc0_scratch0 : Memref sig .tc .vmem S4x2x1024x128 .bf16).slice (Rect.unit (s := S4x2x1024x128) off S1x1x1024x128.size inb) st).squeeze S1x1024x128 sq) (.dma S₁) hsc)
                (.dma S₂) hsrc hdst hsem) k) Q) :=
  send_step m K c d n' hn q₁ q₂ h₁ h₂ e₁ e₂
    (((Memref.whole cc0_scratch0 : Memref sig .tc .vmem S4x2x1024x128 .bf16).slice (Rect.unit (s := S4x2x1024x128) off S1x1x1024x128.size inb) st).squeeze S1x1024x128 sq) (kset o i)
    (by rw [show (((Memref.whole cc0_scratch0 : Memref sig .tc .vmem S4x2x1024x128 .bf16).slice (Rect.unit (s := S4x2x1024x128) off S1x1x1024x128.size inb) st).squeeze S1x1024x128 sq).view.set
          = ((View.whole cc0_scratch0).slice (Rect.unit (s := S4x2x1024x128) off S1x1x1024x128.size inb)).set from View.set_reshape _ _, View.set_slice_whole]; exact kset_rect hoff inb)
    zN rfl hN₁ hN₂ fullShare.left (KF m c) (KF m d) hF.symm hp₁ hp₂ n hO

/-- The remote copy of one block of the gathered values. -/
theorem send_v (c d n' : Dev nD) (hn : n' = d) (hF : VF m d = VF m c) (q₁ q₂ : DmaSem sig) (h₁ : q₁.val ≠ 0) (h₂ : q₂.val ≠ 0) {S₁ S₂ : DmaSem sig} (e₁ : S₁ = q₁) (e₂ : S₂ = q₂)
    (o i : ℕ) {off : Fin 4 → ℕ} (hoff : off = ![o, i, 0, 0]) (inb : ∀ a, off a + S1x1x1024x128.size a ≤ S4x2x1024x128.size a)
    {st} {sq} {hsc} {hsrc} {hdst} {hsem}
    (hN₁ : dN q₁.val = zN) (hN₂ : dN q₂.val = zN)
    (hp₁ : vP c o i fullShare.left (VF m c) ⊢ dmaPay m c q₁.val)
    (hp₂ : vP d o i fullShare (VF m d) ⊢ dmaPay m d q₂.val)
    (n : ℕ) (hO : Os c n = Os c (n + 1) + tallyAt (dcell d q₂) () zN)
    {α : Type} {Q : α → sProp 𝕄} {k : PUnit → Prog (TpuEff nD τ sig (Elt F) Λ₀ .tc) α} :
    iprop(records m K ∗ Ow (F := F) c n ∗ dutyTok ER (dcell c q₁) 0 0 ∗ dutyTok ER (dcell d q₂) 0 0
        ∗ vP c o i fullShare.left (VF m c) ∗ ∃ f', vP (F := F) d o i fullShare f')
      ⊢ iprop(((cred (tallyAt (dcell c q₁) () zN) ∗ Ow (F := F) c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (((Memref.whole cc0_scratch1 : Memref sig .tc .vmem S4x2x1024x128 .bf16).slice (Rect.unit (s := S4x2x1024x128) off S1x1x1024x128.size inb) st).squeeze S1x1024x128 sq)
                (.remote (Dev.tc n' : Thread nD τ) (((Memref.whole cc0_scratch1 : Memref sig .tc .vmem S4x2x1024x128 .bf16).slice (Rect.unit (s := S4x2x1024x128) off S1x1x1024x128.size inb) st).squeeze S1x1024x128 sq) (.dma S₁) hsc)
                (.dma S₂) hsrc hdst hsem) k) Q) :=
  send_step m K c d n' hn q₁ q₂ h₁ h₂ e₁ e₂
    (((Memref.whole cc0_scratch1 : Memref sig .tc .vmem S4x2x1024x128 .bf16).slice (Rect.unit (s := S4x2x1024x128) off S1x1x1024x128.size inb) st).squeeze S1x1024x128 sq) (kset o i)
    (by rw [show (((Memref.whole cc0_scratch1 : Memref sig .tc .vmem S4x2x1024x128 .bf16).slice (Rect.unit (s := S4x2x1024x128) off S1x1x1024x128.size inb) st).squeeze S1x1024x128 sq).view.set
          = ((View.whole cc0_scratch1).slice (Rect.unit (s := S4x2x1024x128) off S1x1x1024x128.size inb)).set from View.set_reshape _ _, View.set_slice_whole]; exact kset_rect hoff inb)
    zN rfl hN₁ hN₂ fullShare.left (VF m c) (VF m d) hF.symm hp₁ hp₂ n hO

/-- The remote copy of one pair of the gathered heads. -/
theorem send_g (c d n' : Dev nD) (hn : n' = d) (hF : OG m d = OG m c) (q₁ q₂ : DmaSem sig) (h₁ : q₁.val ≠ 0) (h₂ : q₂.val ≠ 0) {S₁ S₂ : DmaSem sig} (e₁ : S₁ = q₁) (e₂ : S₂ = q₂)
    (o : ℕ) {off : Fin 3 → ℕ} (hoff : off = ![2 * o, 0, 0]) (inb : ∀ a, off a + S2x1024x128.size a ≤ S16x1024x128.size a)
    {st} {hsc} {hsrc} {hdst} {hsem}
    (hN₁ : dN q₁.val = gN) (hN₂ : dN q₂.val = gN)
    (hp₁ : gP c o (OG m c) ⊢ dmaPay m c q₁.val)
    (hp₂ : gP d o (OG m d) ⊢ dmaPay m d q₂.val)
    (n : ℕ) (hO : Os c n = Os c (n + 1) + tallyAt (dcell d q₂) () gN)
    {α : Type} {Q : α → sProp 𝕄} {k : PUnit → Prog (TpuEff nD τ sig (Elt F) Λ₀ .tc) α} :
    iprop(records m K ∗ Ow (F := F) c n ∗ dutyTok ER (dcell c q₁) 0 0 ∗ dutyTok ER (dcell d q₂) 0 0
        ∗ gP c o (OG m c) ∗ ∃ f', gP (F := F) d o f')
      ⊢ iprop(((cred (tallyAt (dcell c q₁) () gN) ∗ Ow (F := F) c (n + 1)) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ((Memref.whole cc0_scratch5 : Memref sig .tc .vmem S16x1024x128 .bf16).slice (Rect.unit (s := S16x1024x128) off S2x1024x128.size inb) st)
                (.remote (Dev.tc n' : Thread nD τ) ((Memref.whole cc0_scratch5 : Memref sig .tc .vmem S16x1024x128 .bf16).slice (Rect.unit (s := S16x1024x128) off S2x1024x128.size inb) st) (.dma S₁) hsc)
                (.dma S₂) hsrc hdst hsem) k) Q) :=
  send_step m K c d n' hn q₁ q₂ h₁ h₂ e₁ e₂
    ((Memref.whole cc0_scratch5 : Memref sig .tc .vmem S16x1024x128 .bf16).slice (Rect.unit (s := S16x1024x128) off S2x1024x128.size inb) st) (gset o)
    (by rw [show ((Memref.whole cc0_scratch5 : Memref sig .tc .vmem S16x1024x128 .bf16).slice (Rect.unit (s := S16x1024x128) off S2x1024x128.size inb) st).view.set
          = ((View.whole cc0_scratch5).slice (Rect.unit (s := S16x1024x128) off S2x1024x128.size inb)).set from rfl, View.set_slice_whole]; exact gset_rect hoff inb)
    gN rfl hN₁ hN₂ fullShare (OG m c) (OG m d) hF.symm hp₁ hp₂ n hO

/-- The local copy of a device's two heads of its queries. -/
theorem copy_q (c : Dev nD) {S : DmaSem sig} (e : S = (39 : Fin 42)) {hsrc} {hdst} {hsem} (f : Buf (Elt F) ((c : Thread nD τ).loc cc0_scratch6))
    {α : Type} {Q : α → sProp 𝕄} {k : PUnit → Prog (TpuEff nD τ sig (Elt F) Λ₀ .tc) α} :
    iprop(records m K ∗ ((mQ c).view.loc (c : Thread nD τ) ↦[(mQ c).view.set]{fullShare} m ((c : Thread nD τ).loc main_arg0))
        ∗ (((c : Thread nD τ).loc cc0_scratch6) ↦{fullShare} f) ∗ dutyTok ER (dcell c (39 : Fin 42)) 0 0)
      ⊢ iprop((cred (tallyAt (dcell c (39 : Fin 42)) () cN) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mQ c) (.here (Memref.whole cc0_scratch6 : Memref sig .tc .vmem S1024x2x128 .f32)) (.dma S) hsrc hdst hsem) k) Q) := by
  subst e
  iintro ⟨#HR, Hs, Hd, Ht⟩ Hk
  ihave #HI := (records_dma m K c (39 : Fin 42) (by decide)) $$ HR
  icases HI with ⟨#HI, #Hr⟩
  iapply (Rounds.wp_copy_pointsTo 𝒱₀ ER (Rd m) (c : Thread nD τ) none (κ := K (c, (39 : Fin 42))) (r := 0) (d := 0)
    (dst := (Memref.whole cc0_scratch6 : Memref sig .tc .vmem S1024x2x128 .f32)) (fd := f) (q := fullShare) (fs := m ((c : Thread nD τ).loc main_arg0))
    (by rw [duties_dma]; exact Finset.mem_singleton_self _) () cN rfl rfl
    (by
      show _ ⊢ qC m c
      unfold qC
      refine sep_mono (Entails.of_eq ?_) (Entails.refl _)
      rw [show (Memref.whole cc0_scratch6 : Memref sig .tc .vmem S1024x2x128 .f32).view.set = Finset.univ from View.set_whole _]
      exact congrArg (fun g => (((c : Thread nD τ).loc cc0_scratch6) ↦{fullShare} g : sProp 𝕄)) (View.write_whole_univ _ _ _))) $$ [Hs Hd Ht]
  · isplitr; · iexact HI
    isplitl [Hs]; · iexact Hs
    isplitl [Hd]
    · rw [show (Memref.whole cc0_scratch6 : Memref sig .tc .vmem S1024x2x128 .f32).view.set = Finset.univ from View.set_whole _]
      iexact Hd
    isplitl [Ht]; · iexact Ht
    iexact Hr
  iexact Hk

/-- The local copy of a device's two heads of its keys. -/
theorem copy_k (c : Dev nD) {S : DmaSem sig} (e : S = (40 : Fin 42)) {hsrc} {hdst} {hsem} (f : Buf (Elt F) ((c : Thread nD τ).loc cc0_scratch7))
    {α : Type} {Q : α → sProp 𝕄} {k : PUnit → Prog (TpuEff nD τ sig (Elt F) Λ₀ .tc) α} :
    iprop(records m K ∗ ((mK c).view.loc (c : Thread nD τ) ↦[(mK c).view.set]{fullShare} m ((c : Thread nD τ).loc main_arg1))
        ∗ (((c : Thread nD τ).loc cc0_scratch7) ↦{fullShare} f) ∗ dutyTok ER (dcell c (40 : Fin 42)) 0 0)
      ⊢ iprop((cred (tallyAt (dcell c (40 : Fin 42)) () cN) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mK c) (.here (Memref.whole cc0_scratch7 : Memref sig .tc .vmem S1024x2x128 .f32)) (.dma S) hsrc hdst hsem) k) Q) := by
  subst e
  iintro ⟨#HR, Hs, Hd, Ht⟩ Hk
  ihave #HI := (records_dma m K c (40 : Fin 42) (by decide)) $$ HR
  icases HI with ⟨#HI, #Hr⟩
  iapply (Rounds.wp_copy_pointsTo 𝒱₀ ER (Rd m) (c : Thread nD τ) none (κ := K (c, (40 : Fin 42))) (r := 0) (d := 0)
    (dst := (Memref.whole cc0_scratch7 : Memref sig .tc .vmem S1024x2x128 .f32)) (fd := f) (q := fullShare) (fs := m ((c : Thread nD τ).loc main_arg1))
    (by rw [duties_dma]; exact Finset.mem_singleton_self _) () cN rfl rfl
    (by
      show _ ⊢ kC m c
      unfold kC
      refine sep_mono (Entails.of_eq ?_) (Entails.refl _)
      rw [show (Memref.whole cc0_scratch7 : Memref sig .tc .vmem S1024x2x128 .f32).view.set = Finset.univ from View.set_whole _]
      exact congrArg (fun g => (((c : Thread nD τ).loc cc0_scratch7) ↦{fullShare} g : sProp 𝕄)) (View.write_whole_univ _ _ _))) $$ [Hs Hd Ht]
  · isplitr; · iexact HI
    isplitl [Hs]; · iexact Hs
    isplitl [Hd]
    · rw [show (Memref.whole cc0_scratch7 : Memref sig .tc .vmem S1024x2x128 .f32).view.set = Finset.univ from View.set_whole _]
      iexact Hd
    isplitl [Ht]; · iexact Ht
    iexact Hr
  iexact Hk

/-- The local copy of a device's two heads of its values. -/
theorem copy_v (c : Dev nD) {S : DmaSem sig} (e : S = (41 : Fin 42)) {hsrc} {hdst} {hsem} (f : Buf (Elt F) ((c : Thread nD τ).loc cc0_scratch8))
    {α : Type} {Q : α → sProp 𝕄} {k : PUnit → Prog (TpuEff nD τ sig (Elt F) Λ₀ .tc) α} :
    iprop(records m K ∗ ((mV c).view.loc (c : Thread nD τ) ↦[(mV c).view.set]{fullShare} m ((c : Thread nD τ).loc main_arg2))
        ∗ (((c : Thread nD τ).loc cc0_scratch8) ↦{fullShare} f) ∗ dutyTok ER (dcell c (41 : Fin 42)) 0 0)
      ⊢ iprop((cred (tallyAt (dcell c (41 : Fin 42)) () cN) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (mV c) (.here (Memref.whole cc0_scratch8 : Memref sig .tc .vmem S1024x2x128 .f32)) (.dma S) hsrc hdst hsem) k) Q) := by
  subst e
  iintro ⟨#HR, Hs, Hd, Ht⟩ Hk
  ihave #HI := (records_dma m K c (41 : Fin 42) (by decide)) $$ HR
  icases HI with ⟨#HI, #Hr⟩
  iapply (Rounds.wp_copy_pointsTo 𝒱₀ ER (Rd m) (c : Thread nD τ) none (κ := K (c, (41 : Fin 42))) (r := 0) (d := 0)
    (dst := (Memref.whole cc0_scratch8 : Memref sig .tc .vmem S1024x2x128 .f32)) (fd := f) (q := fullShare) (fs := m ((c : Thread nD τ).loc main_arg2))
    (by rw [duties_dma]; exact Finset.mem_singleton_self _) () cN rfl rfl
    (by
      show _ ⊢ vC m c
      unfold vC
      refine sep_mono (Entails.of_eq ?_) (Entails.refl _)
      rw [show (Memref.whole cc0_scratch8 : Memref sig .tc .vmem S1024x2x128 .f32).view.set = Finset.univ from View.set_whole _]
      exact congrArg (fun g => (((c : Thread nD τ).loc cc0_scratch8) ↦{fullShare} g : sProp 𝕄)) (View.write_whole_univ _ _ _))) $$ [Hs Hd Ht]
  · isplitr; · iexact HI
    isplitl [Hs]; · iexact Hs
    isplitl [Hd]
    · rw [show (Memref.whole cc0_scratch8 : Memref sig .tc .vmem S1024x2x128 .f32).view.set = Finset.univ from View.set_whole _]
      iexact Hd
    isplitl [Ht]; · iexact Ht
    iexact Hr
  iexact Hk

end Cert.KernelIdealProof

end
-- ==== Proof.KernelIdealGhost.lean ====
/-
# What the launch gives each device, and how it is dealt out

The cells' invariants are opened for all devices at once, each duty's token goes to the device that pays it, and the
launch's credit becomes each cell's credit.
-/
module

public import proofs.«01_k».proof.Proof.KernelIdealSteps
public import proofs.«01_k».proof.Proof.Gen.KernelIdeal.Launch

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## Cells and tokens, each once -/

theorem csem_injective : Function.Injective csem := by decide +kernel
theorem kcell_injective : Function.Injective (kcell : Dev nD × Fin 42 → GSem nD τ sig) := by
  rintro ⟨c, k⟩ ⟨c', k'⟩ h
  have h1 : c = c' := congrArg (fun g : GSem nD τ sig => g.1.1) h
  have h2 : k = k' := csem_injective (congrArg Prod.snd h)
  rw [h1, h2]
/-- Every cell of every device. -/
def theCells : Finset (GSem nD τ sig) := Finset.univ.map ⟨kcell, kcell_injective⟩

/-- The place of duty `j` among a device's cells. -/
abbrev place (j : Fin 46) : SemLoc sig × Fin 5 :=
  if h : j.val < 5 then (.reg barS, ⟨j.val, h⟩) else (.dma (⟨j.val - 4, by have := j.isLt; omega⟩ : Fin 42), 0)
theorem place_injective : Function.Injective place := by decide +kernel
theorem tokOf_place (c : Dev nD) (j : Fin 46) : ((tokOf (c, j)).1.1.1, (tokOf (c, j)).1.2, (tokOf (c, j)).2.2) = (c, (place j).1, (place j).2) := by
  unfold tokOf place
  by_cases h : j.val < 5
  · rw [dif_pos h, dif_pos h]
  · rw [dif_neg h, dif_neg h]
theorem tokOf_injective : Function.Injective (tokOf : Dev nD × Fin 46 → GSem nD τ sig × ℕ × Fin 5) := by
  rintro ⟨c, j⟩ ⟨c', j'⟩ h
  have e : (c, (place j).1, (place j).2) = (c', (place j').1, (place j').2) := by rw [← tokOf_place c j, ← tokOf_place c' j', h]
  have h1 : c = c' := congrArg Prod.fst e
  have h2 : j = j' := place_injective (congrArg Prod.snd e)
  rw [h1, h2]
/-- Every duty of every device. -/
def theToks : Finset (GSem nD τ sig × ℕ × Fin 5) := Finset.univ.map ⟨tokOf, tokOf_injective⟩

def u₀ : UU := (initOf (Pipeline.cells cfgs cellOf_inj) (Pipeline.launchToks cfgs cellOf_inj), initOf theCells theToks)

/-- One duty's token. -/
def tok (x : Dev nD × Fin 46) : sProp 𝕄 := dutyTok ER (tokOf x).1 (tokOf x).2.1 (tokOf x).2.2
/-- The tokens of a device's own duties. -/
def toks (c : Dev nD) : sProp 𝕄 := bigSep Finset.univ fun j : Fin 46 => tok (F := F) (c, j)
/-- The tokens of the duties a device pays. -/
def payToks (c : Dev nD) : sProp 𝕄 := bigSep Finset.univ fun j : Fin 46 => tok (F := F) (payTo j.val c, j)
/-- A device's positions in its cells. -/
def poss (c : Dev nD) : sProp 𝕄 := bigSep Finset.univ fun k : Fin 42 => atPos ER (kcell (c, k)) 0 ∅ 0
/-- A device's cells, all at zero. -/
def zeros (c : Dev nD) : sProp 𝕄 := bigSep Finset.univ fun k : Fin 42 => semVal (kcell (c, k)) 0

theorem bigSep_42 (Φ : Fin 42 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41) :=
  bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41] : List (Fin 42)) (by decide) (by decide) Φ
theorem bigSep_46 (Φ : Fin 46 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21 ∗ Φ 22 ∗ Φ 23 ∗ Φ 24 ∗ Φ 25 ∗ Φ 26 ∗ Φ 27 ∗ Φ 28 ∗ Φ 29 ∗ Φ 30 ∗ Φ 31 ∗ Φ 32 ∗ Φ 33 ∗ Φ 34 ∗ Φ 35 ∗ Φ 36 ∗ Φ 37 ∗ Φ 38 ∗ Φ 39 ∗ Φ 40 ∗ Φ 41 ∗ Φ 42 ∗ Φ 43 ∗ Φ 44 ∗ Φ 45) :=
  bigSep_univ_eq_bigSepL ([0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45] : List (Fin 46)) (by decide) (by decide) Φ
theorem poss_eq (c : Dev nD) : (poss c : sProp 𝕄) = iprop(atPos ER (bcell c) 0 ∅ 0 ∗ atPos ER (dcell c (1 : Fin 42)) 0 ∅ 0 ∗ atPos ER (dcell c (2 : Fin 42)) 0 ∅ 0 ∗ atPos ER (dcell c (3 : Fin 42)) 0 ∅ 0 ∗ atPos ER (dcell c (4 : Fin 42)) 0 ∅ 0 ∗ atPos ER (dcell c (5 : Fin 42)) 0 ∅ 0 ∗ atPos ER (dcell c (6 : Fin 42)) 0 ∅ 0 ∗ atPos ER (dcell c (7 : Fin 42)) 0 ∅ 0 ∗ atPos ER (dcell c (8 : Fin 42)) 0 ∅ 0 ∗ atPos ER (dcell c (9 : Fin 42)) 0 ∅ 0 ∗ atPos ER (dcell c (10 : Fin 42)) 0 ∅ 0 ∗ atPos ER (dcell c (11 : Fin 42)) 0 ∅ 0 ∗ atPos ER (dcell c (12 : Fin 42)) 0 ∅ 0 ∗ atPos ER (dcell c (13 : Fin 42)) 0 ∅ 0 ∗ atPos ER (dcell c (14 : Fin 42)) 0 ∅ 0 ∗ atPos ER (dcell c (15 : Fin 42)) 0 ∅ 0 ∗ atPos ER (dcell c (16 : Fin 42)) 0 ∅ 0 ∗ atPos ER (dcell c (17 : Fin 42)) 0 ∅ 0 ∗ atPos ER (dcell c (18 : Fin 42)) 0 ∅ 0 ∗ atPos ER (dcell c (19 : Fin 42)) 0 ∅ 0 ∗ atPos ER (dcell c (20 : Fin 42)) 0 ∅ 0 ∗ atPos ER (dcell c (21 : Fin 42)) 0 ∅ 0 ∗ atPos ER (dcell c (22 : Fin 42)) 0 ∅ 0 ∗ atPos ER (dcell c (23 : Fin 42)) 0 ∅ 0 ∗ atPos ER (dcell c (24 : Fin 42)) 0 ∅ 0 ∗ atPos ER (dcell c (25 : Fin 42)) 0 ∅ 0 ∗ atPos ER (dcell c (26 : Fin 42)) 0 ∅ 0 ∗ atPos ER (dcell c (27 : Fin 42)) 0 ∅ 0 ∗ atPos ER (dcell c (28 : Fin 42)) 0 ∅ 0 ∗ atPos ER (dcell c (29 : Fin 42)) 0 ∅ 0 ∗ atPos ER (dcell c (30 : Fin 42)) 0 ∅ 0 ∗ atPos ER (dcell c (31 : Fin 42)) 0 ∅ 0 ∗ atPos ER (dcell c (32 : Fin 42)) 0 ∅ 0 ∗ atPos ER (dcell c (33 : Fin 42)) 0 ∅ 0 ∗ atPos ER (dcell c (34 : Fin 42)) 0 ∅ 0 ∗ atPos ER (dcell c (35 : Fin 42)) 0 ∅ 0 ∗ atPos ER (dcell c (36 : Fin 42)) 0 ∅ 0 ∗ atPos ER (dcell c (37 : Fin 42)) 0 ∅ 0 ∗ atPos ER (dcell c (38 : Fin 42)) 0 ∅ 0 ∗ atPos ER (dcell c (39 : Fin 42)) 0 ∅ 0 ∗ atPos ER (dcell c (40 : Fin 42)) 0 ∅ 0 ∗ atPos ER (dcell c (41 : Fin 42)) 0 ∅ 0) := by
  unfold poss
  rw [bigSep_42]
  rfl
theorem zeros_eq (c : Dev nD) : (zeros c : sProp 𝕄) = iprop(semVal (bcell c) 0 ∗ semVal (dcell c (1 : Fin 42)) 0 ∗ semVal (dcell c (2 : Fin 42)) 0 ∗ semVal (dcell c (3 : Fin 42)) 0 ∗ semVal (dcell c (4 : Fin 42)) 0 ∗ semVal (dcell c (5 : Fin 42)) 0 ∗ semVal (dcell c (6 : Fin 42)) 0 ∗ semVal (dcell c (7 : Fin 42)) 0 ∗ semVal (dcell c (8 : Fin 42)) 0 ∗ semVal (dcell c (9 : Fin 42)) 0 ∗ semVal (dcell c (10 : Fin 42)) 0 ∗ semVal (dcell c (11 : Fin 42)) 0 ∗ semVal (dcell c (12 : Fin 42)) 0 ∗ semVal (dcell c (13 : Fin 42)) 0 ∗ semVal (dcell c (14 : Fin 42)) 0 ∗ semVal (dcell c (15 : Fin 42)) 0 ∗ semVal (dcell c (16 : Fin 42)) 0 ∗ semVal (dcell c (17 : Fin 42)) 0 ∗ semVal (dcell c (18 : Fin 42)) 0 ∗ semVal (dcell c (19 : Fin 42)) 0 ∗ semVal (dcell c (20 : Fin 42)) 0 ∗ semVal (dcell c (21 : Fin 42)) 0 ∗ semVal (dcell c (22 : Fin 42)) 0 ∗ semVal (dcell c (23 : Fin 42)) 0 ∗ semVal (dcell c (24 : Fin 42)) 0 ∗ semVal (dcell c (25 : Fin 42)) 0 ∗ semVal (dcell c (26 : Fin 42)) 0 ∗ semVal (dcell c (27 : Fin 42)) 0 ∗ semVal (dcell c (28 : Fin 42)) 0 ∗ semVal (dcell c (29 : Fin 42)) 0 ∗ semVal (dcell c (30 : Fin 42)) 0 ∗ semVal (dcell c (31 : Fin 42)) 0 ∗ semVal (dcell c (32 : Fin 42)) 0 ∗ semVal (dcell c (33 : Fin 42)) 0 ∗ semVal (dcell c (34 : Fin 42)) 0 ∗ semVal (dcell c (35 : Fin 42)) 0 ∗ semVal (dcell c (36 : Fin 42)) 0 ∗ semVal (dcell c (37 : Fin 42)) 0 ∗ semVal (dcell c (38 : Fin 42)) 0 ∗ semVal (dcell c (39 : Fin 42)) 0 ∗ semVal (dcell c (40 : Fin 42)) 0 ∗ semVal (dcell c (41 : Fin 42)) 0) := by
  unfold zeros
  rw [bigSep_42]
  rfl
set_option maxRecDepth 20000 in
theorem payToks_eq (c : Dev nD) : (payToks c : sProp 𝕄) = iprop(dutyTok ER (bcell (zl c)) 0 0 ∗ dutyTok ER (bcell (zr c)) 0 1 ∗ dutyTok ER (bcell (xp c)) 0 2 ∗ dutyTok ER (bcell (yd c)) 0 3 ∗ dutyTok ER (bcell (yu c)) 0 4 ∗ dutyTok ER (dcell c (1 : Fin 42)) 0 0 ∗ dutyTok ER (dcell c (2 : Fin 42)) 0 0 ∗ dutyTok ER (dcell c (3 : Fin 42)) 0 0 ∗ dutyTok ER (dcell c (4 : Fin 42)) 0 0 ∗ dutyTok ER (dcell c (5 : Fin 42)) 0 0 ∗ dutyTok ER (dcell c (6 : Fin 42)) 0 0 ∗ dutyTok ER (dcell c (7 : Fin 42)) 0 0 ∗ dutyTok ER (dcell c (8 : Fin 42)) 0 0 ∗ dutyTok ER (dcell c (9 : Fin 42)) 0 0 ∗ dutyTok ER (dcell c (10 : Fin 42)) 0 0 ∗ dutyTok ER (dcell c (11 : Fin 42)) 0 0 ∗ dutyTok ER (dcell c (12 : Fin 42)) 0 0 ∗ dutyTok ER (dcell (zr c) (13 : Fin 42)) 0 0 ∗ dutyTok ER (dcell (zr c) (14 : Fin 42)) 0 0 ∗ dutyTok ER (dcell (zr c) (15 : Fin 42)) 0 0 ∗ dutyTok ER (dcell (zr c) (16 : Fin 42)) 0 0 ∗ dutyTok ER (dcell (zr c) (17 : Fin 42)) 0 0 ∗ dutyTok ER (dcell (zr c) (18 : Fin 42)) 0 0 ∗ dutyTok ER (dcell (zl c) (19 : Fin 42)) 0 0 ∗ dutyTok ER (dcell (zl c) (20 : Fin 42)) 0 0 ∗ dutyTok ER (dcell (zl c) (21 : Fin 42)) 0 0 ∗ dutyTok ER (dcell (zl c) (22 : Fin 42)) 0 0 ∗ dutyTok ER (dcell (zl c) (23 : Fin 42)) 0 0 ∗ dutyTok ER (dcell (zl c) (24 : Fin 42)) 0 0 ∗ dutyTok ER (dcell c (25 : Fin 42)) 0 0 ∗ dutyTok ER (dcell (xp c) (26 : Fin 42)) 0 0 ∗ dutyTok ER (dcell c (27 : Fin 42)) 0 0 ∗ dutyTok ER (dcell c (28 : Fin 42)) 0 0 ∗ dutyTok ER (dcell c (29 : Fin 42)) 0 0 ∗ dutyTok ER (dcell c (30 : Fin 42)) 0 0 ∗ dutyTok ER (dcell c (31 : Fin 42)) 0 0 ∗ dutyTok ER (dcell c (32 : Fin 42)) 0 0 ∗ dutyTok ER (dcell (yu c) (33 : Fin 42)) 0 0 ∗ dutyTok ER (dcell (yu c) (34 : Fin 42)) 0 0 ∗ dutyTok ER (dcell (yu c) (35 : Fin 42)) 0 0 ∗ dutyTok ER (dcell (yd c) (36 : Fin 42)) 0 0 ∗ dutyTok ER (dcell (yd c) (37 : Fin 42)) 0 0 ∗ dutyTok ER (dcell (yd c) (38 : Fin 42)) 0 0 ∗ dutyTok ER (dcell c (39 : Fin 42)) 0 0 ∗ dutyTok ER (dcell c (40 : Fin 42)) 0 0 ∗ dutyTok ER (dcell c (41 : Fin 42)) 0 0) := by
  unfold payToks
  rw [bigSep_46]
  rfl

/-- Who pays what, as one permutation of all duties. -/
def payAll : Dev nD × Fin 46 ≃ Dev nD × Fin 46 where
  toFun x := (payTo x.2.val x.1, x.2)
  invFun x := ((payTo x.2.val).symm x.1, x.2)
  left_inv x := by simp
  right_inv x := by simp
/-- The tokens dealt from the devices that own the cells to the devices that pay. -/
theorem toks_dealt : (bigSep Finset.univ fun c : Dev nD => (toks c : sProp 𝕄)) = bigSep Finset.univ fun c : Dev nD => payToks c := by
  unfold toks payToks
  rw [← bigSep_univ_prod (fun x : Dev nD × Fin 46 => tok (F := F) x), bigSep_univ_equiv payAll (fun x : Dev nD × Fin 46 => tok (F := F) x), bigSep_univ_prod]
  rfl

/-! ## The semaphores -/

/-- The kernel's own semaphores: all transfer semaphores but the pipeline's. -/
abbrev osem : Fin 41 → SemLoc sig := fun k => .dma (k.succ : Fin 42)
theorem ownSemFacts : Pipeline.OwnSemFacts cfg0.spec osem := by decide +kernel

theorem ownSems0_eq (c : Dev nD) : (Pipeline.ownSems0 (Ix := Unit) (Name := ℕ) (U := UU) (Lvl := ℕ) (Val := Elt F) (τ := τ) osem c : sProp 𝕄)
    = iprop(semVal (dcell c (1 : Fin 42)) 0 ∗ semVal (dcell c (2 : Fin 42)) 0 ∗ semVal (dcell c (3 : Fin 42)) 0 ∗ semVal (dcell c (4 : Fin 42)) 0 ∗ semVal (dcell c (5 : Fin 42)) 0 ∗ semVal (dcell c (6 : Fin 42)) 0 ∗ semVal (dcell c (7 : Fin 42)) 0 ∗ semVal (dcell c (8 : Fin 42)) 0 ∗ semVal (dcell c (9 : Fin 42)) 0 ∗ semVal (dcell c (10 : Fin 42)) 0 ∗ semVal (dcell c (11 : Fin 42)) 0 ∗ semVal (dcell c (12 : Fin 42)) 0 ∗ semVal (dcell c (13 : Fin 42)) 0 ∗ semVal (dcell c (14 : Fin 42)) 0 ∗ semVal (dcell c (15 : Fin 42)) 0 ∗ semVal (dcell c (16 : Fin 42)) 0 ∗ semVal (dcell c (17 : Fin 42)) 0 ∗ semVal (dcell c (18 : Fin 42)) 0 ∗ semVal (dcell c (19 : Fin 42)) 0 ∗ semVal (dcell c (20 : Fin 42)) 0 ∗ semVal (dcell c (21 : Fin 42)) 0 ∗ semVal (dcell c (22 : Fin 42)) 0 ∗ semVal (dcell c (23 : Fin 42)) 0 ∗ semVal (dcell c (24 : Fin 42)) 0 ∗ semVal (dcell c (25 : Fin 42)) 0 ∗ semVal (dcell c (26 : Fin 42)) 0 ∗ semVal (dcell c (27 : Fin 42)) 0 ∗ semVal (dcell c (28 : Fin 42)) 0 ∗ semVal (dcell c (29 : Fin 42)) 0 ∗ semVal (dcell c (30 : Fin 42)) 0 ∗ semVal (dcell c (31 : Fin 42)) 0 ∗ semVal (dcell c (32 : Fin 42)) 0 ∗ semVal (dcell c (33 : Fin 42)) 0 ∗ semVal (dcell c (34 : Fin 42)) 0 ∗ semVal (dcell c (35 : Fin 42)) 0 ∗ semVal (dcell c (36 : Fin 42)) 0 ∗ semVal (dcell c (37 : Fin 42)) 0 ∗ semVal (dcell c (38 : Fin 42)) 0 ∗ semVal (dcell c (39 : Fin 42)) 0 ∗ semVal (dcell c (40 : Fin 42)) 0 ∗ semVal (dcell c (41 : Fin 42)) 0) := by
  rw [Pipeline.ownSems0_eq_of_list c osem ([0, 1, 2, 3, 4, 5, 6, 7, 8, 9, 10, 11, 12, 13, 14, 15, 16, 17, 18, 19, 20, 21, 22, 23, 24, 25, 26, 27, 28, 29, 30, 31, 32, 33, 34, 35, 36, 37, 38, 39, 40] : List (Fin 41)) (by decide) (by decide)]; rfl
theorem unscopedSems0_eq (c : Dev nD) : (unscopedSems0 c : sProp 𝕄) = semVal (bcell c) 0 := by
  unfold unscopedSems0; rw [bigSep_eq_bigSepL_of_eq [SemLoc.reg barS] (by decide) (by decide)]; rfl
theorem sems0_eq (c : Dev nD) :
    (zeros c : sProp 𝕄) = iprop(unscopedSems0 c ∗ Pipeline.ownSems0 (Ix := Unit) (Name := ℕ) (U := UU) (Lvl := ℕ) (Val := Elt F) (τ := τ) osem c) := by
  rw [ownSems0_eq, unscopedSems0_eq, zeros_eq]

/-! ## Invariants for all cells -/

/-- What the launch's ghost element gives device `c`. -/
def G (c : Dev nD) : sProp 𝕄 :=
  iprop((bigSep Finset.univ fun k : Fin 42 => roundState ER (Rd m) (kcell (c, k)) 0)
    ∗ (bigSep Finset.univ fun k : Fin 42 => reached ER (kcell (c, k)) 0) ∗ poss c ∗ toks c)

/-- The records without the levels. -/
def recs (K : Dev nD × Fin 42 → ℕ) : sProp 𝕄 :=
  iprop((bigSep Finset.univ fun ck : Dev nD × Fin 42 => cellInv ER (Rd m) (K ck) (kcell ck))
    ∗ bigSep Finset.univ fun ck : Dev nD × Fin 42 => reached ER (kcell ck) 0)
instance recs_persistent (K : Dev nD × Fin 42 → ℕ) : BI.Persistent (recs (F := F) m K) := by unfold recs; infer_instance
/-- What device `c` holds of the cells once the tokens are dealt. -/
def G' (c : Dev nD) : sProp 𝕄 := iprop((∃ K, recs m K) ∗ poss c ∗ payToks c)

theorem by_device (Φ : GSem nD τ sig → sProp 𝕄) :
    bigSep theCells Φ = bigSep Finset.univ fun c : Dev nD => bigSep Finset.univ fun k : Fin 42 => Φ (kcell (c, k)) := by
  unfold theCells; rw [bigSep_map, bigSep_univ_prod]; rfl
theorem toks_by_device : bigSep theToks (fun x => (dutyTok ER x.1 x.2.1 x.2.2 : sProp 𝕄)) = bigSep Finset.univ fun c : Dev nD => toks c := by
  unfold theToks; rw [bigSep_map, bigSep_univ_prod]; rfl

theorem fund_all : BI.own (ER (initOf theCells theToks)) ⊢ (|==> bigSep Finset.univ (G m) : sProp 𝕄) := by
  iintro HX
  imod (Rounds.fund ER (Rd m) theCells theToks) $$ HX with ⟨Hst, Hr, Hat, Htok⟩
  imodintro
  ihave Hst := (Entails.of_eq (by_device fun g => roundState ER (Rd m) g 0)) $$ Hst
  ihave Hr := (Entails.of_eq (by_device (F := F) fun g => reached ER g 0)) $$ Hr
  ihave Hat := (Entails.of_eq (by_device (F := F) fun g => atPos ER g 0 ∅ 0)) $$ Hat
  ihave Htok := (Entails.of_eq (toks_by_device (F := F))) $$ Htok
  unfold G poss; simp only [bigSep_sep']
  isplitl [Hst]; · iexact Hst
  isplitl [Hr]; · iexact Hr
  isplitl [Hat]; · iexact Hat
  iexact Htok

/-- One device's cells get their invariants. -/
theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : Fin 42 => reached ER (kcell (c, k)) 0) ∗ poss c ∗ toks c) := by
  unfold G
  iintro ⟨Hos, Hus, Hst, Hr, Hat, Htok⟩
  ihave Hv := (Entails.of_eq (sems0_eq (F := F) c).symm) $$ [Hos Hus]
  · isplitl [Hus] <;> iassumption
  imod (show iprop(zeros c ∗ bigSep Finset.univ fun k : Fin 42 => roundState ER (Rd m) (kcell (c, k)) 0)
      ⊢ (|={Set.univ}=> bigSep Finset.univ fun k => iprop(∃ κ : ℕ, cellInv ER (Rd m) κ (kcell (c, k))) : sProp 𝕄) from by
        unfold zeros
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hr]; · iexact Hr
  isplitl [Hat]; · iexact Hat
  iexact Htok

theorem with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem regroup :
    (bigSep Finset.univ fun c : Dev nD => iprop((bigSep Finset.univ fun k => iprop(∃ κ : ℕ, cellInv ER (Rd m) κ (kcell (c, k))))
          ∗ (bigSep Finset.univ fun k : Fin 42 => reached ER (kcell (c, k)) 0) ∗ poss c ∗ toks c) : sProp 𝕄)
      ⊢ bigSep Finset.univ (G' m) := by
  rw [bigSep_sep', bigSep_sep', bigSep_sep', ← bigSep_univ_prod (fun ck : Dev nD × Fin 42 => iprop(∃ κ : ℕ, cellInv ER (Rd m) κ (kcell ck))),
    ← bigSep_univ_prod (fun ck : Dev nD × Fin 42 => (reached ER (kcell ck) 0 : sProp 𝕄)), toks_dealt]
  iintro ⟨HI, #HR, Hat, Htok⟩
  ihave HK := (BI.bigSep_exists_pi Finset.univ (fun (ck : Dev nD × Fin 42) (κ : ℕ) => (cellInv ER (Rd m) κ (kcell ck) : sProp 𝕄))) $$ HI
  icases HK with ⟨%K, #HI⟩
  iapply (with_persistent (R := recs m K) (Φ := fun c => iprop(poss c ∗ payToks c)) (Ψ := G' m) fun c _ => by
    unfold G'
    iintro ⟨#HR, H1, H2⟩
    isplitr
    · iexists K; iexact HR
    isplitl [H1] <;> iassumption)
  isplitr
  · unfold recs; isplitl; · iexact HI
    iexact HR
  · rw [bigSep_sep']
    isplitl [Hat] <;> iassumption

/-- All devices' cells get their invariants, and the tokens are dealt. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch's credit -/

/-- The first payment left gives the cell it goes to its credit. -/
theorem cred_step (n : ℕ) (f : Dev nD ≃ Dev nD) (k : Fin 42) (a : ℕ) (h : ∀ d, Os d n = Os d (n + 1) + tallyAt (kcell (f d, k)) () a) (c : Dev nD) :
    (Pipeline.launchCred (fun d => Os d n) c : sProp 𝕄) ⊢ iprop(Pipeline.launchCred (fun d => Os d (n + 1)) c ∗ cred (tallyAt (kcell (c, k)) () a)) := by
  rw [show (fun d => Os d n) = fun d => Os d (n + 1) + tallyAt (kcell (f d, k)) () a from funext h, Pipeline.launchCred_add]
  exact sep_mono_right (Pipeline.launchCred_tallyAt (csem k) f f.symm f.apply_symm_apply f.symm_apply_apply () a c)

/-- A device's credits: five units of its barrier, one transfer of each receive cell. -/
def creds (c : Dev nD) : sProp 𝕄 := iprop(cred (tallyAt (bcell c) () 5) ∗ cred (tallyAt (dcell c (13 : Fin 42)) () zN) ∗ cred (tallyAt (dcell c (14 : Fin 42)) () zN) ∗ cred (tallyAt (dcell c (15 : Fin 42)) () zN) ∗ cred (tallyAt (dcell c (16 : Fin 42)) () zN) ∗ cred (tallyAt (dcell c (17 : Fin 42)) () zN) ∗ cred (tallyAt (dcell c (18 : Fin 42)) () zN) ∗ cred (tallyAt (dcell c (19 : Fin 42)) () zN) ∗ cred (tallyAt (dcell c (20 : Fin 42)) () zN) ∗ cred (tallyAt (dcell c (21 : Fin 42)) () zN) ∗ cred (tallyAt (dcell c (22 : Fin 42)) () zN) ∗ cred (tallyAt (dcell c (23 : Fin 42)) () zN) ∗ cred (tallyAt (dcell c (24 : Fin 42)) () zN) ∗ cred (tallyAt (dcell c (26 : Fin 42)) () gN) ∗ cred (tallyAt (dcell c (33 : Fin 42)) () gN) ∗ cred (tallyAt (dcell c (34 : Fin 42)) () gN) ∗ cred (tallyAt (dcell c (35 : Fin 42)) () gN) ∗ cred (tallyAt (dcell c (36 : Fin 42)) () gN) ∗ cred (tallyAt (dcell c (37 : Fin 42)) () gN) ∗ cred (tallyAt (dcell c (38 : Fin 42)) () gN))

/-- Two credits of a cell are one. -/
theorem cred_join (g : GSem nD τ sig) (a b : ℕ) : iprop(cred (tallyAt g () a) ∗ cred (tallyAt g () b)) ⊢ (cred (tallyAt g () (a + b)) : sProp 𝕄) :=
  (cred_add _ _).2.trans (Entails.of_eq (by rw [tallyAt_add]))

set_option maxRecDepth 20000 in
theorem creds_intro (c : Dev nD) : (Pipeline.launchCred (fun d => Os d 0) c : sProp 𝕄) ⊢ creds c := by
  iintro HL
  ihave H := (cred_step (F := F) 0 zlE 0 1 (fun _ => rfl) c) $$ HL
  icases H with ⟨HL, B0⟩
  ihave H := (cred_step (F := F) 1 zrE 0 1 (fun _ => rfl) c) $$ HL
  icases H with ⟨HL, B1⟩
  ihave H := (cred_step (F := F) 2 xpE 0 1 (fun _ => rfl) c) $$ HL
  icases H with ⟨HL, B2⟩
  ihave H := (cred_step (F := F) 3 ydE 0 1 (fun _ => rfl) c) $$ HL
  icases H with ⟨HL, B3⟩
  ihave H := (cred_step (F := F) 4 yuE 0 1 (fun _ => rfl) c) $$ HL
  icases H with ⟨HL, B4⟩
  ihave H := (cred_step (F := F) 5 zrE 13 zN (fun _ => rfl) c) $$ HL
  icases H with ⟨HL, C13⟩
  ihave H := (cred_step (F := F) 6 zrE 16 zN (fun _ => rfl) c) $$ HL
  icases H with ⟨HL, C16⟩
  ihave H := (cred_step (F := F) 7 zlE 19 zN (fun _ => rfl) c) $$ HL
  icases H with ⟨HL, C19⟩
  ihave H := (cred_step (F := F) 8 zlE 22 zN (fun _ => rfl) c) $$ HL
  icases H with ⟨HL, C22⟩
  ihave H := (cred_step (F := F) 9 zrE 14 zN (fun _ => rfl) c) $$ HL
  icases H with ⟨HL, C14⟩
  ihave H := (cred_step (F := F) 10 zrE 17 zN (fun _ => rfl) c) $$ HL
  icases H with ⟨HL, C17⟩
  ihave H := (cred_step (F := F) 11 zlE 20 zN (fun _ => rfl) c) $$ HL
  icases H with ⟨HL, C20⟩
  ihave H := (cred_step (F := F) 12 zlE 23 zN (fun _ => rfl) c) $$ HL
  icases H with ⟨HL, C23⟩
  ihave H := (cred_step (F := F) 13 zrE 15 zN (fun _ => rfl) c) $$ HL
  icases H with ⟨HL, C15⟩
  ihave H := (cred_step (F := F) 14 zrE 18 zN (fun _ => rfl) c) $$ HL
  icases H with ⟨HL, C18⟩
  ihave H := (cred_step (F := F) 15 zlE 21 zN (fun _ => rfl) c) $$ HL
  icases H with ⟨HL, C21⟩
  ihave H := (cred_step (F := F) 16 zlE 24 zN (fun _ => rfl) c) $$ HL
  icases H with ⟨HL, C24⟩
  ihave H := (cred_step (F := F) 17 xpE 26 gN (fun _ => rfl) c) $$ HL
  icases H with ⟨HL, C26⟩
  ihave H := (cred_step (F := F) 18 yuE 33 gN (fun _ => rfl) c) $$ HL
  icases H with ⟨HL, C33⟩
  ihave H := (cred_step (F := F) 19 ydE 36 gN (fun _ => rfl) c) $$ HL
  icases H with ⟨HL, C36⟩
  ihave H := (cred_step (F := F) 20 yuE 34 gN (fun _ => rfl) c) $$ HL
  icases H with ⟨HL, C34⟩
  ihave H := (cred_step (F := F) 21 ydE 37 gN (fun _ => rfl) c) $$ HL
  icases H with ⟨HL, C37⟩
  ihave H := (cred_step (F := F) 22 yuE 35 gN (fun _ => rfl) c) $$ HL
  icases H with ⟨HL, C35⟩
  ihave H := (cred_step (F := F) 23 ydE 38 gN (fun _ => rfl) c) $$ HL
  icases H with ⟨HL, C38⟩
  ihave BB1 := (cred_join (F := F) (bcell c) 1 1) $$ [B0 B1]
  · isplitl [B0] <;> iassumption
  ihave BB2 := (cred_join (F := F) (bcell c) 2 1) $$ [BB1 B2]
  · isplitl [BB1] <;> iassumption
  ihave BB3 := (cred_join (F := F) (bcell c) 3 1) $$ [BB2 B3]
  · isplitl [BB2] <;> iassumption
  ihave BB4 := (cred_join (F := F) (bcell c) 4 1) $$ [BB3 B4]
  · isplitl [BB3] <;> iassumption
  unfold creds
  isplitl [BB4]; · iexact BB4
  isplitl [C13]; · iexact C13
  isplitl [C14]; · iexact C14
  isplitl [C15]; · iexact C15
  isplitl [C16]; · iexact C16
  isplitl [C17]; · iexact C17
  isplitl [C18]; · iexact C18
  isplitl [C19]; · iexact C19
  isplitl [C20]; · iexact C20
  isplitl [C21]; · iexact C21
  isplitl [C22]; · iexact C22
  isplitl [C23]; · iexact C23
  isplitl [C24]; · iexact C24
  isplitl [C26]; · iexact C26
  isplitl [C33]; · iexact C33
  isplitl [C34]; · iexact C34
  isplitl [C35]; · iexact C35
  isplitl [C36]; · iexact C36
  isplitl [C37]; · iexact C37
  iexact C38

end Cert.KernelIdealProof

end
-- ==== Proof.KernelIdealRows.lean ====
/-
# The loads and stores, on the pieces of the buffers they touch
-/
module

public import proofs.«01_k».proof.Proof.KernelIdealSteps

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The two-row buffers: the queries, the accumulators -/

/-- A buffer of two rows holds `u` and `v`. -/
def qB (c : Dev nD) (u v : Vec F S1x1024x128 .bf16) : sProp 𝕄 := ((c : Thread nD τ).loc cc0_scratch2) ↦{fullShare} (pack u v)
def aB (c : Dev nD) (u v : Vec F S1x1024x128 .f32) : sProp 𝕄 := ((c : Thread nD τ).loc cc0_scratch3) ↦{fullShare} (pack u v)
def lB (c : Dev nD) (u v : Vec F S1x1024x128 .f32) : sProp 𝕄 := ((c : Thread nD τ).loc cc0_scratch4) ↦{fullShare} (pack u v)

theorem ld_q0 (c : Dev nD) (u v : Vec F S1x1024x128 .bf16) {inb} {ev} {α : Type} {Q : α → sProp 𝕄} {k : Vec F S1x1024x128 .bf16 → Prog (TpuEff nD τ sig (Elt F) Λ₀ .tc) α} :
    qB c u v ⊢ iprop((qB c u v -∗ wp frame (wpE (defs₀ (F := F)) 𝒱₀ (c : Thread nD τ) none) Set.univ (k u) Q)
      -∗ wp frame (wpE (defs₀ (F := F)) 𝒱₀ (c : Thread nD τ) none) Set.univ (.op (.load (Memref.whole cc0_scratch2 : Memref sig .tc .vmem S2x1024x128 .bf16) (Rect.unit (s := S2x1024x128) ![0, 0, 0] S1x1024x128.size inb).toLoadRect ev) k) Q) := by
  unfold qB
  iintro H Hk
  iapply (wp_load 𝒱₀ (c : Thread nD τ) none Set.univ (m := (Memref.whole cc0_scratch2 : Memref sig .tc .vmem S2x1024x128 .bf16)) (Finset.subset_univ _)) $$ [H]
  · iexact H
  iintro H
  rw [read_q0]
  iapply Hk
  iexact H
theorem st_q0 (c : Dev nD) (u v w' : Vec F S1x1024x128 .bf16) {w : Vec F S1x1024x128 .bf16} (hw : w = w') {inb} {hx} {hm} {α : Type} {Q : α → sProp 𝕄} {k : PUnit → Prog (TpuEff nD τ sig (Elt F) Λ₀ .tc) α} :
    qB c u v ⊢ iprop((qB c w' v -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch2 : Memref sig .tc .vmem S2x1024x128 .bf16) (Rect.unit (s := S2x1024x128) ![0, 0, 0] S1x1024x128.size inb) w Finset.univ hx hm) k) Q) := by
  subst hw
  unfold qB
  iintro H Hk
  iapply (wp_store 𝒱₀ (c : Thread nD τ) none Set.univ (m := (Memref.whole cc0_scratch2 : Memref sig .tc .vmem S2x1024x128 .bf16)) (r := (Rect.unit (s := S2x1024x128) ![0, 0, 0] S1x1024x128.size inb)) (Mk := Finset.univ) (Finset.subset_univ _)) $$ [H]
  · iexact H
  iintro H
  rw [write_q0]
  iapply Hk
  iexact H

theorem ld_q1 (c : Dev nD) (u v : Vec F S1x1024x128 .bf16) {inb} {ev} {α : Type} {Q : α → sProp 𝕄} {k : Vec F S1x1024x128 .bf16 → Prog (TpuEff nD τ sig (Elt F) Λ₀ .tc) α} :
    qB c u v ⊢ iprop((qB c u v -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch2 : Memref sig .tc .vmem S2x1024x128 .bf16) (Rect.unit (s := S2x1024x128) ![1, 0, 0] S1x1024x128.size inb).toLoadRect ev) k) Q) := by
  unfold qB
  iintro H Hk
  iapply (wp_load 𝒱₀ (c : Thread nD τ) none Set.univ (m := (Memref.whole cc0_scratch2 : Memref sig .tc .vmem S2x1024x128 .bf16)) (Finset.subset_univ _)) $$ [H]
  · iexact H
  iintro H
  rw [read_q1]
  iapply Hk
  iexact H
theorem st_q1 (c : Dev nD) (u v w' : Vec F S1x1024x128 .bf16) {w : Vec F S1x1024x128 .bf16} (hw : w = w') {inb} {hx} {hm} {α : Type} {Q : α → sProp 𝕄} {k : PUnit → Prog (TpuEff nD τ sig (Elt F) Λ₀ .tc) α} :
    qB c u v ⊢ iprop((qB c u w' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch2 : Memref sig .tc .vmem S2x1024x128 .bf16) (Rect.unit (s := S2x1024x128) ![1, 0, 0] S1x1024x128.size inb) w Finset.univ hx hm) k) Q) := by
  subst hw
  unfold qB
  iintro H Hk
  iapply (wp_store 𝒱₀ (c : Thread nD τ) none Set.univ (m := (Memref.whole cc0_scratch2 : Memref sig .tc .vmem S2x1024x128 .bf16)) (r := (Rect.unit (s := S2x1024x128) ![1, 0, 0] S1x1024x128.size inb)) (Mk := Finset.univ) (Finset.subset_univ _)) $$ [H]
  · iexact H
  iintro H
  rw [write_q1]
  iapply Hk
  iexact H

theorem ld_a0 (c : Dev nD) (u v : Vec F S1x1024x128 .f32) {inb} {ev} {α : Type} {Q : α → sProp 𝕄} {k : Vec F S1x1024x128 .f32 → Prog (TpuEff nD τ sig (Elt F) Λ₀ .tc) α} :
    aB c u v ⊢ iprop((aB c u v -∗ wp frame (wpE (defs₀ (F := F)) 𝒱₀ (c : Thread nD τ) none) Set.univ (k u) Q)
      -∗ wp frame (wpE (defs₀ (F := F)) 𝒱₀ (c : Thread nD τ) none) Set.univ (.op (.load (Memref.whole cc0_scratch3 : Memref sig .tc .vmem S2x1024x128 .f32) (Rect.unit (s := S2x1024x128) ![0, 0, 0] S1x1024x128.size inb).toLoadRect ev) k) Q) := by
  unfold aB
  iintro H Hk
  iapply (wp_load 𝒱₀ (c : Thread nD τ) none Set.univ (m := (Memref.whole cc0_scratch3 : Memref sig .tc .vmem S2x1024x128 .f32)) (Finset.subset_univ _)) $$ [H]
  · iexact H
  iintro H
  rw [read_a0]
  iapply Hk
  iexact H
theorem st_a0 (c : Dev nD) (u v w' : Vec F S1x1024x128 .f32) {w : Vec F S1x1024x128 .f32} (hw : w = w') {inb} {hx} {hm} {α : Type} {Q : α → sProp 𝕄} {k : PUnit → Prog (TpuEff nD τ sig (Elt F) Λ₀ .tc) α} :
    aB c u v ⊢ iprop((aB c w' v -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch3 : Memref sig .tc .vmem S2x1024x128 .f32) (Rect.unit (s := S2x1024x128) ![0, 0, 0] S1x1024x128.size inb) w Finset.univ hx hm) k) Q) := by
  subst hw
  unfold aB
  iintro H Hk
  iapply (wp_store 𝒱₀ (c : Thread nD τ) none Set.univ (m := (Memref.whole cc0_scratch3 : Memref sig .tc .vmem S2x1024x128 .f32)) (r := (Rect.unit (s := S2x1024x128) ![0, 0, 0] S1x1024x128.size inb)) (Mk := Finset.univ) (Finset.subset_univ _)) $$ [H]
  · iexact H
  iintro H
  rw [write_a0]
  iapply Hk
  iexact H

theorem ld_a1 (c : Dev nD) (u v : Vec F S1x1024x128 .f32) {inb} {ev} {α : Type} {Q : α → sProp 𝕄} {k : Vec F S1x1024x128 .f32 → Prog (TpuEff nD τ sig (Elt F) Λ₀ .tc) α} :
    aB c u v ⊢ iprop((aB c u v -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch3 : Memref sig .tc .vmem S2x1024x128 .f32) (Rect.unit (s := S2x1024x128) ![1, 0, 0] S1x1024x128.size inb).toLoadRect ev) k) Q) := by
  unfold aB
  iintro H Hk
  iapply (wp_load 𝒱₀ (c : Thread nD τ) none Set.univ (m := (Memref.whole cc0_scratch3 : Memref sig .tc .vmem S2x1024x128 .f32)) (Finset.subset_univ _)) $$ [H]
  · iexact H
  iintro H
  rw [read_a1]
  iapply Hk
  iexact H
theorem st_a1 (c : Dev nD) (u v w' : Vec F S1x1024x128 .f32) {w : Vec F S1x1024x128 .f32} (hw : w = w') {inb} {hx} {hm} {α : Type} {Q : α → sProp 𝕄} {k : PUnit → Prog (TpuEff nD τ sig (Elt F) Λ₀ .tc) α} :
    aB c u v ⊢ iprop((aB c u w' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch3 : Memref sig .tc .vmem S2x1024x128 .f32) (Rect.unit (s := S2x1024x128) ![1, 0, 0] S1x1024x128.size inb) w Finset.univ hx hm) k) Q) := by
  subst hw
  unfold aB
  iintro H Hk
  iapply (wp_store 𝒱₀ (c : Thread nD τ) none Set.univ (m := (Memref.whole cc0_scratch3 : Memref sig .tc .vmem S2x1024x128 .f32)) (r := (Rect.unit (s := S2x1024x128) ![1, 0, 0] S1x1024x128.size inb)) (Mk := Finset.univ) (Finset.subset_univ _)) $$ [H]
  · iexact H
  iintro H
  rw [write_a1]
  iapply Hk
  iexact H

theorem ld_l0 (c : Dev nD) (u v : Vec F S1x1024x128 .f32) {inb} {ev} {α : Type} {Q : α → sProp 𝕄} {k : Vec F S1x1024x128 .f32 → Prog (TpuEff nD τ sig (Elt F) Λ₀ .tc) α} :
    lB c u v ⊢ iprop((lB c u v -∗ wp frame (wpE (defs₀ (F := F)) 𝒱₀ (c : Thread nD τ) none) Set.univ (k u) Q)
      -∗ wp frame (wpE (defs₀ (F := F)) 𝒱₀ (c : Thread nD τ) none) Set.univ (.op (.load (Memref.whole cc0_scratch4 : Memref sig .tc .vmem S2x1024x128 .f32) (Rect.unit (s := S2x1024x128) ![0, 0, 0] S1x1024x128.size inb).toLoadRect ev) k) Q) := by
  unfold lB
  iintro H Hk
  iapply (wp_load 𝒱₀ (c : Thread nD τ) none Set.univ (m := (Memref.whole cc0_scratch4 : Memref sig .tc .vmem S2x1024x128 .f32)) (Finset.subset_univ _)) $$ [H]
  · iexact H
  iintro H
  rw [read_l0]
  iapply Hk
  iexact H
theorem st_l0 (c : Dev nD) (u v w' : Vec F S1x1024x128 .f32) {w : Vec F S1x1024x128 .f32} (hw : w = w') {inb} {hx} {hm} {α : Type} {Q : α → sProp 𝕄} {k : PUnit → Prog (TpuEff nD τ sig (Elt F) Λ₀ .tc) α} :
    lB c u v ⊢ iprop((lB c w' v -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch4 : Memref sig .tc .vmem S2x1024x128 .f32) (Rect.unit (s := S2x1024x128) ![0, 0, 0] S1x1024x128.size inb) w Finset.univ hx hm) k) Q) := by
  subst hw
  unfold lB
  iintro H Hk
  iapply (wp_store 𝒱₀ (c : Thread nD τ) none Set.univ (m := (Memref.whole cc0_scratch4 : Memref sig .tc .vmem S2x1024x128 .f32)) (r := (Rect.unit (s := S2x1024x128) ![0, 0, 0] S1x1024x128.size inb)) (Mk := Finset.univ) (Finset.subset_univ _)) $$ [H]
  · iexact H
  iintro H
  rw [write_l0]
  iapply Hk
  iexact H

theorem ld_l1 (c : Dev nD) (u v : Vec F S1x1024x128 .f32) {inb} {ev} {α : Type} {Q : α → sProp 𝕄} {k : Vec F S1x1024x128 .f32 → Prog (TpuEff nD τ sig (Elt F) Λ₀ .tc) α} :
    lB c u v ⊢ iprop((lB c u v -∗ wp frame (wpE (defs₀ (F := F)) 𝒱₀ (c : Thread nD τ) none) Set.univ (k v) Q)
      -∗ wp frame (wpE (defs₀ (F := F)) 𝒱₀ (c : Thread nD τ) none) Set.univ (.op (.load (Memref.whole cc0_scratch4 : Memref sig .tc .vmem S2x1024x128 .f32) (Rect.unit (s := S2x1024x128) ![1, 0, 0] S1x1024x128.size inb).toLoadRect ev) k) Q) := by
  unfold lB
  iintro H Hk
  iapply (wp_load 𝒱₀ (c : Thread nD τ) none Set.univ (m := (Memref.whole cc0_scratch4 : Memref sig .tc .vmem S2x1024x128 .f32)) (Finset.subset_univ _)) $$ [H]
  · iexact H
  iintro H
  rw [read_l1]
  iapply Hk
  iexact H
theorem st_l1 (c : Dev nD) (u v w' : Vec F S1x1024x128 .f32) {w : Vec F S1x1024x128 .f32} (hw : w = w') {inb} {hx} {hm} {α : Type} {Q : α → sProp 𝕄} {k : PUnit → Prog (TpuEff nD τ sig (Elt F) Λ₀ .tc) α} :
    lB c u v ⊢ iprop((lB c u w' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch4 : Memref sig .tc .vmem S2x1024x128 .f32) (Rect.unit (s := S2x1024x128) ![1, 0, 0] S1x1024x128.size inb) w Finset.univ hx hm) k) Q) := by
  subst hw
  unfold lB
  iintro H Hk
  iapply (wp_store 𝒱₀ (c : Thread nD τ) none Set.univ (m := (Memref.whole cc0_scratch4 : Memref sig .tc .vmem S2x1024x128 .f32)) (r := (Rect.unit (s := S2x1024x128) ![1, 0, 0] S1x1024x128.size inb)) (Mk := Finset.univ) (Finset.subset_univ _)) $$ [H]
  · iexact H
  iintro H
  rw [write_l1]
  iapply Hk
  iexact H

theorem ld_aw (c : Dev nD) (u v : Vec F S1x1024x128 .f32) {inb} {ev} {α : Type} {Q : α → sProp 𝕄} {k : Vec F S2x1024x128 .f32 → Prog (TpuEff nD τ sig (Elt F) Λ₀ .tc) α} :
    aB c u v ⊢ iprop((∀ x, aB c u v -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_scratch3 : Memref sig .tc .vmem S2x1024x128 .f32) (Rect.unit (s := S2x1024x128) ![0, 0, 0] S2x1024x128.size inb).toLoadRect ev) k) Q) := by
  unfold aB
  iintro H Hk
  iapply (wp_load 𝒱₀ (c : Thread nD τ) none Set.univ (m := (Memref.whole cc0_scratch3 : Memref sig .tc .vmem S2x1024x128 .f32)) (Finset.subset_univ _)) $$ [H]
  · iexact H
  iintro H
  iapply Hk
  iexact H
theorem st_aw (c : Dev nD) (u v u' v' : Vec F S1x1024x128 .f32) {w : Vec F S2x1024x128 .f32} (hw : w = pack u' v') {inb} {hx} {hm} {α : Type} {Q : α → sProp 𝕄} {k : PUnit → Prog (TpuEff nD τ sig (Elt F) Λ₀ .tc) α} :
    aB c u v ⊢ iprop((aB c u' v' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch3 : Memref sig .tc .vmem S2x1024x128 .f32) (Rect.unit (s := S2x1024x128) ![0, 0, 0] S2x1024x128.size inb) w Finset.univ hx hm) k) Q) := by
  subst hw
  have hw : ∀ f : Vec F S2x1024x128 .f32, ((Memref.whole cc0_scratch3 : Memref sig .tc .vmem S2x1024x128 .f32).access (Rect.unit (s := S2x1024x128) ![0, 0, 0] S2x1024x128.size inb) : View sig .tc _ _ _).write (Elt F) f (pack u' v') Finset.univ = pack u' v' := by
    intro f
    funext j
    have hx : (Rect.unit (s := S2x1024x128) ![0, 0, 0] S2x1024x128.size inb).emb j = j := by
      funext a
      apply Fin.ext
      fin_cases a
      · show 0 + 1 * (j 0).val = (j 0).val; omega
      · show 0 + 1 * (j 1).val = (j 1).val; omega
      · show 0 + 1 * (j 2).val = (j 2).val; omega
    have h := write_emb_unit cc0_scratch3 inb f (pack u' v') j
    rw [hx] at h
    exact h
  unfold aB
  iintro H Hk
  iapply (wp_store 𝒱₀ (c : Thread nD τ) none Set.univ (m := (Memref.whole cc0_scratch3 : Memref sig .tc .vmem S2x1024x128 .f32)) (r := (Rect.unit (s := S2x1024x128) ![0, 0, 0] S2x1024x128.size inb)) (Mk := Finset.univ) (Finset.subset_univ _)) $$ [H]
  · iexact H
  iintro H
  rw [hw]
  iapply Hk
  iexact H

theorem ld_lw (c : Dev nD) (u v : Vec F S1x1024x128 .f32) {inb} {ev} {α : Type} {Q : α → sProp 𝕄} {k : Vec F S2x1024x128 .f32 → Prog (TpuEff nD τ sig (Elt F) Λ₀ .tc) α} :
    lB c u v ⊢ iprop((∀ x, lB c u v -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_scratch4 : Memref sig .tc .vmem S2x1024x128 .f32) (Rect.unit (s := S2x1024x128) ![0, 0, 0] S2x1024x128.size inb).toLoadRect ev) k) Q) := by
  unfold lB
  iintro H Hk
  iapply (wp_load 𝒱₀ (c : Thread nD τ) none Set.univ (m := (Memref.whole cc0_scratch4 : Memref sig .tc .vmem S2x1024x128 .f32)) (Finset.subset_univ _)) $$ [H]
  · iexact H
  iintro H
  iapply Hk
  iexact H
theorem st_lw (c : Dev nD) (u v u' v' : Vec F S1x1024x128 .f32) {w : Vec F S2x1024x128 .f32} (hw : w = pack u' v') {inb} {hx} {hm} {α : Type} {Q : α → sProp 𝕄} {k : PUnit → Prog (TpuEff nD τ sig (Elt F) Λ₀ .tc) α} :
    lB c u v ⊢ iprop((lB c u' v' -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch4 : Memref sig .tc .vmem S2x1024x128 .f32) (Rect.unit (s := S2x1024x128) ![0, 0, 0] S2x1024x128.size inb) w Finset.univ hx hm) k) Q) := by
  subst hw
  have hw : ∀ f : Vec F S2x1024x128 .f32, ((Memref.whole cc0_scratch4 : Memref sig .tc .vmem S2x1024x128 .f32).access (Rect.unit (s := S2x1024x128) ![0, 0, 0] S2x1024x128.size inb) : View sig .tc _ _ _).write (Elt F) f (pack u' v') Finset.univ = pack u' v' := by
    intro f
    funext j
    have hx : (Rect.unit (s := S2x1024x128) ![0, 0, 0] S2x1024x128.size inb).emb j = j := by
      funext a
      apply Fin.ext
      fin_cases a
      · show 0 + 1 * (j 0).val = (j 0).val; omega
      · show 0 + 1 * (j 1).val = (j 1).val; omega
      · show 0 + 1 * (j 2).val = (j 2).val; omega
    have h := write_emb_unit cc0_scratch4 inb f (pack u' v') j
    rw [hx] at h
    exact h
  unfold lB
  iintro H Hk
  iapply (wp_store 𝒱₀ (c : Thread nD τ) none Set.univ (m := (Memref.whole cc0_scratch4 : Memref sig .tc .vmem S2x1024x128 .f32)) (r := (Rect.unit (s := S2x1024x128) ![0, 0, 0] S2x1024x128.size inb)) (Mk := Finset.univ) (Finset.subset_univ _)) $$ [H]
  · iexact H
  iintro H
  rw [hw]
  iapply Hk
  iexact H

/-! ## The columns copied in -/

def qT (c : Dev nD) : sProp 𝕄 := ((c : Thread nD τ).loc cc0_scratch6) ↦{fullShare} tQ m c

theorem ld_tq0 (c : Dev nD) {inb} {ev} {α : Type} {Q : α → sProp 𝕄} {k : Vec F S1024x1x128 .f32 → Prog (TpuEff nD τ sig (Elt F) Λ₀ .tc) α} :
    qT m c ⊢ iprop((qT m c -∗ wp frame (wpE (defs₀ (F := F)) 𝒱₀ (c : Thread nD τ) none) Set.univ (k (col (tQ m c) 0)) Q)
      -∗ wp frame (wpE (defs₀ (F := F)) 𝒱₀ (c : Thread nD τ) none) Set.univ (.op (.load (Memref.whole cc0_scratch6 : Memref sig .tc .vmem S1024x2x128 .f32) (Rect.unit (s := S1024x2x128) ![0, 0, 0] S1024x1x128.size inb).toLoadRect ev) k) Q) := by
  unfold qT
  iintro H Hk
  iapply (wp_load 𝒱₀ (c : Thread nD τ) none Set.univ (m := (Memref.whole cc0_scratch6 : Memref sig .tc .vmem S1024x2x128 .f32)) (Finset.subset_univ _)) $$ [H]
  · iexact H
  iintro H
  rw [read_tq0]
  iapply Hk
  iexact H

theorem ld_tq1 (c : Dev nD) {inb} {ev} {α : Type} {Q : α → sProp 𝕄} {k : Vec F S1024x1x128 .f32 → Prog (TpuEff nD τ sig (Elt F) Λ₀ .tc) α} :
    qT m c ⊢ iprop((qT m c -∗ wp frame (wpE (defs₀ (F := F)) 𝒱₀ (c : Thread nD τ) none) Set.univ (k (col (tQ m c) 1)) Q)
      -∗ wp frame (wpE (defs₀ (F := F)) 𝒱₀ (c : Thread nD τ) none) Set.univ (.op (.load (Memref.whole cc0_scratch6 : Memref sig .tc .vmem S1024x2x128 .f32) (Rect.unit (s := S1024x2x128) ![0, 1, 0] S1024x1x128.size inb).toLoadRect ev) k) Q) := by
  unfold qT
  iintro H Hk
  iapply (wp_load 𝒱₀ (c : Thread nD τ) none Set.univ (m := (Memref.whole cc0_scratch6 : Memref sig .tc .vmem S1024x2x128 .f32)) (Finset.subset_univ _)) $$ [H]
  · iexact H
  iintro H
  rw [read_tq1]
  iapply Hk
  iexact H

def kT (c : Dev nD) : sProp 𝕄 := ((c : Thread nD τ).loc cc0_scratch7) ↦{fullShare} tK m c

theorem ld_tk0 (c : Dev nD) {inb} {ev} {α : Type} {Q : α → sProp 𝕄} {k : Vec F S1024x1x128 .f32 → Prog (TpuEff nD τ sig (Elt F) Λ₀ .tc) α} :
    kT m c ⊢ iprop((kT m c -∗ wp frame (wpE (defs₀ (F := F)) 𝒱₀ (c : Thread nD τ) none) Set.univ (k (col (tK m c) 0)) Q)
      -∗ wp frame (wpE (defs₀ (F := F)) 𝒱₀ (c : Thread nD τ) none) Set.univ (.op (.load (Memref.whole cc0_scratch7 : Memref sig .tc .vmem S1024x2x128 .f32) (Rect.unit (s := S1024x2x128) ![0, 0, 0] S1024x1x128.size inb).toLoadRect ev) k) Q) := by
  unfold kT
  iintro H Hk
  iapply (wp_load 𝒱₀ (c : Thread nD τ) none Set.univ (m := (Memref.whole cc0_scratch7 : Memref sig .tc .vmem S1024x2x128 .f32)) (Finset.subset_univ _)) $$ [H]
  · iexact H
  iintro H
  rw [read_tk0]
  iapply Hk
  iexact H

theorem ld_tk1 (c : Dev nD) {inb} {ev} {α : Type} {Q : α → sProp 𝕄} {k : Vec F S1024x1x128 .f32 → Prog (TpuEff nD τ sig (Elt F) Λ₀ .tc) α} :
    kT m c ⊢ iprop((kT m c -∗ wp frame (wpE (defs₀ (F := F)) 𝒱₀ (c : Thread nD τ) none) Set.univ (k (col (tK m c) 1)) Q)
      -∗ wp frame (wpE (defs₀ (F := F)) 𝒱₀ (c : Thread nD τ) none) Set.univ (.op (.load (Memref.whole cc0_scratch7 : Memref sig .tc .vmem S1024x2x128 .f32) (Rect.unit (s := S1024x2x128) ![0, 1, 0] S1024x1x128.size inb).toLoadRect ev) k) Q) := by
  unfold kT
  iintro H Hk
  iapply (wp_load 𝒱₀ (c : Thread nD τ) none Set.univ (m := (Memref.whole cc0_scratch7 : Memref sig .tc .vmem S1024x2x128 .f32)) (Finset.subset_univ _)) $$ [H]
  · iexact H
  iintro H
  rw [read_tk1]
  iapply Hk
  iexact H

def vT (c : Dev nD) : sProp 𝕄 := ((c : Thread nD τ).loc cc0_scratch8) ↦{fullShare} tV m c

theorem ld_tv0 (c : Dev nD) {inb} {ev} {α : Type} {Q : α → sProp 𝕄} {k : Vec F S1024x1x128 .f32 → Prog (TpuEff nD τ sig (Elt F) Λ₀ .tc) α} :
    vT m c ⊢ iprop((vT m c -∗ wp frame (wpE (defs₀ (F := F)) 𝒱₀ (c : Thread nD τ) none) Set.univ (k (col (tV m c) 0)) Q)
      -∗ wp frame (wpE (defs₀ (F := F)) 𝒱₀ (c : Thread nD τ) none) Set.univ (.op (.load (Memref.whole cc0_scratch8 : Memref sig .tc .vmem S1024x2x128 .f32) (Rect.unit (s := S1024x2x128) ![0, 0, 0] S1024x1x128.size inb).toLoadRect ev) k) Q) := by
  unfold vT
  iintro H Hk
  iapply (wp_load 𝒱₀ (c : Thread nD τ) none Set.univ (m := (Memref.whole cc0_scratch8 : Memref sig .tc .vmem S1024x2x128 .f32)) (Finset.subset_univ _)) $$ [H]
  · iexact H
  iintro H
  rw [read_tv0]
  iapply Hk
  iexact H

theorem ld_tv1 (c : Dev nD) {inb} {ev} {α : Type} {Q : α → sProp 𝕄} {k : Vec F S1024x1x128 .f32 → Prog (TpuEff nD τ sig (Elt F) Λ₀ .tc) α} :
    vT m c ⊢ iprop((vT m c -∗ wp frame (wpE (defs₀ (F := F)) 𝒱₀ (c : Thread nD τ) none) Set.univ (k (col (tV m c) 1)) Q)
      -∗ wp frame (wpE (defs₀ (F := F)) 𝒱₀ (c : Thread nD τ) none) Set.univ (.op (.load (Memref.whole cc0_scratch8 : Memref sig .tc .vmem S1024x2x128 .f32) (Rect.unit (s := S1024x2x128) ![0, 1, 0] S1024x1x128.size inb).toLoadRect ev) k) Q) := by
  unfold vT
  iintro H Hk
  iapply (wp_load 𝒱₀ (c : Thread nD τ) none Set.univ (m := (Memref.whole cc0_scratch8 : Memref sig .tc .vmem S1024x2x128 .f32)) (Finset.subset_univ _)) $$ [H]
  · iexact H
  iintro H
  rw [read_tv1]
  iapply Hk
  iexact H

/-! ## Blocks of the gathered keys and values -/

theorem on_k {off : Fin 4 → ℕ} {o i : ℕ} (hoff : off = ![o, i, 0, 0]) (inb : ∀ a, off a + S1x1x1024x128.size a ≤ S4x2x1024x128.size a) :
    ((Memref.whole cc0_scratch0 : Memref sig .tc .vmem S4x2x1024x128 .bf16).access (Rect.unit (s := S4x2x1024x128) off S1x1x1024x128.size inb)).set ⊆ kset o i := by
  rw [show ((Memref.whole cc0_scratch0 : Memref sig .tc .vmem S4x2x1024x128 .bf16).access (Rect.unit (s := S4x2x1024x128) off S1x1x1024x128.size inb)).set = ((View.whole cc0_scratch0).slice (Rect.unit (s := S4x2x1024x128) off S1x1x1024x128.size inb)).set from rfl, View.set_slice_whole, kset_rect hoff inb]
theorem ld_k (c : Dev nD) (o i : ℕ) (q : PosShare TreeShare) {off : Fin 4 → ℕ} (hoff : off = ![o, i, 0, 0]) {inb} {ev} {α : Type} {Q : α → sProp 𝕄} {k : Vec F S1x1x1024x128 .bf16 → Prog (TpuEff nD τ sig (Elt F) Λ₀ .tc) α} :
    kP c o i q (KF m c) ⊢ iprop((kP c o i q (KF m c) -∗ wp frame (wpE (defs₀ (F := F)) 𝒱₀ (c : Thread nD τ) none) Set.univ (k (kblk m (dz c o) i)) Q)
      -∗ wp frame (wpE (defs₀ (F := F)) 𝒱₀ (c : Thread nD τ) none) Set.univ (.op (.load (Memref.whole cc0_scratch0 : Memref sig .tc .vmem S4x2x1024x128 .bf16) (Rect.unit (s := S4x2x1024x128) off S1x1x1024x128.size inb).toLoadRect ev) k) Q) := by
  unfold kP
  iintro H Hk
  iapply (wp_load 𝒱₀ (c : Thread nD τ) none Set.univ (m := (Memref.whole cc0_scratch0 : Memref sig .tc .vmem S4x2x1024x128 .bf16)) (S := kset o i) (by have h := on_k hoff inb; rwa [View.set_slice] at h)) $$ [H]
  · iexact H
  iintro H
  rw [read_kf m c hoff]
  iapply Hk
  iexact H
theorem ld_kd (c : Dev nD) (o i : ℕ) {off : Fin 4 → ℕ} (hoff : off = ![o, i, 0, 0]) {inb} {ev} {α : Type} {Q : α → sProp 𝕄} {k : Vec F S1x1x1024x128 .bf16 → Prog (TpuEff nD τ sig (Elt F) Λ₀ .tc) α} :
    iprop(∃ f, kP (F := F) c o i fullShare f) ⊢ iprop((∀ x, (∃ f, kP (F := F) c o i fullShare f) -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_scratch0 : Memref sig .tc .vmem S4x2x1024x128 .bf16) (Rect.unit (s := S4x2x1024x128) off S1x1x1024x128.size inb).toLoadRect ev) k) Q) := by
  unfold kP
  iintro ⟨%f, H⟩ Hk
  iapply (wp_load 𝒱₀ (c : Thread nD τ) none Set.univ (m := (Memref.whole cc0_scratch0 : Memref sig .tc .vmem S4x2x1024x128 .bf16)) (S := kset o i) (by have h := on_k hoff inb; rwa [View.set_slice] at h)) $$ [H]
  · iexact H
  iintro H
  iapply Hk
  iexists f
  iexact H
theorem st_k (c : Dev nD) (o i : ℕ) {off : Fin 4 → ℕ} (hoff : off = ![o, i, 0, 0]) {w : Vec F S1x1x1024x128 .bf16} (hw : w = kblk m (dz c o) i)
    {inb} {hx} {hm} {α : Type} {Q : α → sProp 𝕄} {k : PUnit → Prog (TpuEff nD τ sig (Elt F) Λ₀ .tc) α} :
    iprop(∃ f, kP (F := F) c o i fullShare f) ⊢ iprop((kP c o i fullShare (KF m c) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch0 : Memref sig .tc .vmem S4x2x1024x128 .bf16) (Rect.unit (s := S4x2x1024x128) off S1x1x1024x128.size inb) w Finset.univ hx hm) k) Q) := by
  unfold kP
  iintro ⟨%f, H⟩ Hk
  iapply (wp_store 𝒱₀ (c : Thread nD τ) none Set.univ (m := (Memref.whole cc0_scratch0 : Memref sig .tc .vmem S4x2x1024x128 .bf16)) (r := (Rect.unit (s := S4x2x1024x128) off S1x1x1024x128.size inb)) (Mk := Finset.univ) (S := kset o i) (by rw [View.setOn_univ]; exact on_k hoff inb)) $$ [H]
  · iexact H
  iintro H
  ihave H := (Entails.of_eq (show ((((Memref.whole cc0_scratch0 : Memref sig .tc .vmem S4x2x1024x128 .bf16).access (Rect.unit (s := S4x2x1024x128) off S1x1x1024x128.size inb)).loc (c : Thread nD τ) ↦[kset o i]{fullShare} (((Memref.whole cc0_scratch0 : Memref sig .tc .vmem S4x2x1024x128 .bf16).access (Rect.unit (s := S4x2x1024x128) off S1x1x1024x128.size inb) : View sig .tc _ _ _).write (Elt F) f w Finset.univ)) : sProp 𝕄)
      = (((c : Thread nD τ).loc cc0_scratch0) ↦[kset o i]{fullShare} (KF m c)) from pointsTo_congr (write_kf m c hoff inb f w hw))) $$ H
  iapply Hk
  iexact H
/-- A block split in two shares, and put together again. -/
theorem split_k (c : Dev nD) (o i : ℕ) : kP c o i fullShare (KF m c) ⊣⊢ iprop(kP c o i fullShare.left (KF m c) ∗ kP c o i fullShare.right (KF m c)) := by
  unfold kP
  exact pointsTo_share (PosShare.mem_left_op_right fullShare)

theorem on_v {off : Fin 4 → ℕ} {o i : ℕ} (hoff : off = ![o, i, 0, 0]) (inb : ∀ a, off a + S1x1x1024x128.size a ≤ S4x2x1024x128.size a) :
    ((Memref.whole cc0_scratch1 : Memref sig .tc .vmem S4x2x1024x128 .bf16).access (Rect.unit (s := S4x2x1024x128) off S1x1x1024x128.size inb)).set ⊆ kset o i := by
  rw [show ((Memref.whole cc0_scratch1 : Memref sig .tc .vmem S4x2x1024x128 .bf16).access (Rect.unit (s := S4x2x1024x128) off S1x1x1024x128.size inb)).set = ((View.whole cc0_scratch1).slice (Rect.unit (s := S4x2x1024x128) off S1x1x1024x128.size inb)).set from rfl, View.set_slice_whole, kset_rect hoff inb]
theorem ld_v (c : Dev nD) (o i : ℕ) (q : PosShare TreeShare) {off : Fin 4 → ℕ} (hoff : off = ![o, i, 0, 0]) {inb} {ev} {α : Type} {Q : α → sProp 𝕄} {k : Vec F S1x1x1024x128 .bf16 → Prog (TpuEff nD τ sig (Elt F) Λ₀ .tc) α} :
    vP c o i q (VF m c) ⊢ iprop((vP c o i q (VF m c) -∗ wp frame (wpE (defs₀ (F := F)) 𝒱₀ (c : Thread nD τ) none) Set.univ (k (vblk m (dz c o) i)) Q)
      -∗ wp frame (wpE (defs₀ (F := F)) 𝒱₀ (c : Thread nD τ) none) Set.univ (.op (.load (Memref.whole cc0_scratch1 : Memref sig .tc .vmem S4x2x1024x128 .bf16) (Rect.unit (s := S4x2x1024x128) off S1x1x1024x128.size inb).toLoadRect ev) k) Q) := by
  unfold vP
  iintro H Hk
  iapply (wp_load 𝒱₀ (c : Thread nD τ) none Set.univ (m := (Memref.whole cc0_scratch1 : Memref sig .tc .vmem S4x2x1024x128 .bf16)) (S := kset o i) (by have h := on_v hoff inb; rwa [View.set_slice] at h)) $$ [H]
  · iexact H
  iintro H
  rw [read_vf m c hoff]
  iapply Hk
  iexact H
theorem ld_vd (c : Dev nD) (o i : ℕ) {off : Fin 4 → ℕ} (hoff : off = ![o, i, 0, 0]) {inb} {ev} {α : Type} {Q : α → sProp 𝕄} {k : Vec F S1x1x1024x128 .bf16 → Prog (TpuEff nD τ sig (Elt F) Λ₀ .tc) α} :
    iprop(∃ f, vP (F := F) c o i fullShare f) ⊢ iprop((∀ x, (∃ f, vP (F := F) c o i fullShare f) -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_scratch1 : Memref sig .tc .vmem S4x2x1024x128 .bf16) (Rect.unit (s := S4x2x1024x128) off S1x1x1024x128.size inb).toLoadRect ev) k) Q) := by
  unfold vP
  iintro ⟨%f, H⟩ Hk
  iapply (wp_load 𝒱₀ (c : Thread nD τ) none Set.univ (m := (Memref.whole cc0_scratch1 : Memref sig .tc .vmem S4x2x1024x128 .bf16)) (S := kset o i) (by have h := on_v hoff inb; rwa [View.set_slice] at h)) $$ [H]
  · iexact H
  iintro H
  iapply Hk
  iexists f
  iexact H
theorem st_v (c : Dev nD) (o i : ℕ) {off : Fin 4 → ℕ} (hoff : off = ![o, i, 0, 0]) {w : Vec F S1x1x1024x128 .bf16} (hw : w = vblk m (dz c o) i)
    {inb} {hx} {hm} {α : Type} {Q : α → sProp 𝕄} {k : PUnit → Prog (TpuEff nD τ sig (Elt F) Λ₀ .tc) α} :
    iprop(∃ f, vP (F := F) c o i fullShare f) ⊢ iprop((vP c o i fullShare (VF m c) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch1 : Memref sig .tc .vmem S4x2x1024x128 .bf16) (Rect.unit (s := S4x2x1024x128) off S1x1x1024x128.size inb) w Finset.univ hx hm) k) Q) := by
  unfold vP
  iintro ⟨%f, H⟩ Hk
  iapply (wp_store 𝒱₀ (c : Thread nD τ) none Set.univ (m := (Memref.whole cc0_scratch1 : Memref sig .tc .vmem S4x2x1024x128 .bf16)) (r := (Rect.unit (s := S4x2x1024x128) off S1x1x1024x128.size inb)) (Mk := Finset.univ) (S := kset o i) (by rw [View.setOn_univ]; exact on_v hoff inb)) $$ [H]
  · iexact H
  iintro H
  ihave H := (Entails.of_eq (show ((((Memref.whole cc0_scratch1 : Memref sig .tc .vmem S4x2x1024x128 .bf16).access (Rect.unit (s := S4x2x1024x128) off S1x1x1024x128.size inb)).loc (c : Thread nD τ) ↦[kset o i]{fullShare} (((Memref.whole cc0_scratch1 : Memref sig .tc .vmem S4x2x1024x128 .bf16).access (Rect.unit (s := S4x2x1024x128) off S1x1x1024x128.size inb) : View sig .tc _ _ _).write (Elt F) f w Finset.univ)) : sProp 𝕄)
      = (((c : Thread nD τ).loc cc0_scratch1) ↦[kset o i]{fullShare} (VF m c)) from pointsTo_congr (write_vf m c hoff inb f w hw))) $$ H
  iapply Hk
  iexact H
/-- A block split in two shares, and put together again. -/
theorem split_v (c : Dev nD) (o i : ℕ) : vP c o i fullShare (VF m c) ⊣⊢ iprop(vP c o i fullShare.left (VF m c) ∗ vP c o i fullShare.right (VF m c)) := by
  unfold vP
  exact pointsTo_share (PosShare.mem_left_op_right fullShare)

/-! ## The gathered heads -/

theorem on_g {off : Fin 3 → ℕ} {r p : ℕ} (hoff : off = ![r, 0, 0]) (hr : r / 2 = p) (inb : ∀ a, off a + S1x1024x128.size a ≤ S16x1024x128.size a) :
    ((Memref.whole cc0_scratch5 : Memref sig .tc .vmem S16x1024x128 .bf16).access (Rect.unit (s := S16x1024x128) off S1x1024x128.size inb)).set ⊆ gset p := by
  rw [show ((Memref.whole cc0_scratch5 : Memref sig .tc .vmem S16x1024x128 .bf16).access (Rect.unit (s := S16x1024x128) off S1x1024x128.size inb)).set = ((View.whole cc0_scratch5).slice (Rect.unit (s := S16x1024x128) off S1x1024x128.size inb)).set from rfl, View.set_slice_whole]
  exact row_gset hoff hr inb
theorem ld_gd (c : Dev nD) (r p : ℕ) (f : Vec F S16x1024x128 .bf16) {off : Fin 3 → ℕ} (hoff : off = ![r, 0, 0]) (hr : r / 2 = p) {inb} {ev} {α : Type} {Q : α → sProp 𝕄} {k : Vec F S1x1024x128 .bf16 → Prog (TpuEff nD τ sig (Elt F) Λ₀ .tc) α} :
    gP c p f ⊢ iprop((∀ x, gP c p f -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_scratch5 : Memref sig .tc .vmem S16x1024x128 .bf16) (Rect.unit (s := S16x1024x128) off S1x1024x128.size inb).toLoadRect ev) k) Q) := by
  unfold gP
  iintro H Hk
  iapply (wp_load 𝒱₀ (c : Thread nD τ) none Set.univ (m := (Memref.whole cc0_scratch5 : Memref sig .tc .vmem S16x1024x128 .bf16)) (S := gset p) (by have h := on_g hoff hr inb; rwa [View.set_slice] at h)) $$ [H]
  · iexact H
  iintro H
  iapply Hk
  iexact H
theorem st_g (c : Dev nD) (r p : ℕ) (f : Vec F S16x1024x128 .bf16) {off : Fin 3 → ℕ} (hoff : off = ![r, 0, 0]) (hr : r / 2 = p) {w : Vec F S1x1024x128 .bf16}
    {inb} {hx} {hm} {α : Type} {Q : α → sProp 𝕄} {k : PUnit → Prog (TpuEff nD τ sig (Elt F) Λ₀ .tc) α} :
    gP c p f ⊢ iprop((gP c p (((Memref.whole cc0_scratch5 : Memref sig .tc .vmem S16x1024x128 .bf16).access (Rect.unit (s := S16x1024x128) off S1x1024x128.size inb) : View sig .tc _ _ _).write (Elt F) f w Finset.univ) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_scratch5 : Memref sig .tc .vmem S16x1024x128 .bf16) (Rect.unit (s := S16x1024x128) off S1x1024x128.size inb) w Finset.univ hx hm) k) Q) := by
  unfold gP
  iintro H Hk
  iapply (wp_store 𝒱₀ (c : Thread nD τ) none Set.univ (m := (Memref.whole cc0_scratch5 : Memref sig .tc .vmem S16x1024x128 .bf16)) (r := (Rect.unit (s := S16x1024x128) off S1x1024x128.size inb)) (Mk := Finset.univ) (S := gset p) (by rw [View.setOn_univ]; exact on_g hoff hr inb)) $$ [H]
  · iexact H
  iintro H
  iapply Hk
  iexact H

/-- All sixteen heads in place. -/
def ogB (c : Dev nD) : sProp 𝕄 := ((c : Thread nD τ).loc cc0_scratch5) ↦{fullShare} OG m c
theorem ld_og (c : Dev nD) (r : ℕ) {inb} {ev} {α : Type} {Q : α → sProp 𝕄} {k : Vec F S1x1024x128 .bf16 → Prog (TpuEff nD τ sig (Elt F) Λ₀ .tc) α} :
    ogB m c ⊢ iprop((ogB m c -∗ wp frame (wpE (defs₀ (F := F)) 𝒱₀ (c : Thread nD τ) none) Set.univ (k (orow m (dh c r) (r % 2))) Q)
      -∗ wp frame (wpE (defs₀ (F := F)) 𝒱₀ (c : Thread nD τ) none) Set.univ (.op (.load (Memref.whole cc0_scratch5 : Memref sig .tc .vmem S16x1024x128 .bf16) (Rect.unit (s := S16x1024x128) ![r, 0, 0] S1x1024x128.size inb).toLoadRect ev) k) Q) := by
  unfold ogB
  iintro H Hk
  iapply (wp_load 𝒱₀ (c : Thread nD τ) none Set.univ (m := (Memref.whole cc0_scratch5 : Memref sig .tc .vmem S16x1024x128 .bf16)) (Finset.subset_univ _)) $$ [H]
  · iexact H
  iintro H
  rw [read_og m c rfl]
  iapply Hk
  iexact H

/-! ## The result -/

/-- The staging buffer holds the first `n` heads of the result. -/
def stB (c : Dev nD) (n : ℕ) : sProp 𝕄 := iprop(∃ f, ⌜OutUpTo m c n f⌝ ∗ (((c : Thread nD τ).loc cc0_stg0_0) ↦{fullShare} f))
theorem ld_st (c : Dev nD) (n' n : ℕ) {inb} {ev} {α : Type} {Q : α → sProp 𝕄} {k : Vec F S1024x1x128 .f32 → Prog (TpuEff nD τ sig (Elt F) Λ₀ .tc) α} :
    stB m c n' ⊢ iprop((∀ x, stB m c n' -∗ wp frame (wpE (defs₀ (F := F)) 𝒱₀ (c : Thread nD τ) none) Set.univ (k x) Q)
      -∗ wp frame (wpE (defs₀ (F := F)) 𝒱₀ (c : Thread nD τ) none) Set.univ (.op (.load (Memref.whole cc0_stg0_0 : Memref sig .tc .vmem S1024x16x128 .f32) (Rect.unit (s := S1024x16x128) ![0, n, 0] S1024x1x128.size inb).toLoadRect ev) k) Q) := by
  unfold stB
  iintro ⟨%f, %hf, H⟩ Hk
  iapply (wp_load 𝒱₀ (c : Thread nD τ) none Set.univ (m := (Memref.whole cc0_stg0_0 : Memref sig .tc .vmem S1024x16x128 .f32)) (Finset.subset_univ _)) $$ [H]
  · iexact H
  iintro H
  iapply Hk
  iexists f
  isplitr; · ipureintro; exact hf
  iexact H
theorem st_st (c : Dev nD) (n : ℕ) {w : Vec F S1024x1x128 .f32} (hw : w = k0_pay43 (orow m (dh c n) (n % 2))) {inb} {hx} {hm} {α : Type} {Q : α → sProp 𝕄} {k : PUnit → Prog (TpuEff nD τ sig (Elt F) Λ₀ .tc) α} :
    stB m c n ⊢ iprop((stB m c (n + 1) -∗ wp frame (wpE (defs₀ (F := F)) 𝒱₀ (c : Thread nD τ) none) Set.univ (k ⟨⟩) Q)
      -∗ wp frame (wpE (defs₀ (F := F)) 𝒱₀ (c : Thread nD τ) none) Set.univ (.op (.store (Memref.whole cc0_stg0_0 : Memref sig .tc .vmem S1024x16x128 .f32) (Rect.unit (s := S1024x16x128) ![0, n, 0] S1024x1x128.size inb) w Finset.univ hx hm) k) Q) := by
  unfold stB
  iintro ⟨%f, %hf, H⟩ Hk
  iapply (wp_store 𝒱₀ (c : Thread nD τ) none Set.univ (m := (Memref.whole cc0_stg0_0 : Memref sig .tc .vmem S1024x16x128 .f32)) (r := (Rect.unit (s := S1024x16x128) ![0, n, 0] S1024x1x128.size inb)) (Mk := Finset.univ) (Finset.subset_univ _)) $$ [H]
  · iexact H
  iintro H
  iapply Hk
  iexists _
  isplitr
  · ipureintro; exact outUpTo_succ m c inb f w hf hw
  iexact H

/-! ## The waits, by what was transferred -/

variable (K : Dev nD × Fin 42 → ℕ)

/-- The wait on a transfer of one block of the gathered keys. -/
theorem wait_k (c : Dev nD) (q : DmaSem sig) (hq : q.val ≠ 0) {S : DmaSem sig} (hS : S = q) (hN : dN q.val = zN) {off : Fin 4 → ℕ} {inb} {st} {sq}
    {sp' : Space} {src : Memref sig .tc sp' S1x1024x128 .bf16} {hsrc} {hdst} (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () zN) ∗ atPos ER (dcell c q) 0 ∅ 0)
      ⊢ iprop(((Ow (F := F) c n ∗ semVal (dcell c q) 0 ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src (((Memref.whole cc0_scratch0 : Memref sig .tc .vmem S4x2x1024x128 .bf16).slice (Rect.unit (s := S4x2x1024x128) off S1x1x1024x128.size inb) st).squeeze S1x1024x128 sq) hsrc hdst) k) Q) :=
  wait_step m K c q hq hS (dst := (((Memref.whole cc0_scratch0 : Memref sig .tc .vmem S4x2x1024x128 .bf16).slice (Rect.unit (s := S4x2x1024x128) off S1x1x1024x128.size inb) st).squeeze S1x1024x128 sq)) zN hN (show ((((Memref.whole cc0_scratch0 : Memref sig .tc .vmem S4x2x1024x128 .bf16).slice (Rect.unit (s := S4x2x1024x128) off S1x1x1024x128.size inb) st).squeeze S1x1024x128 sq)).view.dmaCredit = zN from rfl) n l hl hn

/-- The wait on a transfer of one block of the gathered values. -/
theorem wait_v (c : Dev nD) (q : DmaSem sig) (hq : q.val ≠ 0) {S : DmaSem sig} (hS : S = q) (hN : dN q.val = zN) {off : Fin 4 → ℕ} {inb} {st} {sq}
    {sp' : Space} {src : Memref sig .tc sp' S1x1024x128 .bf16} {hsrc} {hdst} (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () zN) ∗ atPos ER (dcell c q) 0 ∅ 0)
      ⊢ iprop(((Ow (F := F) c n ∗ semVal (dcell c q) 0 ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src (((Memref.whole cc0_scratch1 : Memref sig .tc .vmem S4x2x1024x128 .bf16).slice (Rect.unit (s := S4x2x1024x128) off S1x1x1024x128.size inb) st).squeeze S1x1024x128 sq) hsrc hdst) k) Q) :=
  wait_step m K c q hq hS (dst := (((Memref.whole cc0_scratch1 : Memref sig .tc .vmem S4x2x1024x128 .bf16).slice (Rect.unit (s := S4x2x1024x128) off S1x1x1024x128.size inb) st).squeeze S1x1024x128 sq)) zN hN (show ((((Memref.whole cc0_scratch1 : Memref sig .tc .vmem S4x2x1024x128 .bf16).slice (Rect.unit (s := S4x2x1024x128) off S1x1x1024x128.size inb) st).squeeze S1x1024x128 sq)).view.dmaCredit = zN from rfl) n l hl hn

/-- The wait on a transfer of one pair of the gathered heads. -/
theorem wait_g (c : Dev nD) (q : DmaSem sig) (hq : q.val ≠ 0) {S : DmaSem sig} (hS : S = q) (hN : dN q.val = gN) {off : Fin 3 → ℕ} {inb} {st}
    {sp' : Space} {src : Memref sig .tc sp' S2x1024x128 .bf16} {hsrc} {hdst} (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () gN) ∗ atPos ER (dcell c q) 0 ∅ 0)
      ⊢ iprop(((Ow (F := F) c n ∗ semVal (dcell c q) 0 ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src ((Memref.whole cc0_scratch5 : Memref sig .tc .vmem S16x1024x128 .bf16).slice (Rect.unit (s := S16x1024x128) off S2x1024x128.size inb) st) hsrc hdst) k) Q) :=
  wait_step m K c q hq hS (dst := ((Memref.whole cc0_scratch5 : Memref sig .tc .vmem S16x1024x128 .bf16).slice (Rect.unit (s := S16x1024x128) off S2x1024x128.size inb) st)) gN hN (show (((Memref.whole cc0_scratch5 : Memref sig .tc .vmem S16x1024x128 .bf16).slice (Rect.unit (s := S16x1024x128) off S2x1024x128.size inb) st)).view.dmaCredit = gN from rfl) n l hl hn

/-- The wait on the local copy of the queries. -/
theorem wait_tq (c : Dev nD) (q : DmaSem sig) (hq : q.val ≠ 0) {S : DmaSem sig} (hS : S = q) (hN : dN q.val = cN)
    {sp' : Space} {src : Memref sig .tc sp' S1024x2x128 .f32} {hsrc} {hdst} (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () cN) ∗ atPos ER (dcell c q) 0 ∅ 0)
      ⊢ iprop(((Ow (F := F) c n ∗ semVal (dcell c q) 0 ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src (Memref.whole cc0_scratch6 : Memref sig .tc .vmem S1024x2x128 .f32) hsrc hdst) k) Q) :=
  wait_step m K c q hq hS (dst := (Memref.whole cc0_scratch6 : Memref sig .tc .vmem S1024x2x128 .f32)) cN hN (show ((Memref.whole cc0_scratch6 : Memref sig .tc .vmem S1024x2x128 .f32)).view.dmaCredit = cN from rfl) n l hl hn

/-- The wait on the local copy of the keys. -/
theorem wait_tk (c : Dev nD) (q : DmaSem sig) (hq : q.val ≠ 0) {S : DmaSem sig} (hS : S = q) (hN : dN q.val = cN)
    {sp' : Space} {src : Memref sig .tc sp' S1024x2x128 .f32} {hsrc} {hdst} (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () cN) ∗ atPos ER (dcell c q) 0 ∅ 0)
      ⊢ iprop(((Ow (F := F) c n ∗ semVal (dcell c q) 0 ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src (Memref.whole cc0_scratch7 : Memref sig .tc .vmem S1024x2x128 .f32) hsrc hdst) k) Q) :=
  wait_step m K c q hq hS (dst := (Memref.whole cc0_scratch7 : Memref sig .tc .vmem S1024x2x128 .f32)) cN hN (show ((Memref.whole cc0_scratch7 : Memref sig .tc .vmem S1024x2x128 .f32)).view.dmaCredit = cN from rfl) n l hl hn

/-- The wait on the local copy of the values. -/
theorem wait_tv (c : Dev nD) (q : DmaSem sig) (hq : q.val ≠ 0) {S : DmaSem sig} (hS : S = q) (hN : dN q.val = cN)
    {sp' : Space} {src : Memref sig .tc sp' S1024x2x128 .f32} {hsrc} {hdst} (n l : ℕ) (hl : dlv q.val ≤ l) (hn : ∀ x ∈ plv.drop n, l < x)
    {α : Type} {Q : α → sProp 𝕄} {k : PUnit → Prog (TpuEff nD τ sig (Elt F) Λ₀ .tc) α} :
    iprop(records m K ∗ Ow (F := F) c n ∗ cred (tallyAt (dcell c q) () cN) ∗ atPos ER (dcell c q) 0 ∅ 0)
      ⊢ iprop(((Ow (F := F) c n ∗ semVal (dcell c q) 0 ∗ dmaPay m c q.val) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 S src (Memref.whole cc0_scratch8 : Memref sig .tc .vmem S1024x2x128 .f32) hsrc hdst) k) Q) :=
  wait_step m K c q hq hS (dst := (Memref.whole cc0_scratch8 : Memref sig .tc .vmem S1024x2x128 .f32)) cN hN (show ((Memref.whole cc0_scratch8 : Memref sig .tc .vmem S1024x2x128 .f32)).view.dmaCredit = cN from rfl) n l hl hn

/-! ## What goes over, as the receiver names it -/
theorem over_z0 (c : Dev nD) (h : ℕ) (hh : h < 3) : kP (zr c) (zb c h) 0 fullShare (KF m (zr c)) = zP m (zr c) 0 (h + 1) fullShare := by
  show _ = kP (zr c) (zb (zr c) (h + 1)) 0 fullShare (KF m (zr c))
  rw [zb_zr c h hh]
theorem over_z1 (c : Dev nD) (h : ℕ) (hh : h < 3) : vP (zr c) (zb c h) 0 fullShare (VF m (zr c)) = zP m (zr c) 1 (h + 1) fullShare := by
  show _ = vP (zr c) (zb (zr c) (h + 1)) 0 fullShare (VF m (zr c))
  rw [zb_zr c h hh]
theorem over_z2 (c : Dev nD) (h : ℕ) (hh : h < 3) : kP (zl c) (zf c h) 1 fullShare (KF m (zl c)) = zP m (zl c) 2 (h + 1) fullShare := by
  show _ = kP (zl c) (zf (zl c) (h + 1)) 1 fullShare (KF m (zl c))
  rw [zf_zl c h]
theorem over_z3 (c : Dev nD) (h : ℕ) (hh : h < 3) : vP (zl c) (zf c h) 1 fullShare (VF m (zl c)) = zP m (zl c) 3 (h + 1) fullShare := by
  show _ = vP (zl c) (zf (zl c) (h + 1)) 1 fullShare (VF m (zl c))
  rw [zf_zl c h]
theorem over_y0 (c : Dev nD) (h : ℕ) (hh : h < 3) : gP (yu c) (yb c h) (OG m (yu c)) = yP m (yu c) 0 (h + 1) := by
  show _ = gP (yu c) (yb (yu c) (h + 1)) (OG m (yu c))
  rw [yb_yu c h hh]
theorem over_y1 (c : Dev nD) (h : ℕ) (hh : h < 3) : gP (yd c) (yf c h) (OG m (yd c)) = yP m (yd c) 1 (h + 1) := by
  show _ = gP (yd c) (yf (yd c) (h + 1)) (OG m (yd c))
  rw [yf_yd c h]
theorem over_x (c : Dev nD) : gP (xp c) (pr c) (OG m (xp c)) = gP (xp c) (prx (xp c)) (OG m (xp c)) := by
  rw [prx_xp]

end Cert.KernelIdealProof

end
-- ==== Proof.KernelIdealPieces.lean ====
/-
# The buffers cut into the pieces that travel, and put together again
-/
module

public import proofs.«01_k».proof.Proof.KernelIdealRows

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- A device's own block is the one at its own place in the sequence. -/
theorem dz_zb0 (c : Dev nD) : dz c (zb c 0) = c := by revert c; decide
theorem dz_zf0 (c : Dev nD) : dz c (zf c 0) = c := by revert c; decide

/-- The eight pairs: `l` lists them all. -/
theorem pairs_list (c : Dev nD) (l : List ℕ) (h : Finset.range 8 = l.toFinset) (hl : l.Nodup) (f : Vec F S16x1024x128 .bf16) :
    ((((c : Thread nD τ).loc cc0_scratch5) ↦{fullShare} f : sProp 𝕄)) = bigSepL l fun p => gP (F := F) c p f := by
  rw [← bigSep_eq_bigSepL_of_eq l h hl]
  have hu : (Finset.univ : Finset S16x1024x128.Idx) = (Finset.range 8).biUnion gset := by
    ext j
    have hj : (j 0).val < 16 := (j 0).isLt
    refine ⟨fun _ => Finset.mem_biUnion.2 ⟨(j 0).val / 2, Finset.mem_range.2 (by omega), mem_gset.2 rfl⟩, fun _ => Finset.mem_univ _⟩
  show (((c : Thread nD τ).loc cc0_scratch5) ↦[(Finset.univ : Finset S16x1024x128.Idx)]{fullShare} f) = _
  rw [hu]
  exact pointsTo_biUnion _ _ fun t _ t' _ hne => gset_disj hne

/-- The eight blocks of a gathered buffer: `l` lists them all. -/
theorem kblocks_list (c : Dev nD) (l : List (ℕ × ℕ)) (h : Finset.range 4 ×ˢ Finset.range 2 = l.toFinset) (hl : l.Nodup) (f : Vec F S4x2x1024x128 .bf16) :
    ((((c : Thread nD τ).loc cc0_scratch0) ↦{fullShare} f : sProp 𝕄)) = bigSepL l fun p => kP (F := F) c p.1 p.2 fullShare f := by
  rw [← bigSep_eq_bigSepL_of_eq l h hl]
  have hu : (Finset.univ : Finset S4x2x1024x128.Idx) = (Finset.range 4 ×ˢ Finset.range 2).biUnion fun p => kset p.1 p.2 := by
    ext j
    refine ⟨fun _ => Finset.mem_biUnion.2 ⟨((j 0).val, (j 1).val), Finset.mem_product.2 ⟨Finset.mem_range.2 (j 0).isLt, Finset.mem_range.2 (j 1).isLt⟩, mem_kset.2 ⟨rfl, rfl⟩⟩, fun _ => Finset.mem_univ _⟩
  show (((c : Thread nD τ).loc cc0_scratch0) ↦[(Finset.univ : Finset S4x2x1024x128.Idx)]{fullShare} f) = _
  rw [hu]
  refine pointsTo_biUnion _ _ fun t _ t' _ hne => kset_disj ?_
  by_contra hc
  push Not at hc
  exact hne (Prod.ext hc.1 hc.2)
theorem vblocks_list (c : Dev nD) (l : List (ℕ × ℕ)) (h : Finset.range 4 ×ˢ Finset.range 2 = l.toFinset) (hl : l.Nodup) (f : Vec F S4x2x1024x128 .bf16) :
    ((((c : Thread nD τ).loc cc0_scratch1) ↦{fullShare} f : sProp 𝕄)) = bigSepL l fun p => vP (F := F) c p.1 p.2 fullShare f := by
  rw [← bigSep_eq_bigSepL_of_eq l h hl]
  have hu : (Finset.univ : Finset S4x2x1024x128.Idx) = (Finset.range 4 ×ˢ Finset.range 2).biUnion fun p => kset p.1 p.2 := by
    ext j
    refine ⟨fun _ => Finset.mem_biUnion.2 ⟨((j 0).val, (j 1).val), Finset.mem_product.2 ⟨Finset.mem_range.2 (j 0).isLt, Finset.mem_range.2 (j 1).isLt⟩, mem_kset.2 ⟨rfl, rfl⟩⟩, fun _ => Finset.mem_univ _⟩
  show (((c : Thread nD τ).loc cc0_scratch1) ↦[(Finset.univ : Finset S4x2x1024x128.Idx)]{fullShare} f) = _
  rw [hu]
  refine pointsTo_biUnion _ _ fun t _ t' _ hne => kset_disj ?_
  by_contra hc
  push Not at hc
  exact hne (Prod.ext hc.1 hc.2)

/-- The blocks in the order they are held, by the two directions. -/
abbrev zList (c : Dev nD) : List (ℕ × ℕ) := [(zb c 0, 0), (zb c 1, 0), (zb c 2, 0), (zb c 3, 0), (zf c 0, 1), (zf c 1, 1), (zf c 2, 1), (zf c 3, 1)]
theorem zList_all (c : Dev nD) : Finset.range 4 ×ˢ Finset.range 2 = (zList c).toFinset := by revert c; decide
theorem zList_nodup (c : Dev nD) : (zList c).Nodup := by revert c; decide
abbrev yList (c : Dev nD) : List ℕ := [yb c 0, yb c 1, yb c 2, yb c 3, yf c 0, yf c 1, yf c 2, yf c 3]
theorem yList_all (c : Dev nD) : Finset.range 8 = (yList c).toFinset := by revert c; decide
theorem yList_nodup (c : Dev nD) : (yList c).Nodup := by revert c; decide
abbrev xList (c : Dev nD) : List ℕ := [pr c, prx c, yb c 1, yb c 2, yb c 3, yf c 1, yf c 2, yf c 3]
theorem xList_all (c : Dev nD) : Finset.range 8 = (xList c).toFinset := by revert c; decide
theorem xList_nodup (c : Dev nD) : (xList c).Nodup := by revert c; decide

theorem k_cut (c : Dev nD) (f : Vec F S4x2x1024x128 .bf16) :
    ((((c : Thread nD τ).loc cc0_scratch0) ↦{fullShare} f : sProp 𝕄)) = iprop(kP c (zb c 0) 0 fullShare f ∗ kP c (zb c 1) 0 fullShare f ∗ kP c (zb c 2) 0 fullShare f ∗ kP c (zb c 3) 0 fullShare f
      ∗ kP c (zf c 0) 1 fullShare f ∗ kP c (zf c 1) 1 fullShare f ∗ kP c (zf c 2) 1 fullShare f ∗ kP c (zf c 3) 1 fullShare f) := by
  rw [kblocks_list c _ (zList_all c) (zList_nodup c)]
  rfl
theorem v_cut (c : Dev nD) (f : Vec F S4x2x1024x128 .bf16) :
    ((((c : Thread nD τ).loc cc0_scratch1) ↦{fullShare} f : sProp 𝕄)) = iprop(vP c (zb c 0) 0 fullShare f ∗ vP c (zb c 1) 0 fullShare f ∗ vP c (zb c 2) 0 fullShare f ∗ vP c (zb c 3) 0 fullShare f
      ∗ vP c (zf c 0) 1 fullShare f ∗ vP c (zf c 1) 1 fullShare f ∗ vP c (zf c 2) 1 fullShare f ∗ vP c (zf c 3) 1 fullShare f) := by
  rw [vblocks_list c _ (zList_all c) (zList_nodup c)]
  rfl
theorem g_cut (c : Dev nD) (f : Vec F S16x1024x128 .bf16) :
    ((((c : Thread nD τ).loc cc0_scratch5) ↦{fullShare} f : sProp 𝕄)) = iprop(gP c (pr c) f ∗ gP c (prx c) f ∗ gP c (yb c 1) f ∗ gP c (yb c 2) f ∗ gP c (yb c 3) f
      ∗ gP c (yf c 1) f ∗ gP c (yf c 2) f ∗ gP c (yf c 3) f) := by
  rw [pairs_list c _ (xList_all c) (xList_nodup c)]
  rfl
/-- All pairs arrived: the whole buffer of heads. -/
theorem merge_g (c : Dev nD) :
    iprop(gP c (yb c 0) (OG m c) ∗ gP c (yb c 1) (OG m c) ∗ gP c (yb c 2) (OG m c) ∗ gP c (yb c 3) (OG m c)
      ∗ gP c (yf c 0) (OG m c) ∗ gP c (yf c 1) (OG m c) ∗ gP c (yf c 2) (OG m c) ∗ gP c (yf c 3) (OG m c)) ⊢ ogB m c := by
  unfold ogB
  rw [pairs_list c _ (yList_all c) (yList_nodup c)]
  exact .rfl

/-- The own pair and the partner's are the two the streams along `y` start with. -/
theorem y_start (c : Dev nD) (f : Vec F S16x1024x128 .bf16) :
    iprop(gP c (pr c) f ∗ gP c (prx c) f) ⊢ iprop(gP (F := F) c (yb c 0) f ∗ gP c (yf c 0) f) := by
  have h : (pr c = yb c 0 ∧ prx c = yf c 0) ∨ (pr c = yf c 0 ∧ prx c = yb c 0) := by revert c; decide
  rcases h with ⟨h1, h2⟩ | ⟨h1, h2⟩
  · rw [h1, h2]
  · rw [h1, h2]; exact sep_comm.1

/-- The own pair after its two stores. -/
theorem og_pair (c : Dev nD) {off off' : Fin 3 → ℕ} (h : off = ![2 * pr c, 0, 0]) (h' : off' = ![2 * pr c + 1, 0, 0]) (inb : ∀ a, off a + S1x1024x128.size a ≤ S16x1024x128.size a)
    (inb' : ∀ a, off' a + S1x1024x128.size a ≤ S16x1024x128.size a)
    (f : Vec F S16x1024x128 .bf16) (w w' : Vec F S1x1024x128 .bf16) (hw : w = orow m c 0) (hw' : w' = orow m c 1) :
    gP c (pr c) (((Memref.whole cc0_scratch5 : Memref sig .tc .vmem S16x1024x128 .bf16).access (Rect.unit (s := S16x1024x128) off' S1x1024x128.size inb') : View sig .tc _ _ _).write (Elt F)
        (((Memref.whole cc0_scratch5 : Memref sig .tc .vmem S16x1024x128 .bf16).access (Rect.unit (s := S16x1024x128) off S1x1024x128.size inb) : View sig .tc _ _ _).write (Elt F) f w Finset.univ) w' Finset.univ)
      = gP c (pr c) (OG m c) := by
  unfold gP
  exact pointsTo_congr (write_og m c h h' inb inb' f w w' (by rw [dh_pr]; exact hw) (by rw [dh_pr]; exact hw'))

end Cert.KernelIdealProof

end
-- ==== Proof.KernelIdealPart1.lean ====
/-
# The copies in, the barrier, the first stores
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part1_wp (c : Dev nD)   {h0} {h1} {h2} {h3} {h4} {h5} {h6} {h7} {h8} {h9} {h10} {h11} {h12}
    {Φ : (Σ' (d0 : Dev nD) (v2 : BitVec 32) (v5 : BitVec 32) (v8 : BitVec 32) (v19 : BitVec 32) (v30 : BitVec 32) (v33 : BitVec 32), BitVec 32) → sProp 𝕄} :
    (iprop(records m K) : sProp 𝕄)
      ⊢ iprop((∀ (r1 : BitVec 32) (r2 : BitVec 32) (r3 : BitVec 32) (r4 : BitVec 32) (r5 : BitVec 32) (r6 : BitVec 32) (r7 : BitVec 32), Φ ⟨c, r1, r2, r3, r4, r5, r6, r7⟩) -∗ wp frame (wpE (defs₀ (F := F)) 𝒱₀ (c : Thread nD τ) none) Set.univ (k0_part1 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 ) Φ) := by
  rw [k0_part1_eq_skeleton]
  unfold k0_part1_skel
  simp only [semSignalWord, semWaitWord, Prog.lift, Prog.bind_op, Prog.bind_ret, Prog.pure_eq_ret]
  iintro #HR Hk
  rw [wp_deviceId]
  rw [wp_ret]
  imodintro
  iapply Hk

set_option maxRecDepth 65536 in
theorem part2_wp (c : Dev nD)  (v2 : BitVec 32) (v5 : BitVec 32) (v33 : BitVec 32) (v34 : BitVec 32) {h0} {h1} {h2} {h3} {h4} {h5} {h6} {h7} {h8} {h9} {h10} {h11} {h12}
    {Φ : (Σ' (v41 : BitVec 32) (v52 : BitVec 32) (v53 : BitVec 32), BitVec 32) → sProp 𝕄} :
    iprop(records m K ∗ (((mQ c).view.loc (c : Thread nD τ)) ↦[(mQ c).view.set]{fullShare} m ((c : Thread nD τ).loc main_arg0)) ∗ (∃ f, (((c : Thread nD τ).loc cc0_scratch6) ↦{fullShare} f)) ∗ dutyTok ER (dcell c (39 : Fin 42)) 0 0 ∗ (((mK c).view.loc (c : Thread nD τ)) ↦[(mK c).view.set]{fullShare} m ((c : Thread nD τ).loc main_arg1)) ∗ (∃ f, (((c : Thread nD τ).loc cc0_scratch7) ↦{fullShare} f)) ∗ dutyTok ER (dcell c (40 : Fin 42)) 0 0)
      ⊢ iprop((∀ (r0 : BitVec 32) (r1 : BitVec 32) (r2 : BitVec 32) (r3 : BitVec 32), (cred (tallyAt (dcell c (39 : Fin 42)) () cN) ∗ cred (tallyAt (dcell c (40 : Fin 42)) () cN)) -∗ Φ ⟨r0, r1, r2, r3⟩) -∗ wp frame (wpE (defs₀ (F := F)) 𝒱₀ (c : Thread nD τ) none) Set.univ (k0_part2 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v33 v34) Φ) := by
  rw [k0_part2_eq_skeleton]
  unfold k0_part2_skel
  simp only [semSignalWord, semWaitWord, Prog.lift, Prog.bind_op, Prog.bind_ret, Prog.pure_eq_ret]
  iintro ⟨#HR, A0, X0, T39, A1, X1, T40⟩ Hk
  icases X0 with ⟨%f0, X0⟩
  iapply (copy_q m K c rfl f0) $$ [A0 X0 T39]
  · isplitr; · iexact HR
    isplitl [A0]; · iexact A0
    isplitl [X0]; · iexact X0
    iexact T39
  iintro C39
  icases X1 with ⟨%f1, X1⟩
  iapply (copy_k m K c rfl f1) $$ [A1 X1 T40]
  · isplitr; · iexact HR
    isplitl [A1]; · iexact A1
    isplitl [X1]; · iexact X1
    iexact T40
  iintro C40
  rw [wp_ret]
  imodintro
  iapply Hk
  isplitl [C39]; · iexact C39
  iexact C40

set_option maxRecDepth 65536 in
theorem part3_wp (c : Dev nD)  (v2 : BitVec 32) (v5 : BitVec 32) (v8 : BitVec 32) (v19 : BitVec 32) (v30 : BitVec 32) (v41 : BitVec 32) (v52 : BitVec 32) (v53 : BitVec 32) {h0} {h1} {h2} {h3} {h4} {h5} {h6} {h7} {h8} {h9} {h10} {h11} {h12}
    {Φ : (Σ' (v69 : Sems sig S_) (v97 : BitVec 32), BitVec 32) → sProp 𝕄} :
    iprop(records m K ∗ (((mV c).view.loc (c : Thread nD τ)) ↦[(mV c).view.set]{fullShare} m ((c : Thread nD τ).loc main_arg2)) ∗ (∃ f, (((c : Thread nD τ).loc cc0_scratch8) ↦{fullShare} f)) ∗ dutyTok ER (dcell c (41 : Fin 42)) 0 0 ∗ Ow (F := F) c 0 ∗ dutyTok ER (bcell (zl c)) 0 0 ∗ barPay (F := F) (zl c) 0 ∗ dutyTok ER (bcell (zr c)) 0 1 ∗ barPay (F := F) (zr c) 1 ∗ dutyTok ER (bcell (xp c)) 0 2 ∗ barPay (F := F) (xp c) 2 ∗ dutyTok ER (bcell (yd c)) 0 3 ∗ barPay (F := F) (yd c) 3)
      ⊢ iprop((∀ (r1 : BitVec 32), (cred (tallyAt (dcell c (41 : Fin 42)) () cN) ∗ Ow (F := F) c 4) -∗ Φ ⟨(SemArray.scalar (sig.barrier 0 rfl) : Sems sig S_), r1, 1#32⟩) -∗ wp frame (wpE (defs₀ (F := F)) 𝒱₀ (c : Thread nD τ) none) Set.univ (k0_part3 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v8 v19 v30 v41 v52 v53) Φ) := by
  rw [k0_part3_eq_skeleton]
  unfold k0_part3_skel
  simp only [semSignalWord, semWaitWord, Prog.lift, Prog.bind_op, Prog.bind_ret, Prog.pure_eq_ret]
  iintro ⟨#HR, A2, X2, T41, O, B0, H0, B1, H1, B2, H2, B3, H3⟩ Hk
  icases X2 with ⟨%f2, X2⟩
  iapply (copy_v m K c rfl f2) $$ [A2 X2 T41]
  · isplitr; · iexact HR
    isplitl [A2]; · iexact A2
    isplitl [X2]; · iexact X2
    iexact T41
  iintro C41
  iapply (signal_step m K c (zl c) _ (dev1_eq c) 0 0 rfl) $$ [O B0 H0]
  · isplitr; · iexact HR
    isplitl [O]; · iexact O
    isplitl [B0]; · iexact B0
    iexact H0
  iintro O
  iapply (signal_step m K c (zr c) _ (dev2_eq c) 1 1 rfl) $$ [O B1 H1]
  · isplitr; · iexact HR
    isplitl [O]; · iexact O
    isplitl [B1]; · iexact B1
    iexact H1
  iintro O
  iapply (signal_step m K c (xp c) _ (dev3_eq c) 2 2 rfl) $$ [O B2 H2]
  · isplitr; · iexact HR
    isplitl [O]; · iexact O
    isplitl [B2]; · iexact B2
    iexact H2
  iintro O
  iapply (signal_step m K c (yd c) _ (dev4_eq c) 3 3 rfl) $$ [O B3 H3]
  · isplitr; · iexact HR
    isplitl [O]; · iexact O
    isplitl [B3]; · iexact B3
    iexact H3
  iintro O
  rw [wp_ret]
  imodintro
  iapply Hk
  isplitl [C41]; · iexact C41
  iexact O

set_option maxRecDepth 65536 in
theorem part4_wp (c : Dev nD) (uq : Vec F S1x1024x128 .bf16) (vq : Vec F S1x1024x128 .bf16) (v8 : BitVec 32) (v97 : BitVec 32) (c1_i32_68 : BitVec 32) {h0} {h1} {h2} {h3} {h4} {h5} {h6} {h7} {h8} {h9} {h10} {h11} {h12}
    {Φ : (PUnit) → sProp 𝕄} :
    iprop(records m K ∗ Ow (F := F) c 4 ∗ dutyTok ER (bcell (yu c)) 0 4 ∗ barPay (F := F) (yu c) 4 ∗ cred (tallyAt (bcell c) () 5) ∗ atPos ER (bcell c) 0 ∅ 0 ∗ cred (tallyAt (dcell c (39 : Fin 42)) () cN) ∗ atPos ER (dcell c (39 : Fin 42)) 0 ∅ 0 ∗ cred (tallyAt (dcell c (40 : Fin 42)) () cN) ∗ atPos ER (dcell c (40 : Fin 42)) 0 ∅ 0 ∗ cred (tallyAt (dcell c (41 : Fin 42)) () cN) ∗ atPos ER (dcell c (41 : Fin 42)) 0 ∅ 0 ∗ qB (F := F) c uq vq ∗ (∃ f, kP (F := F) c (zb c 0) 0 fullShare f))
      ⊢ iprop(((Ow (F := F) c 5 ∗ semVal (bcell c) 0 ∗ (∃ f, kP (F := F) (zr c) (zb c 0) 0 fullShare f) ∗ (∃ f, kP (F := F) (zr c) (zb c 1) 0 fullShare f) ∗ (∃ f, kP (F := F) (zr c) (zb c 2) 0 fullShare f) ∗ (∃ f, vP (F := F) (zr c) (zb c 0) 0 fullShare f) ∗ (∃ f, vP (F := F) (zr c) (zb c 1) 0 fullShare f) ∗ (∃ f, vP (F := F) (zr c) (zb c 2) 0 fullShare f) ∗ (∃ f, kP (F := F) (zl c) (zf c 0) 1 fullShare f) ∗ (∃ f, kP (F := F) (zl c) (zf c 1) 1 fullShare f) ∗ (∃ f, kP (F := F) (zl c) (zf c 2) 1 fullShare f) ∗ (∃ f, vP (F := F) (zl c) (zf c 0) 1 fullShare f) ∗ (∃ f, vP (F := F) (zl c) (zf c 1) 1 fullShare f) ∗ (∃ f, vP (F := F) (zl c) (zf c 2) 1 fullShare f) ∗ (∃ f, gP (F := F) (xp c) (pr c) f) ∗ (∃ f, gP (F := F) (yu c) (yb c 0) f) ∗ (∃ f, gP (F := F) (yu c) (yb c 1) f) ∗ (∃ f, gP (F := F) (yu c) (yb c 2) f) ∗ (∃ f, gP (F := F) (yd c) (yf c 0) f) ∗ (∃ f, gP (F := F) (yd c) (yf c 1) f) ∗ (∃ f, gP (F := F) (yd c) (yf c 2) f) ∗ semVal (dcell c (39 : Fin 42)) 0 ∗ qT m c ∗ (((mQ c).view.loc (c : Thread nD τ)) ↦[(mQ c).view.set]{fullShare} m ((c : Thread nD τ).loc main_arg0)) ∗ semVal (dcell c (40 : Fin 42)) 0 ∗ kT m c ∗ (((mK c).view.loc (c : Thread nD τ)) ↦[(mK c).view.set]{fullShare} m ((c : Thread nD τ).loc main_arg1)) ∗ semVal (dcell c (41 : Fin 42)) 0 ∗ vT m c ∗ (((mV c).view.loc (c : Thread nD τ)) ↦[(mV c).view.set]{fullShare} m ((c : Thread nD τ).loc main_arg2)) ∗ qB c (qrow m c 0) vq ∗ kP c (zb c 0) 0 fullShare (KF m c)) -∗ Φ ⟨⟩) -∗ wp frame (wpE (defs₀ (F := F)) 𝒱₀ (c : Thread nD τ) none) Set.univ (k0_part4 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v8 (SemArray.scalar (sig.barrier 0 rfl) : Sems sig S_) v97 c1_i32_68) Φ) := by
  rw [k0_part4_eq_skeleton]
  unfold k0_part4_skel
  simp only [semSignalWord, semWaitWord, Prog.lift, Prog.bind_op, Prog.bind_ret, Prog.pure_eq_ret]
  iintro ⟨#HR, O, B4, H4, CB, PB, C39, P39, C40, P40, C41, P41, Q, K00⟩ Hk
  iapply (signal_step m K c (yu c) _ (dev5_eq c) 4 4 rfl) $$ [O B4 H4]
  · isplitr; · iexact HR
    isplitl [O]; · iexact O
    isplitl [B4]; · iexact B4
    iexact H4
  iintro O
  iapply (barrier_step m K c) $$ [O CB PB]
  · isplitr; · iexact HR
    isplitl [O]; · iexact O
    isplitl [CB]; · iexact CB
    iexact PB
  iintro ⟨O, ZB, G0, G1, G2, G3, G4⟩
  ihave G0 := (Entails.of_eq (show barPay (F := F) c 0 = iprop(((∃ f, kP (F := F) (zr c) (zb c 0) 0 fullShare f) ∗ (∃ f, vP (F := F) (zr c) (zb c 0) 0 fullShare f)) ∗ ((∃ f, kP (F := F) (zr c) (zb c 1) 0 fullShare f) ∗ (∃ f, vP (F := F) (zr c) (zb c 1) 0 fullShare f)) ∗ ((∃ f, kP (F := F) (zr c) (zb c 2) 0 fullShare f) ∗ (∃ f, vP (F := F) (zr c) (zb c 2) 0 fullShare f))) from rfl)) $$ G0
  icases G0 with ⟨⟨D00, D10⟩, ⟨D01, D11⟩, ⟨D02, D12⟩⟩
  ihave G1 := (Entails.of_eq (show barPay (F := F) c 1 = iprop(((∃ f, kP (F := F) (zl c) (zf c 0) 1 fullShare f) ∗ (∃ f, vP (F := F) (zl c) (zf c 0) 1 fullShare f)) ∗ ((∃ f, kP (F := F) (zl c) (zf c 1) 1 fullShare f) ∗ (∃ f, vP (F := F) (zl c) (zf c 1) 1 fullShare f)) ∗ ((∃ f, kP (F := F) (zl c) (zf c 2) 1 fullShare f) ∗ (∃ f, vP (F := F) (zl c) (zf c 2) 1 fullShare f))) from rfl)) $$ G1
  icases G1 with ⟨⟨D20, D30⟩, ⟨D21, D31⟩, ⟨D22, D32⟩⟩
  ihave DX := (Entails.of_eq (show barPay (F := F) c 2 = iprop(∃ f, gP (F := F) (xp c) (pr c) f) from rfl)) $$ G2
  ihave G3 := (Entails.of_eq (show barPay (F := F) c 3 = iprop((∃ f, gP (F := F) (yu c) (yb c 0) f) ∗ (∃ f, gP (F := F) (yu c) (yb c 1) f) ∗ (∃ f, gP (F := F) (yu c) (yb c 2) f)) from rfl)) $$ G3
  icases G3 with ⟨E00, E01, E02⟩
  ihave G4 := (Entails.of_eq (show barPay (F := F) c 4 = iprop((∃ f, gP (F := F) (yd c) (yf c 0) f) ∗ (∃ f, gP (F := F) (yd c) (yf c 1) f) ∗ (∃ f, gP (F := F) (yd c) (yf c 2) f)) from rfl)) $$ G4
  icases G4 with ⟨E10, E11, E12⟩
  iapply (wait_tq m K c (39 : Fin 42) (by decide) rfl rfl 5 0 (by decide) (by decide)) $$ [O C39 P39]
  · isplitr; · iexact HR
    isplitl [O]; · iexact O
    isplitl [C39]; · iexact C39
    iexact P39
  iintro ⟨O, Z39, V⟩
  ihave V := (Entails.of_eq (show dmaPay (F := F) m c (39 : Fin 42).val = iprop(qT m c ∗ (((mQ c).view.loc (c : Thread nD τ)) ↦[(mQ c).view.set]{fullShare} m ((c : Thread nD τ).loc main_arg0))) from rfl)) $$ V
  icases V with ⟨X0, A0⟩
  iapply (wait_tk m K c (40 : Fin 42) (by decide) rfl rfl 5 0 (by decide) (by decide)) $$ [O C40 P40]
  · isplitr; · iexact HR
    isplitl [O]; · iexact O
    isplitl [C40]; · iexact C40
    iexact P40
  iintro ⟨O, Z40, V⟩
  ihave V := (Entails.of_eq (show dmaPay (F := F) m c (40 : Fin 42).val = iprop(kT m c ∗ (((mK c).view.loc (c : Thread nD τ)) ↦[(mK c).view.set]{fullShare} m ((c : Thread nD τ).loc main_arg1))) from rfl)) $$ V
  icases V with ⟨X1, A1⟩
  iapply (wait_tv m K c (41 : Fin 42) (by decide) rfl rfl 5 0 (by decide) (by decide)) $$ [O C41 P41]
  · isplitr; · iexact HR
    isplitl [O]; · iexact O
    isplitl [C41]; · iexact C41
    iexact P41
  iintro ⟨O, Z41, V⟩
  ihave V := (Entails.of_eq (show dmaPay (F := F) m c (41 : Fin 42).val = iprop(vT m c ∗ (((mV c).view.loc (c : Thread nD τ)) ↦[(mV c).view.set]{fullShare} m ((c : Thread nD τ).loc main_arg2))) from rfl)) $$ V
  icases V with ⟨X2, A2⟩
  iapply (ld_tq0 m c) $$ [X0]
  · iexact X0
  iintro X0
  iapply (ld_q0 c _ _) $$ [Q]
  · iexact Q
  iintro Q
  iapply (st_q0 c _ _ (qrow m c 0) rfl) $$ [Q]
  · iexact Q
  iintro Q
  iapply (ld_tk0 m c) $$ [X1]
  · iexact X1
  iintro X1
  iapply (ld_kd c (zb c 0) 0 (off2_eq c)) $$ [K00]
  · iexact K00
  iintro %x K00
  iapply (st_k m c (zb c 0) 0 (off2_eq c) (by rw [dz_zb0]; rfl)) $$ [K00]
  · iexact K00
  iintro K00
  rw [wp_ret]
  imodintro
  iapply Hk
  isplitl [O]; · iexact O
  isplitl [ZB]; · iexact ZB
  isplitl [D00]; · iexact D00
  isplitl [D01]; · iexact D01
  isplitl [D02]; · iexact D02
  isplitl [D10]; · iexact D10
  isplitl [D11]; · iexact D11
  isplitl [D12]; · iexact D12
  isplitl [D20]; · iexact D20
  isplitl [D21]; · iexact D21
  isplitl [D22]; · iexact D22
  isplitl [D30]; · iexact D30
  isplitl [D31]; · iexact D31
  isplitl [D32]; · iexact D32
  isplitl [DX]; · iexact DX
  isplitl [E00]; · iexact E00
  isplitl [E01]; · iexact E01
  isplitl [E02]; · iexact E02
  isplitl [E10]; · iexact E10
  isplitl [E11]; · iexact E11
  isplitl [E12]; · iexact E12
  isplitl [Z39]; · iexact Z39
  isplitl [X0]; · iexact X0
  isplitl [A0]; · iexact A0
  isplitl [Z40]; · iexact Z40
  isplitl [X1]; · iexact X1
  isplitl [A1]; · iexact A1
  isplitl [Z41]; · iexact Z41
  isplitl [X2]; · iexact X2
  isplitl [A2]; · iexact A2
  isplitl [Q]; · iexact Q
  iexact K00

set_option maxRecDepth 65536 in
theorem part5_wp (c : Dev nD) (vq : Vec F S1x1024x128 .bf16) (v8 : BitVec 32) {h0} {h1} {h2} {h3} {h4} {h5} {h6} {h7} {h8} {h9} {h10} {h11} {h12}
    {Φ : (FVec F S2x1024x128 .f32) → sProp 𝕄} :
    iprop(records m K ∗ vT m c ∗ (∃ f, vP (F := F) c (zb c 0) 0 fullShare f) ∗ qT m c ∗ qB c (qrow m c 0) vq ∗ kT m c ∗ (∃ f, kP (F := F) c (zf c 0) 1 fullShare f) ∗ (∃ f, vP (F := F) c (zf c 0) 1 fullShare f))
      ⊢ iprop(((vT m c ∗ vP c (zb c 0) 0 fullShare (VF m c) ∗ qT m c ∗ qB c (qrow m c 0) (qrow m c 1) ∗ kT m c ∗ kP c (zf c 0) 1 fullShare (KF m c) ∗ vP c (zf c 0) 1 fullShare (VF m c)) -∗ Φ (k0_pay8 (F := F))) -∗ wp frame (wpE (defs₀ (F := F)) 𝒱₀ (c : Thread nD τ) none) Set.univ (k0_part5 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v8) Φ) := by
  rw [k0_part5_eq_skeleton]
  unfold k0_part5_skel
  simp only [semSignalWord, semWaitWord, Prog.lift, Prog.bind_op, Prog.bind_ret, Prog.pure_eq_ret]
  iintro ⟨#HR, X2, K10, X0, Q, X1, K20, K30⟩ Hk
  iapply (ld_tv0 m c) $$ [X2]
  · iexact X2
  iintro X2
  iapply (ld_vd c (zb c 0) 0 (off2_eq c)) $$ [K10]
  · iexact K10
  iintro %x K10
  iapply (st_v m c (zb c 0) 0 (off2_eq c) (by rw [dz_zb0]; rfl)) $$ [K10]
  · iexact K10
  iintro K10
  iapply (ld_tq1 m c) $$ [X0]
  · iexact X0
  iintro X0
  iapply (ld_q1 c _ _) $$ [Q]
  · iexact Q
  iintro Q
  iapply (st_q1 c _ _ (qrow m c 1) rfl) $$ [Q]
  · iexact Q
  iintro Q
  iapply (ld_tk1 m c) $$ [X1]
  · iexact X1
  iintro X1
  iapply (ld_kd c (zf c 0) 1 (off3_eq c)) $$ [K20]
  · iexact K20
  iintro %x K20
  iapply (st_k m c (zf c 0) 1 (off3_eq c) (by rw [dz_zf0]; rfl)) $$ [K20]
  · iexact K20
  iintro K20
  iapply (ld_tv1 m c) $$ [X2]
  · iexact X2
  iintro X2
  iapply (ld_vd c (zf c 0) 1 (off3_eq c)) $$ [K30]
  · iexact K30
  iintro %x K30
  iapply (st_v m c (zf c 0) 1 (off3_eq c) (by rw [dz_zf0]; rfl)) $$ [K30]
  · iexact K30
  iintro K30
  rw [wp_ret]
  imodintro
  iapply Hk
  isplitl [X2]; · iexact X2
  isplitl [K10]; · iexact K10
  isplitl [X0]; · iexact X0
  isplitl [Q]; · iexact Q
  isplitl [X1]; · iexact X1
  isplitl [K20]; · iexact K20
  iexact K30

end Cert.KernelIdealProof

end
-- ==== Proof.KernelIdealPart2.lean ====
/-
# The accumulators cleared, the first block
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part6_wp (c : Dev nD) (ua : Vec F S1x1024x128 .f32) (va : Vec F S1x1024x128 .f32) (ul : Vec F S1x1024x128 .f32) (vl : Vec F S1x1024x128 .f32) (v2 : BitVec 32) (v5 : BitVec 32) (v8 : BitVec 32) {h0} {h1} {h2} {h3} {h4} {h5} {h6} {h7} {h8} {h9} {h10} {h11} {h12}
    {Φ : (BitVec 32) → sProp 𝕄} :
    iprop(records m K ∗ aB (F := F) c ua va ∗ lB (F := F) c ul vl)
      ⊢ iprop((∀ (r0 : BitVec 32), (aB c (Ac m c 0 0) (Ac m c 1 0) ∗ lB c (Lc m c 0 0) (Lc m c 1 0)) -∗ Φ r0) -∗ wp frame (wpE (defs₀ (F := F)) 𝒱₀ (c : Thread nD τ) none) Set.univ (k0_part6 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 v2 v5 v8 (k0_pay8 (F := F))) Φ) := by
  rw [k0_part6_eq_skeleton]
  unfold k0_part6_skel
  simp only [semSignalWord, semWaitWord, Prog.lift, Prog.bind_op, Prog.bind_ret, Prog.pure_eq_ret]
  iintro ⟨#HR, A, L⟩ Hk
  iapply (ld_aw c _ _) $$ [A]
  · iexact A
  iintro %x A
  iapply (st_aw c _ _ (Ac m c 0 0) (Ac m c 1 0) (funext fun j => by unfold pack; split <;> rfl)) $$ [A]
  · iexact A
  iintro A
  iapply (ld_lw c _ _) $$ [L]
  · iexact L
  iintro %x L
  iapply (st_lw c _ _ (Lc m c 0 0) (Lc m c 1 0) (funext fun j => by unfold pack; split <;> rfl)) $$ [L]
  · iexact L
  iintro L
  rw [wp_ret]
  imodintro
  iapply Hk
  isplitl [A]; · iexact A
  iexact L

set_option maxRecDepth 65536 in
theorem part7_wp (c : Dev nD)  (v2 : BitVec 32) (v5 : BitVec 32) (v19 : BitVec 32) (v30 : BitVec 32) (v185 : BitVec 32) {h0} {h1} {h2} {h3} {h4} {h5} {h6} {h7} {h8} {h9} {h10} {h11} {h12}
    {Φ : (Σ' (v213 : BitVec 32), BitVec 32) → sProp 𝕄} :
    iprop(records m K ∗ Ow (F := F) c 5 ∗ dutyTok ER (dcell c (1 : Fin 42)) 0 0 ∗ dutyTok ER (dcell (zr c) (13 : Fin 42)) 0 0 ∗ kP c (zb c 0) 0 fullShare (KF m c) ∗ (∃ f, kP (F := F) (zr c) (zb c 0) 0 fullShare f) ∗ dutyTok ER (dcell c (4 : Fin 42)) 0 0 ∗ dutyTok ER (dcell (zr c) (16 : Fin 42)) 0 0 ∗ vP c (zb c 0) 0 fullShare (VF m c) ∗ (∃ f, vP (F := F) (zr c) (zb c 0) 0 fullShare f))
      ⊢ iprop((∀ (r0 : BitVec 32) (r1 : BitVec 32), (Ow (F := F) c 7 ∗ kP c (zb c 0) 0 fullShare.right (KF m c) ∗ cred (tallyAt (dcell c (1 : Fin 42)) () zN) ∗ vP c (zb c 0) 0 fullShare.right (VF m c) ∗ cred (tallyAt (dcell c (4 : Fin 42)) () zN)) -∗ Φ ⟨r0, r1⟩) -∗ wp frame (wpE (defs₀ (F := F)) 𝒱₀ (c : Thread nD τ) none) Set.univ (k0_part7 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19 v30 v185) Φ) := by
  rw [k0_part7_eq_skeleton]
  unfold k0_part7_skel
  simp only [semSignalWord, semWaitWord, Prog.lift, Prog.bind_op, Prog.bind_ret, Prog.pure_eq_ret]
  iintro ⟨#HR, O, T1, R13, K00, D00, T4, R16, K10, D10⟩ Hk
  ihave V := ((split_k m c (zb c 0) 0).1) $$ K00
  icases V with ⟨J00, KR00⟩
  iapply (send_k m K c (zr c) _ (dev6_eq c) (KF_zr m c) (1 : Fin 42) (13 : Fin 42) (by decide) (by decide) rfl rfl (zb c 0) 0 (off4_eq c 0) _ rfl rfl (Entails.of_eq rfl) (Entails.of_eq (over_z0 m c 0 (by decide))) 5 rfl) $$ [O T1 R13 J00 D00]
  · isplitr; · iexact HR
    isplitl [O]; · iexact O
    isplitl [T1]; · iexact T1
    isplitl [R13]; · iexact R13
    isplitl [J00]; · iexact J00
    iexact D00
  iintro ⟨C1, O⟩
  ihave V := ((split_v m c (zb c 0) 0).1) $$ K10
  icases V with ⟨J10, KR10⟩
  iapply (send_v m K c (zr c) _ (dev7_eq c) (VF_zr m c) (4 : Fin 42) (16 : Fin 42) (by decide) (by decide) rfl rfl (zb c 0) 0 (off4_eq c 0) _ rfl rfl (Entails.of_eq rfl) (Entails.of_eq (over_z1 m c 0 (by decide))) 6 rfl) $$ [O T4 R16 J10 D10]
  · isplitr; · iexact HR
    isplitl [O]; · iexact O
    isplitl [T4]; · iexact T4
    isplitl [R16]; · iexact R16
    isplitl [J10]; · iexact J10
    iexact D10
  iintro ⟨C4, O⟩
  rw [wp_ret]
  imodintro
  iapply Hk
  isplitl [O]; · iexact O
  isplitl [KR00]; · iexact KR00
  isplitl [C1]; · iexact C1
  isplitl [KR10]; · iexact KR10
  iexact C4

set_option maxRecDepth 65536 in
theorem part8_wp (c : Dev nD)  (v2 : BitVec 32) (v5 : BitVec 32) (v8 : BitVec 32) (v30 : BitVec 32) (v213 : BitVec 32) (v214 : BitVec 32) {h0} {h1} {h2} {h3} {h4} {h5} {h6} {h7} {h8} {h9} {h10} {h11} {h12}
    {Φ : (Σ' (v240 : BitVec 32) (v241 : BitVec 32) (v242 : BitVec 1), BitVec 1) → sProp 𝕄} :
    iprop(records m K ∗ Ow (F := F) c 7 ∗ dutyTok ER (dcell c (7 : Fin 42)) 0 0 ∗ dutyTok ER (dcell (zl c) (19 : Fin 42)) 0 0 ∗ kP c (zf c 0) 1 fullShare (KF m c) ∗ (∃ f, kP (F := F) (zl c) (zf c 0) 1 fullShare f) ∗ dutyTok ER (dcell c (10 : Fin 42)) 0 0 ∗ dutyTok ER (dcell (zl c) (22 : Fin 42)) 0 0 ∗ vP c (zf c 0) 1 fullShare (VF m c) ∗ (∃ f, vP (F := F) (zl c) (zf c 0) 1 fullShare f))
      ⊢ iprop((∀ (r0 : BitVec 32) (r1 : BitVec 32) (r2 : BitVec 1) (r3 : BitVec 1), (Ow (F := F) c 9 ∗ kP c (zf c 0) 1 fullShare.right (KF m c) ∗ cred (tallyAt (dcell c (7 : Fin 42)) () zN) ∗ vP c (zf c 0) 1 fullShare.right (VF m c) ∗ cred (tallyAt (dcell c (10 : Fin 42)) () zN)) -∗ Φ ⟨r0, r1, r2, r3⟩) -∗ wp frame (wpE (defs₀ (F := F)) 𝒱₀ (c : Thread nD τ) none) Set.univ (k0_part8 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v8 v30 v213 v214) Φ) := by
  rw [k0_part8_eq_skeleton]
  unfold k0_part8_skel
  simp only [semSignalWord, semWaitWord, Prog.lift, Prog.bind_op, Prog.bind_ret, Prog.pure_eq_ret]
  iintro ⟨#HR, O, T7, R19, K20, D20, T10, R22, K30, D30⟩ Hk
  ihave V := ((split_k m c (zf c 0) 1).1) $$ K20
  icases V with ⟨J20, KR20⟩
  iapply (send_k m K c (zl c) _ (dev8_eq c) (KF_zl m c) (7 : Fin 42) (19 : Fin 42) (by decide) (by decide) rfl rfl (zf c 0) 1 (off5_eq c 0) _ rfl rfl (Entails.of_eq rfl) (Entails.of_eq (over_z2 m c 0 (by decide))) 7 rfl) $$ [O T7 R19 J20 D20]
  · isplitr; · iexact HR
    isplitl [O]; · iexact O
    isplitl [T7]; · iexact T7
    isplitl [R19]; · iexact R19
    isplitl [J20]; · iexact J20
    iexact D20
  iintro ⟨C7, O⟩
  ihave V := ((split_v m c (zf c 0) 1).1) $$ K30
  icases V with ⟨J30, KR30⟩
  iapply (send_v m K c (zl c) _ (dev9_eq c) (VF_zl m c) (10 : Fin 42) (22 : Fin 42) (by decide) (by decide) rfl rfl (zf c 0) 1 (off5_eq c 0) _ rfl rfl (Entails.of_eq rfl) (Entails.of_eq (over_z3 m c 0 (by decide))) 8 rfl) $$ [O T10 R22 J30 D30]
  · isplitr; · iexact HR
    isplitl [O]; · iexact O
    isplitl [T10]; · iexact T10
    isplitl [R22]; · iexact R22
    isplitl [J30]; · iexact J30
    iexact D30
  iintro ⟨C10, O⟩
  rw [wp_ret]
  imodintro
  iapply Hk
  isplitl [O]; · iexact O
  isplitl [KR20]; · iexact KR20
  isplitl [C7]; · iexact C7
  isplitl [KR30]; · iexact KR30
  iexact C10

set_option maxRecDepth 65536 in
theorem part9_wp (c : Dev nD)  (v8 : BitVec 32) (v240 : BitVec 32) (v241 : BitVec 32) (v242 : BitVec 1) (v245 : BitVec 1) {h0} {h1} {h2} {h3} {h4} {h5} {h6} {h7} {h8} {h9} {h10} {h11} {h12}
    {Φ : (Σ' (v248 : BitVec 32) (v259 : BitVec 32) (v268 : FVec F S1024x1024 .f32), Vec F S1x1024x128 .f32) → sProp 𝕄} :
    iprop(records m K ∗ qB c (qrow m c 0) (qrow m c 1) ∗ kP c (zb c 0) 0 fullShare.right (KF m c) ∗ lB c (Lc m c 0 0) (Lc m c 1 0) ∗ aB c (Ac m c 0 0) (Ac m c 1 0))
      ⊢ iprop((∀ (r0 : BitVec 32) (r1 : BitVec 32), (qB c (qrow m c 0) (qrow m c 1) ∗ kP c (zb c 0) 0 fullShare.right (KF m c) ∗ lB c (Lc m c 0 1) (Lc m c 1 0) ∗ aB c (Ac m c 0 0) (Ac m c 1 0)) -∗ Φ ⟨r0, r1, k0_pay11 (qrow m c 0) (kblk m (dz c (zb c 0)) 0), (Ac m c 0 0)⟩) -∗ wp frame (wpE (defs₀ (F := F)) 𝒱₀ (c : Thread nD τ) none) Set.univ (k0_part9 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v8 v240 v241 v242 v245) Φ) := by
  rw [k0_part9_eq_skeleton]
  unfold k0_part9_skel
  simp only [semSignalWord, semWaitWord, Prog.lift, Prog.bind_op, Prog.bind_ret, Prog.pure_eq_ret]
  iintro ⟨#HR, Q, KR00, L, A⟩ Hk
  iapply (ld_q0 c _ _) $$ [Q]
  · iexact Q
  iintro Q
  iapply (ld_k m c (zb c 0) 0 fullShare.right (off6_eq c 0)) $$ [KR00]
  · iexact KR00
  iintro KR00
  iapply (ld_l0 c _ _) $$ [L]
  · iexact L
  iintro L
  iapply (ld_l0 c _ _) $$ [L]
  · iexact L
  iintro L
  iapply (st_l0 c _ _ (Lc m c 0 1) rfl) $$ [L]
  · iexact L
  iintro L
  iapply (ld_a0 c _ _) $$ [A]
  · iexact A
  iintro A
  rw [wp_ret]
  imodintro
  iapply Hk
  isplitl [Q]; · iexact Q
  isplitl [KR00]; · iexact KR00
  isplitl [L]; · iexact L
  iexact A

set_option maxRecDepth 65536 in
theorem part10_wp (c : Dev nD)  (v248 : BitVec 32) (v259 : BitVec 32) {h0} {h1} {h2} {h3} {h4} {h5} {h6} {h7} {h8} {h9} {h10} {h11} {h12}
    {Φ : (Σ' (v310 : FVec F S1024x128 .f32), FVec F S1024x1024 .bf16) → sProp 𝕄} :
    iprop(records m K ∗ vP c (zb c 0) 0 fullShare.right (VF m c) ∗ aB c (Ac m c 0 0) (Ac m c 1 0) ∗ qB c (qrow m c 0) (qrow m c 1) ∗ kP c (zf c 0) 1 fullShare.right (KF m c) ∗ lB c (Lc m c 0 1) (Lc m c 1 0))
      ⊢ iprop(((vP c (zb c 0) 0 fullShare.right (VF m c) ∗ aB c (Ac m c 0 1) (Ac m c 1 0) ∗ qB c (qrow m c 0) (qrow m c 1) ∗ kP c (zf c 0) 1 fullShare.right (KF m c) ∗ lB c (Lc m c 0 1) (Lc m c 1 1)) -∗ Φ ⟨k0_pay16 (Ac m c 1 0), k0_pay17 (qrow m c 1) (kblk m (dz c (zf c 0)) 1)⟩) -∗ wp frame (wpE (defs₀ (F := F)) 𝒱₀ (c : Thread nD τ) none) Set.univ (k0_part10 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v248 v259 (k0_pay11 (qrow m c 0) (kblk m (dz c (zb c 0)) 0)) (Ac m c 0 0)) Φ) := by
  rw [k0_part10_eq_skeleton]
  unfold k0_part10_skel
  simp only [semSignalWord, semWaitWord, Prog.lift, Prog.bind_op, Prog.bind_ret, Prog.pure_eq_ret]
  iintro ⟨#HR, KR10, A, Q, KR20, L⟩ Hk
  iapply (ld_v m c (zb c 0) 0 fullShare.right (off6_eq c 0)) $$ [KR10]
  · iexact KR10
  iintro KR10
  iapply (ld_a0 c _ _) $$ [A]
  · iexact A
  iintro A
  iapply (st_a0 c _ _ (Ac m c 0 1) rfl) $$ [A]
  · iexact A
  iintro A
  iapply (ld_q1 c _ _) $$ [Q]
  · iexact Q
  iintro Q
  iapply (ld_k m c (zf c 0) 1 fullShare.right (off7_eq c 0)) $$ [KR20]
  · iexact KR20
  iintro KR20
  iapply (ld_l1 c _ _) $$ [L]
  · iexact L
  iintro L
  iapply (ld_l1 c _ _) $$ [L]
  · iexact L
  iintro L
  iapply (st_l1 c _ _ (Lc m c 1 1) rfl) $$ [L]
  · iexact L
  iintro L
  iapply (ld_a1 c _ _) $$ [A]
  · iexact A
  iintro A
  rw [wp_ret]
  imodintro
  iapply Hk
  isplitl [KR10]; · iexact KR10
  isplitl [A]; · iexact A
  isplitl [Q]; · iexact Q
  isplitl [KR20]; · iexact KR20
  iexact L

end Cert.KernelIdealProof

end
-- ==== Proof.KernelIdealPart3.lean ====
/-
# The first hop along z
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part11_wp (c : Dev nD)  (v2 : BitVec 32) (v5 : BitVec 32) (v19 : BitVec 32) {h0} {h1} {h2} {h3} {h4} {h5} {h6} {h7} {h8} {h9} {h10} {h11} {h12}
    {Φ : (PUnit) → sProp 𝕄} :
    iprop(records m K ∗ vP c (zf c 0) 1 fullShare.right (VF m c) ∗ aB c (Ac m c 0 1) (Ac m c 1 0) ∗ Ow (F := F) c 9 ∗ cred (tallyAt (dcell c (1 : Fin 42)) () zN) ∗ atPos ER (dcell c (1 : Fin 42)) 0 ∅ 0 ∗ kP c (zb c 0) 0 fullShare.right (KF m c) ∗ cred (tallyAt (dcell c (13 : Fin 42)) () zN) ∗ atPos ER (dcell c (13 : Fin 42)) 0 ∅ 0)
      ⊢ iprop(((vP c (zf c 0) 1 fullShare.right (VF m c) ∗ aB c (Ac m c 0 1) (Ac m c 1 1) ∗ Ow (F := F) c 9 ∗ semVal (dcell c (1 : Fin 42)) 0 ∗ kP c (zb c 0) 0 fullShare (KF m c) ∗ semVal (dcell c (13 : Fin 42)) 0 ∗ kP c (zb c 1) 0 fullShare (KF m c)) -∗ Φ ⟨⟩) -∗ wp frame (wpE (defs₀ (F := F)) 𝒱₀ (c : Thread nD τ) none) Set.univ (k0_part11 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19 (k0_pay16 (Ac m c 1 0)) (k0_pay17 (qrow m c 1) (kblk m (dz c (zf c 0)) 1))) Φ) := by
  rw [k0_part11_eq_skeleton]
  unfold k0_part11_skel
  simp only [semSignalWord, semWaitWord, Prog.lift, Prog.bind_op, Prog.bind_ret, Prog.pure_eq_ret]
  iintro ⟨#HR, KR30, A, O, C1, P1, KR00, C13, P13⟩ Hk
  iapply (ld_v m c (zf c 0) 1 fullShare.right (off7_eq c 0)) $$ [KR30]
  · iexact KR30
  iintro KR30
  iapply (ld_a1 c _ _) $$ [A]
  · iexact A
  iintro A
  iapply (st_a1 c _ _ (Ac m c 1 1) rfl) $$ [A]
  · iexact A
  iintro A
  iapply (wait_k m K c (1 : Fin 42) (by decide) rfl rfl 9 0 (by decide) (by decide)) $$ [O C1 P1]
  · isplitr; · iexact HR
    isplitl [O]; · iexact O
    isplitl [C1]; · iexact C1
    iexact P1
  iintro ⟨O, Z1, V⟩
  ihave J00 := (Entails.of_eq (show dmaPay (F := F) m c (1 : Fin 42).val = iprop(kP c (zb c 0) 0 fullShare.left (KF m c)) from rfl)) $$ V
  ihave K00 := ((split_k m c (zb c 0) 0).2) $$ [J00 KR00]
  · isplitl [J00]; · iexact J00
    iexact KR00
  iapply (wait_k m K c (13 : Fin 42) (by decide) rfl rfl 9 2 (by decide) (by decide)) $$ [O C13 P13]
  · isplitr; · iexact HR
    isplitl [O]; · iexact O
    isplitl [C13]; · iexact C13
    iexact P13
  iintro ⟨O, Z13, V⟩
  ihave K01 := (Entails.of_eq (show dmaPay (F := F) m c (13 : Fin 42).val = iprop(kP c (zb c 1) 0 fullShare (KF m c)) from rfl)) $$ V
  rw [wp_ret]
  imodintro
  iapply Hk
  isplitl [KR30]; · iexact KR30
  isplitl [A]; · iexact A
  isplitl [O]; · iexact O
  isplitl [Z1]; · iexact Z1
  isplitl [K00]; · iexact K00
  isplitl [Z13]; · iexact Z13
  iexact K01

set_option maxRecDepth 65536 in
theorem part12_wp (c : Dev nD)  (v2 : BitVec 32) (v5 : BitVec 32) (v19 : BitVec 32) {h0} {h1} {h2} {h3} {h4} {h5} {h6} {h7} {h8} {h9} {h10} {h11} {h12}
    {Φ : (PUnit) → sProp 𝕄} :
    iprop(records m K ∗ Ow (F := F) c 9 ∗ cred (tallyAt (dcell c (4 : Fin 42)) () zN) ∗ atPos ER (dcell c (4 : Fin 42)) 0 ∅ 0 ∗ vP c (zb c 0) 0 fullShare.right (VF m c) ∗ cred (tallyAt (dcell c (16 : Fin 42)) () zN) ∗ atPos ER (dcell c (16 : Fin 42)) 0 ∅ 0)
      ⊢ iprop(((Ow (F := F) c 9 ∗ semVal (dcell c (4 : Fin 42)) 0 ∗ vP c (zb c 0) 0 fullShare (VF m c) ∗ semVal (dcell c (16 : Fin 42)) 0 ∗ vP c (zb c 1) 0 fullShare (VF m c)) -∗ Φ ⟨⟩) -∗ wp frame (wpE (defs₀ (F := F)) 𝒱₀ (c : Thread nD τ) none) Set.univ (k0_part12 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19) Φ) := by
  rw [k0_part12_eq_skeleton]
  unfold k0_part12_skel
  simp only [semSignalWord, semWaitWord, Prog.lift, Prog.bind_op, Prog.bind_ret, Prog.pure_eq_ret]
  iintro ⟨#HR, O, C4, P4, KR10, C16, P16⟩ Hk
  iapply (wait_v m K c (4 : Fin 42) (by decide) rfl rfl 9 0 (by decide) (by decide)) $$ [O C4 P4]
  · isplitr; · iexact HR
    isplitl [O]; · iexact O
    isplitl [C4]; · iexact C4
    iexact P4
  iintro ⟨O, Z4, V⟩
  ihave J10 := (Entails.of_eq (show dmaPay (F := F) m c (4 : Fin 42).val = iprop(vP c (zb c 0) 0 fullShare.left (VF m c)) from rfl)) $$ V
  ihave K10 := ((split_v m c (zb c 0) 0).2) $$ [J10 KR10]
  · isplitl [J10]; · iexact J10
    iexact KR10
  iapply (wait_v m K c (16 : Fin 42) (by decide) rfl rfl 9 2 (by decide) (by decide)) $$ [O C16 P16]
  · isplitr; · iexact HR
    isplitl [O]; · iexact O
    isplitl [C16]; · iexact C16
    iexact P16
  iintro ⟨O, Z16, V⟩
  ihave K11 := (Entails.of_eq (show dmaPay (F := F) m c (16 : Fin 42).val = iprop(vP c (zb c 1) 0 fullShare (VF m c)) from rfl)) $$ V
  rw [wp_ret]
  imodintro
  iapply Hk
  isplitl [O]; · iexact O
  isplitl [Z4]; · iexact Z4
  isplitl [K10]; · iexact K10
  isplitl [Z16]; · iexact Z16
  iexact K11

set_option maxRecDepth 65536 in
theorem part13_wp (c : Dev nD)  (v2 : BitVec 32) (v5 : BitVec 32) (v30 : BitVec 32) {h0} {h1} {h2} {h3} {h4} {h5} {h6} {h7} {h8} {h9} {h10} {h11} {h12}
    {Φ : (Σ' (v383 : BitVec 32), BitVec 32) → sProp 𝕄} :
    iprop(records m K ∗ Ow (F := F) c 9 ∗ cred (tallyAt (dcell c (7 : Fin 42)) () zN) ∗ atPos ER (dcell c (7 : Fin 42)) 0 ∅ 0 ∗ kP c (zf c 0) 1 fullShare.right (KF m c) ∗ cred (tallyAt (dcell c (19 : Fin 42)) () zN) ∗ atPos ER (dcell c (19 : Fin 42)) 0 ∅ 0 ∗ cred (tallyAt (dcell c (10 : Fin 42)) () zN) ∗ atPos ER (dcell c (10 : Fin 42)) 0 ∅ 0 ∗ vP c (zf c 0) 1 fullShare.right (VF m c))
      ⊢ iprop((∀ (r0 : BitVec 32), (Ow (F := F) c 9 ∗ semVal (dcell c (7 : Fin 42)) 0 ∗ kP c (zf c 0) 1 fullShare (KF m c) ∗ semVal (dcell c (19 : Fin 42)) 0 ∗ kP c (zf c 1) 1 fullShare (KF m c) ∗ semVal (dcell c (10 : Fin 42)) 0 ∗ vP c (zf c 0) 1 fullShare (VF m c)) -∗ Φ ⟨r0, 1#32⟩) -∗ wp frame (wpE (defs₀ (F := F)) 𝒱₀ (c : Thread nD τ) none) Set.univ (k0_part13 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v30) Φ) := by
  rw [k0_part13_eq_skeleton]
  unfold k0_part13_skel
  simp only [semSignalWord, semWaitWord, Prog.lift, Prog.bind_op, Prog.bind_ret, Prog.pure_eq_ret]
  iintro ⟨#HR, O, C7, P7, KR20, C19, P19, C10, P10, KR30⟩ Hk
  iapply (wait_k m K c (7 : Fin 42) (by decide) rfl rfl 9 0 (by decide) (by decide)) $$ [O C7 P7]
  · isplitr; · iexact HR
    isplitl [O]; · iexact O
    isplitl [C7]; · iexact C7
    iexact P7
  iintro ⟨O, Z7, V⟩
  ihave J20 := (Entails.of_eq (show dmaPay (F := F) m c (7 : Fin 42).val = iprop(kP c (zf c 0) 1 fullShare.left (KF m c)) from rfl)) $$ V
  ihave K20 := ((split_k m c (zf c 0) 1).2) $$ [J20 KR20]
  · isplitl [J20]; · iexact J20
    iexact KR20
  iapply (wait_k m K c (19 : Fin 42) (by decide) rfl rfl 9 2 (by decide) (by decide)) $$ [O C19 P19]
  · isplitr; · iexact HR
    isplitl [O]; · iexact O
    isplitl [C19]; · iexact C19
    iexact P19
  iintro ⟨O, Z19, V⟩
  ihave K21 := (Entails.of_eq (show dmaPay (F := F) m c (19 : Fin 42).val = iprop(kP c (zf c 1) 1 fullShare (KF m c)) from rfl)) $$ V
  iapply (wait_v m K c (10 : Fin 42) (by decide) rfl rfl 9 0 (by decide) (by decide)) $$ [O C10 P10]
  · isplitr; · iexact HR
    isplitl [O]; · iexact O
    isplitl [C10]; · iexact C10
    iexact P10
  iintro ⟨O, Z10, V⟩
  ihave J30 := (Entails.of_eq (show dmaPay (F := F) m c (10 : Fin 42).val = iprop(vP c (zf c 0) 1 fullShare.left (VF m c)) from rfl)) $$ V
  ihave K30 := ((split_v m c (zf c 0) 1).2) $$ [J30 KR30]
  · isplitl [J30]; · iexact J30
    iexact KR30
  rw [wp_ret]
  imodintro
  iapply Hk
  isplitl [O]; · iexact O
  isplitl [Z7]; · iexact Z7
  isplitl [K20]; · iexact K20
  isplitl [Z19]; · iexact Z19
  isplitl [K21]; · iexact K21
  isplitl [Z10]; · iexact Z10
  iexact K30

set_option maxRecDepth 65536 in
theorem part14_wp (c : Dev nD)  (v2 : BitVec 32) (v8 : BitVec 32) (v30 : BitVec 32) (v383 : BitVec 32) (c1_i32_348 : BitVec 32) {h0} {h1} {h2} {h3} {h4} {h5} {h6} {h7} {h8} {h9} {h10} {h11} {h12}
    {Φ : (Σ' (v415 : BitVec 32), BitVec 32) → sProp 𝕄} :
    iprop(records m K ∗ Ow (F := F) c 9 ∗ cred (tallyAt (dcell c (22 : Fin 42)) () zN) ∗ atPos ER (dcell c (22 : Fin 42)) 0 ∅ 0)
      ⊢ iprop((∀ (r0 : BitVec 32), (Ow (F := F) c 9 ∗ semVal (dcell c (22 : Fin 42)) 0 ∗ vP c (zf c 1) 1 fullShare (VF m c)) -∗ Φ ⟨r0, 4#32⟩) -∗ wp frame (wpE (defs₀ (F := F)) 𝒱₀ (c : Thread nD τ) none) Set.univ (k0_part14 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v30 v383 c1_i32_348) Φ) := by
  rw [k0_part14_eq_skeleton]
  unfold k0_part14_skel
  simp only [semSignalWord, semWaitWord, Prog.lift, Prog.bind_op, Prog.bind_ret, Prog.pure_eq_ret]
  iintro ⟨#HR, O, C22, P22⟩ Hk
  iapply (wait_v m K c (22 : Fin 42) (by decide) rfl rfl 9 2 (by decide) (by decide)) $$ [O C22 P22]
  · isplitr; · iexact HR
    isplitl [O]; · iexact O
    isplitl [C22]; · iexact C22
    iexact P22
  iintro ⟨O, Z22, V⟩
  ihave K31 := (Entails.of_eq (show dmaPay (F := F) m c (22 : Fin 42).val = iprop(vP c (zf c 1) 1 fullShare (VF m c)) from rfl)) $$ V
  rw [wp_ret]
  imodintro
  iapply Hk
  isplitl [O]; · iexact O
  isplitl [Z22]; · iexact Z22
  iexact K31

set_option maxRecDepth 65536 in
theorem part15_wp (c : Dev nD)  (v2 : BitVec 32) (v5 : BitVec 32) (v19 : BitVec 32) (v415 : BitVec 32) (c4_i32_375 : BitVec 32) {h0} {h1} {h2} {h3} {h4} {h5} {h6} {h7} {h8} {h9} {h10} {h11} {h12}
    {Φ : (BitVec 32) → sProp 𝕄} :
    iprop(records m K ∗ Ow (F := F) c 9 ∗ dutyTok ER (dcell c (2 : Fin 42)) 0 0 ∗ dutyTok ER (dcell (zr c) (14 : Fin 42)) 0 0 ∗ kP c (zb c 1) 0 fullShare (KF m c) ∗ (∃ f, kP (F := F) (zr c) (zb c 1) 0 fullShare f) ∗ dutyTok ER (dcell c (5 : Fin 42)) 0 0 ∗ dutyTok ER (dcell (zr c) (17 : Fin 42)) 0 0 ∗ vP c (zb c 1) 0 fullShare (VF m c) ∗ (∃ f, vP (F := F) (zr c) (zb c 1) 0 fullShare f))
      ⊢ iprop((∀ (r0 : BitVec 32), (Ow (F := F) c 11 ∗ kP c (zb c 1) 0 fullShare.right (KF m c) ∗ cred (tallyAt (dcell c (2 : Fin 42)) () zN) ∗ vP c (zb c 1) 0 fullShare.right (VF m c) ∗ cred (tallyAt (dcell c (5 : Fin 42)) () zN)) -∗ Φ r0) -∗ wp frame (wpE (defs₀ (F := F)) 𝒱₀ (c : Thread nD τ) none) Set.univ (k0_part15 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19 v415 c4_i32_375) Φ) := by
  rw [k0_part15_eq_skeleton]
  unfold k0_part15_skel
  simp only [semSignalWord, semWaitWord, Prog.lift, Prog.bind_op, Prog.bind_ret, Prog.pure_eq_ret]
  iintro ⟨#HR, O, T2, R14, K01, D01, T5, R17, K11, D11⟩ Hk
  ihave V := ((split_k m c (zb c 1) 0).1) $$ K01
  icases V with ⟨J01, KR01⟩
  iapply (send_k m K c (zr c) _ (dev10_eq c) (KF_zr m c) (2 : Fin 42) (14 : Fin 42) (by decide) (by decide) rfl rfl (zb c 1) 0 (off4_eq c 1) _ rfl rfl (Entails.of_eq rfl) (Entails.of_eq (over_z0 m c 1 (by decide))) 9 rfl) $$ [O T2 R14 J01 D01]
  · isplitr; · iexact HR
    isplitl [O]; · iexact O
    isplitl [T2]; · iexact T2
    isplitl [R14]; · iexact R14
    isplitl [J01]; · iexact J01
    iexact D01
  iintro ⟨C2, O⟩
  ihave V := ((split_v m c (zb c 1) 0).1) $$ K11
  icases V with ⟨J11, KR11⟩
  iapply (send_v m K c (zr c) _ (dev11_eq c) (VF_zr m c) (5 : Fin 42) (17 : Fin 42) (by decide) (by decide) rfl rfl (zb c 1) 0 (off4_eq c 1) _ rfl rfl (Entails.of_eq rfl) (Entails.of_eq (over_z1 m c 1 (by decide))) 10 rfl) $$ [O T5 R17 J11 D11]
  · isplitr; · iexact HR
    isplitl [O]; · iexact O
    isplitl [T5]; · iexact T5
    isplitl [R17]; · iexact R17
    isplitl [J11]; · iexact J11
    iexact D11
  iintro ⟨C5, O⟩
  rw [wp_ret]
  imodintro
  iapply Hk
  isplitl [O]; · iexact O
  isplitl [KR01]; · iexact KR01
  isplitl [C2]; · iexact C2
  isplitl [KR11]; · iexact KR11
  iexact C5

set_option maxRecDepth 65536 in
theorem part16_wp (c : Dev nD)  (v2 : BitVec 32) (v5 : BitVec 32) (v8 : BitVec 32) (v30 : BitVec 32) (v445 : BitVec 32) {h0} {h1} {h2} {h3} {h4} {h5} {h6} {h7} {h8} {h9} {h10} {h11} {h12}
    {Φ : (Σ' (v472 : BitVec 32) (v473 : BitVec 32) (v474 : BitVec 1) (v475 : BitVec 1), BitVec 32) → sProp 𝕄} :
    iprop(records m K ∗ Ow (F := F) c 11 ∗ dutyTok ER (dcell c (8 : Fin 42)) 0 0 ∗ dutyTok ER (dcell (zl c) (20 : Fin 42)) 0 0 ∗ kP c (zf c 1) 1 fullShare (KF m c) ∗ (∃ f, kP (F := F) (zl c) (zf c 1) 1 fullShare f) ∗ dutyTok ER (dcell c (11 : Fin 42)) 0 0 ∗ dutyTok ER (dcell (zl c) (23 : Fin 42)) 0 0 ∗ vP c (zf c 1) 1 fullShare (VF m c) ∗ (∃ f, vP (F := F) (zl c) (zf c 1) 1 fullShare f))
      ⊢ iprop((∀ (r0 : BitVec 32) (r1 : BitVec 32) (r2 : BitVec 1) (r3 : BitVec 1), (Ow (F := F) c 13 ∗ kP c (zf c 1) 1 fullShare.right (KF m c) ∗ cred (tallyAt (dcell c (8 : Fin 42)) () zN) ∗ vP c (zf c 1) 1 fullShare.right (VF m c) ∗ cred (tallyAt (dcell c (11 : Fin 42)) () zN)) -∗ Φ ⟨r0, r1, r2, r3, 0#32⟩) -∗ wp frame (wpE (defs₀ (F := F)) 𝒱₀ (c : Thread nD τ) none) Set.univ (k0_part16 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v8 v30 v445) Φ) := by
  rw [k0_part16_eq_skeleton]
  unfold k0_part16_skel
  simp only [semSignalWord, semWaitWord, Prog.lift, Prog.bind_op, Prog.bind_ret, Prog.pure_eq_ret]
  iintro ⟨#HR, O, T8, R20, K21, D21, T11, R23, K31, D31⟩ Hk
  ihave V := ((split_k m c (zf c 1) 1).1) $$ K21
  icases V with ⟨J21, KR21⟩
  iapply (send_k m K c (zl c) _ (dev12_eq c) (KF_zl m c) (8 : Fin 42) (20 : Fin 42) (by decide) (by decide) rfl rfl (zf c 1) 1 (off5_eq c 1) _ rfl rfl (Entails.of_eq rfl) (Entails.of_eq (over_z2 m c 1 (by decide))) 11 rfl) $$ [O T8 R20 J21 D21]
  · isplitr; · iexact HR
    isplitl [O]; · iexact O
    isplitl [T8]; · iexact T8
    isplitl [R20]; · iexact R20
    isplitl [J21]; · iexact J21
    iexact D21
  iintro ⟨C8, O⟩
  ihave V := ((split_v m c (zf c 1) 1).1) $$ K31
  icases V with ⟨J31, KR31⟩
  iapply (send_v m K c (zl c) _ (dev13_eq c) (VF_zl m c) (11 : Fin 42) (23 : Fin 42) (by decide) (by decide) rfl rfl (zf c 1) 1 (off5_eq c 1) _ rfl rfl (Entails.of_eq rfl) (Entails.of_eq (over_z3 m c 1 (by decide))) 12 rfl) $$ [O T11 R23 J31 D31]
  · isplitr; · iexact HR
    isplitl [O]; · iexact O
    isplitl [T11]; · iexact T11
    isplitl [R23]; · iexact R23
    isplitl [J31]; · iexact J31
    iexact D31
  iintro ⟨C11, O⟩
  rw [wp_ret]
  imodintro
  iapply Hk
  isplitl [O]; · iexact O
  isplitl [KR21]; · iexact KR21
  isplitl [C8]; · iexact C8
  isplitl [KR31]; · iexact KR31
  iexact C11

end Cert.KernelIdealProof

end
-- ==== Proof.KernelIdealPart4.lean ====
/-
# The second hop along z
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part17_wp (c : Dev nD)  (v8 : BitVec 32) (v472 : BitVec 32) (v473 : BitVec 32) (v474 : BitVec 1) (v475 : BitVec 1) (c0_i32_431 : BitVec 32) {h0} {h1} {h2} {h3} {h4} {h5} {h6} {h7} {h8} {h9} {h10} {h11} {h12}
    {Φ : (Σ' (v480 : BitVec 32) (v491 : BitVec 32), FVec F S1024x1024 .f32) → sProp 𝕄} :
    iprop(records m K ∗ qB c (qrow m c 0) (qrow m c 1) ∗ kP c (zb c 1) 0 fullShare.right (KF m c) ∗ lB c (Lc m c 0 1) (Lc m c 1 1))
      ⊢ iprop((∀ (r0 : BitVec 32) (r1 : BitVec 32), (qB c (qrow m c 0) (qrow m c 1) ∗ kP c (zb c 1) 0 fullShare.right (KF m c) ∗ lB c (Lc m c 0 2) (Lc m c 1 1)) -∗ Φ ⟨r0, r1, k0_pay19 (qrow m c 0) (kblk m (dz c (zb c 1)) 0)⟩) -∗ wp frame (wpE (defs₀ (F := F)) 𝒱₀ (c : Thread nD τ) none) Set.univ (k0_part17 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v8 v472 v473 v474 v475 c0_i32_431) Φ) := by
  rw [k0_part17_eq_skeleton]
  unfold k0_part17_skel
  simp only [semSignalWord, semWaitWord, Prog.lift, Prog.bind_op, Prog.bind_ret, Prog.pure_eq_ret]
  iintro ⟨#HR, Q, KR01, L⟩ Hk
  iapply (ld_q0 c _ _) $$ [Q]
  · iexact Q
  iintro Q
  iapply (ld_k m c (zb c 1) 0 fullShare.right (off6_eq c 1)) $$ [KR01]
  · iexact KR01
  iintro KR01
  iapply (ld_l0 c _ _) $$ [L]
  · iexact L
  iintro L
  iapply (ld_l0 c _ _) $$ [L]
  · iexact L
  iintro L
  iapply (st_l0 c _ _ (Lc m c 0 2) rfl) $$ [L]
  · iexact L
  iintro L
  rw [wp_ret]
  imodintro
  iapply Hk
  isplitl [Q]; · iexact Q
  isplitl [KR01]; · iexact KR01
  iexact L

set_option maxRecDepth 65536 in
theorem part18_wp (c : Dev nD)  (v480 : BitVec 32) (v491 : BitVec 32) {h0} {h1} {h2} {h3} {h4} {h5} {h6} {h7} {h8} {h9} {h10} {h11} {h12}
    {Φ : (Σ' (v530 : FVec F S1024x1024 .f32), FVec F S1024x128 .f32) → sProp 𝕄} :
    iprop(records m K ∗ aB c (Ac m c 0 1) (Ac m c 1 1) ∗ vP c (zb c 1) 0 fullShare.right (VF m c) ∗ qB c (qrow m c 0) (qrow m c 1) ∗ kP c (zf c 1) 1 fullShare.right (KF m c) ∗ lB c (Lc m c 0 2) (Lc m c 1 1))
      ⊢ iprop(((aB c (Ac m c 0 2) (Ac m c 1 1) ∗ vP c (zb c 1) 0 fullShare.right (VF m c) ∗ qB c (qrow m c 0) (qrow m c 1) ∗ kP c (zf c 1) 1 fullShare.right (KF m c) ∗ lB c (Lc m c 0 2) (Lc m c 1 2)) -∗ Φ ⟨k0_pay22 (qrow m c 1) (kblk m (dz c (zf c 1)) 1), k0_pay24 (Ac m c 1 1)⟩) -∗ wp frame (wpE (defs₀ (F := F)) 𝒱₀ (c : Thread nD τ) none) Set.univ (k0_part18 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v480 v491 (k0_pay19 (qrow m c 0) (kblk m (dz c (zb c 1)) 0))) Φ) := by
  rw [k0_part18_eq_skeleton]
  unfold k0_part18_skel
  simp only [semSignalWord, semWaitWord, Prog.lift, Prog.bind_op, Prog.bind_ret, Prog.pure_eq_ret]
  iintro ⟨#HR, A, KR11, Q, KR21, L⟩ Hk
  iapply (ld_a0 c _ _) $$ [A]
  · iexact A
  iintro A
  iapply (ld_v m c (zb c 1) 0 fullShare.right (off6_eq c 1)) $$ [KR11]
  · iexact KR11
  iintro KR11
  iapply (ld_a0 c _ _) $$ [A]
  · iexact A
  iintro A
  iapply (st_a0 c _ _ (Ac m c 0 2) rfl) $$ [A]
  · iexact A
  iintro A
  iapply (ld_q1 c _ _) $$ [Q]
  · iexact Q
  iintro Q
  iapply (ld_k m c (zf c 1) 1 fullShare.right (off7_eq c 1)) $$ [KR21]
  · iexact KR21
  iintro KR21
  iapply (ld_l1 c _ _) $$ [L]
  · iexact L
  iintro L
  iapply (ld_l1 c _ _) $$ [L]
  · iexact L
  iintro L
  iapply (st_l1 c _ _ (Lc m c 1 2) rfl) $$ [L]
  · iexact L
  iintro L
  iapply (ld_a1 c _ _) $$ [A]
  · iexact A
  iintro A
  rw [wp_ret]
  imodintro
  iapply Hk
  isplitl [A]; · iexact A
  isplitl [KR11]; · iexact KR11
  isplitl [Q]; · iexact Q
  isplitl [KR21]; · iexact KR21
  iexact L

set_option maxRecDepth 65536 in
theorem part19_wp (c : Dev nD)  (v2 : BitVec 32) (v5 : BitVec 32) (v19 : BitVec 32) (v491 : BitVec 32) {h0} {h1} {h2} {h3} {h4} {h5} {h6} {h7} {h8} {h9} {h10} {h11} {h12}
    {Φ : (PUnit) → sProp 𝕄} :
    iprop(records m K ∗ vP c (zf c 1) 1 fullShare.right (VF m c) ∗ aB c (Ac m c 0 2) (Ac m c 1 1) ∗ Ow (F := F) c 13 ∗ cred (tallyAt (dcell c (2 : Fin 42)) () zN) ∗ atPos ER (dcell c (2 : Fin 42)) 0 ∅ 0 ∗ kP c (zb c 1) 0 fullShare.right (KF m c))
      ⊢ iprop(((vP c (zf c 1) 1 fullShare.right (VF m c) ∗ aB c (Ac m c 0 2) (Ac m c 1 2) ∗ Ow (F := F) c 13 ∗ semVal (dcell c (2 : Fin 42)) 0 ∗ kP c (zb c 1) 0 fullShare (KF m c)) -∗ Φ ⟨⟩) -∗ wp frame (wpE (defs₀ (F := F)) 𝒱₀ (c : Thread nD τ) none) Set.univ (k0_part19 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19 v491 (k0_pay22 (qrow m c 1) (kblk m (dz c (zf c 1)) 1)) (k0_pay24 (Ac m c 1 1))) Φ) := by
  rw [k0_part19_eq_skeleton]
  unfold k0_part19_skel
  simp only [semSignalWord, semWaitWord, Prog.lift, Prog.bind_op, Prog.bind_ret, Prog.pure_eq_ret]
  iintro ⟨#HR, KR31, A, O, C2, P2, KR01⟩ Hk
  iapply (ld_v m c (zf c 1) 1 fullShare.right (off7_eq c 1)) $$ [KR31]
  · iexact KR31
  iintro KR31
  iapply (ld_a1 c _ _) $$ [A]
  · iexact A
  iintro A
  iapply (st_a1 c _ _ (Ac m c 1 2) rfl) $$ [A]
  · iexact A
  iintro A
  iapply (wait_k m K c (2 : Fin 42) (by decide) rfl rfl 13 0 (by decide) (by decide)) $$ [O C2 P2]
  · isplitr; · iexact HR
    isplitl [O]; · iexact O
    isplitl [C2]; · iexact C2
    iexact P2
  iintro ⟨O, Z2, V⟩
  ihave J01 := (Entails.of_eq (show dmaPay (F := F) m c (2 : Fin 42).val = iprop(kP c (zb c 1) 0 fullShare.left (KF m c)) from rfl)) $$ V
  ihave K01 := ((split_k m c (zb c 1) 0).2) $$ [J01 KR01]
  · isplitl [J01]; · iexact J01
    iexact KR01
  rw [wp_ret]
  imodintro
  iapply Hk
  isplitl [KR31]; · iexact KR31
  isplitl [A]; · iexact A
  isplitl [O]; · iexact O
  isplitl [Z2]; · iexact Z2
  iexact K01

set_option maxRecDepth 65536 in
theorem part20_wp (c : Dev nD)  (v2 : BitVec 32) (v5 : BitVec 32) (v19 : BitVec 32) {h0} {h1} {h2} {h3} {h4} {h5} {h6} {h7} {h8} {h9} {h10} {h11} {h12}
    {Φ : (PUnit) → sProp 𝕄} :
    iprop(records m K ∗ Ow (F := F) c 13 ∗ cred (tallyAt (dcell c (14 : Fin 42)) () zN) ∗ atPos ER (dcell c (14 : Fin 42)) 0 ∅ 0 ∗ cred (tallyAt (dcell c (5 : Fin 42)) () zN) ∗ atPos ER (dcell c (5 : Fin 42)) 0 ∅ 0 ∗ vP c (zb c 1) 0 fullShare.right (VF m c) ∗ cred (tallyAt (dcell c (17 : Fin 42)) () zN) ∗ atPos ER (dcell c (17 : Fin 42)) 0 ∅ 0)
      ⊢ iprop(((Ow (F := F) c 13 ∗ semVal (dcell c (14 : Fin 42)) 0 ∗ kP c (zb c 2) 0 fullShare (KF m c) ∗ semVal (dcell c (5 : Fin 42)) 0 ∗ vP c (zb c 1) 0 fullShare (VF m c) ∗ semVal (dcell c (17 : Fin 42)) 0 ∗ vP c (zb c 2) 0 fullShare (VF m c)) -∗ Φ ⟨⟩) -∗ wp frame (wpE (defs₀ (F := F)) 𝒱₀ (c : Thread nD τ) none) Set.univ (k0_part20 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19) Φ) := by
  rw [k0_part20_eq_skeleton]
  unfold k0_part20_skel
  simp only [semSignalWord, semWaitWord, Prog.lift, Prog.bind_op, Prog.bind_ret, Prog.pure_eq_ret]
  iintro ⟨#HR, O, C14, P14, C5, P5, KR11, C17, P17⟩ Hk
  iapply (wait_k m K c (14 : Fin 42) (by decide) rfl rfl 13 3 (by decide) (by decide)) $$ [O C14 P14]
  · isplitr; · iexact HR
    isplitl [O]; · iexact O
    isplitl [C14]; · iexact C14
    iexact P14
  iintro ⟨O, Z14, V⟩
  ihave K02 := (Entails.of_eq (show dmaPay (F := F) m c (14 : Fin 42).val = iprop(kP c (zb c 2) 0 fullShare (KF m c)) from rfl)) $$ V
  iapply (wait_v m K c (5 : Fin 42) (by decide) rfl rfl 13 0 (by decide) (by decide)) $$ [O C5 P5]
  · isplitr; · iexact HR
    isplitl [O]; · iexact O
    isplitl [C5]; · iexact C5
    iexact P5
  iintro ⟨O, Z5, V⟩
  ihave J11 := (Entails.of_eq (show dmaPay (F := F) m c (5 : Fin 42).val = iprop(vP c (zb c 1) 0 fullShare.left (VF m c)) from rfl)) $$ V
  ihave K11 := ((split_v m c (zb c 1) 0).2) $$ [J11 KR11]
  · isplitl [J11]; · iexact J11
    iexact KR11
  iapply (wait_v m K c (17 : Fin 42) (by decide) rfl rfl 13 3 (by decide) (by decide)) $$ [O C17 P17]
  · isplitr; · iexact HR
    isplitl [O]; · iexact O
    isplitl [C17]; · iexact C17
    iexact P17
  iintro ⟨O, Z17, V⟩
  ihave K12 := (Entails.of_eq (show dmaPay (F := F) m c (17 : Fin 42).val = iprop(vP c (zb c 2) 0 fullShare (VF m c)) from rfl)) $$ V
  rw [wp_ret]
  imodintro
  iapply Hk
  isplitl [O]; · iexact O
  isplitl [Z14]; · iexact Z14
  isplitl [K02]; · iexact K02
  isplitl [Z5]; · iexact Z5
  isplitl [K11]; · iexact K11
  isplitl [Z17]; · iexact Z17
  iexact K12

set_option maxRecDepth 65536 in
theorem part21_wp (c : Dev nD)  (v2 : BitVec 32) (v5 : BitVec 32) (v30 : BitVec 32) {h0} {h1} {h2} {h3} {h4} {h5} {h6} {h7} {h8} {h9} {h10} {h11} {h12}
    {Φ : (Σ' (v613 : BitVec 32), BitVec 32) → sProp 𝕄} :
    iprop(records m K ∗ Ow (F := F) c 13 ∗ cred (tallyAt (dcell c (8 : Fin 42)) () zN) ∗ atPos ER (dcell c (8 : Fin 42)) 0 ∅ 0 ∗ kP c (zf c 1) 1 fullShare.right (KF m c) ∗ cred (tallyAt (dcell c (20 : Fin 42)) () zN) ∗ atPos ER (dcell c (20 : Fin 42)) 0 ∅ 0 ∗ cred (tallyAt (dcell c (11 : Fin 42)) () zN) ∗ atPos ER (dcell c (11 : Fin 42)) 0 ∅ 0 ∗ vP c (zf c 1) 1 fullShare.right (VF m c))
      ⊢ iprop((∀ (r0 : BitVec 32) (r1 : BitVec 32), (Ow (F := F) c 13 ∗ semVal (dcell c (8 : Fin 42)) 0 ∗ kP c (zf c 1) 1 fullShare (KF m c) ∗ semVal (dcell c (20 : Fin 42)) 0 ∗ kP c (zf c 2) 1 fullShare (KF m c) ∗ semVal (dcell c (11 : Fin 42)) 0 ∗ vP c (zf c 1) 1 fullShare (VF m c)) -∗ Φ ⟨r0, r1⟩) -∗ wp frame (wpE (defs₀ (F := F)) 𝒱₀ (c : Thread nD τ) none) Set.univ (k0_part21 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v30) Φ) := by
  rw [k0_part21_eq_skeleton]
  unfold k0_part21_skel
  simp only [semSignalWord, semWaitWord, Prog.lift, Prog.bind_op, Prog.bind_ret, Prog.pure_eq_ret]
  iintro ⟨#HR, O, C8, P8, KR21, C20, P20, C11, P11, KR31⟩ Hk
  iapply (wait_k m K c (8 : Fin 42) (by decide) rfl rfl 13 0 (by decide) (by decide)) $$ [O C8 P8]
  · isplitr; · iexact HR
    isplitl [O]; · iexact O
    isplitl [C8]; · iexact C8
    iexact P8
  iintro ⟨O, Z8, V⟩
  ihave J21 := (Entails.of_eq (show dmaPay (F := F) m c (8 : Fin 42).val = iprop(kP c (zf c 1) 1 fullShare.left (KF m c)) from rfl)) $$ V
  ihave K21 := ((split_k m c (zf c 1) 1).2) $$ [J21 KR21]
  · isplitl [J21]; · iexact J21
    iexact KR21
  iapply (wait_k m K c (20 : Fin 42) (by decide) rfl rfl 13 3 (by decide) (by decide)) $$ [O C20 P20]
  · isplitr; · iexact HR
    isplitl [O]; · iexact O
    isplitl [C20]; · iexact C20
    iexact P20
  iintro ⟨O, Z20, V⟩
  ihave K22 := (Entails.of_eq (show dmaPay (F := F) m c (20 : Fin 42).val = iprop(kP c (zf c 2) 1 fullShare (KF m c)) from rfl)) $$ V
  iapply (wait_v m K c (11 : Fin 42) (by decide) rfl rfl 13 0 (by decide) (by decide)) $$ [O C11 P11]
  · isplitr; · iexact HR
    isplitl [O]; · iexact O
    isplitl [C11]; · iexact C11
    iexact P11
  iintro ⟨O, Z11, V⟩
  ihave J31 := (Entails.of_eq (show dmaPay (F := F) m c (11 : Fin 42).val = iprop(vP c (zf c 1) 1 fullShare.left (VF m c)) from rfl)) $$ V
  ihave K31 := ((split_v m c (zf c 1) 1).2) $$ [J31 KR31]
  · isplitl [J31]; · iexact J31
    iexact KR31
  rw [wp_ret]
  imodintro
  iapply Hk
  isplitl [O]; · iexact O
  isplitl [Z8]; · iexact Z8
  isplitl [K21]; · iexact K21
  isplitl [Z20]; · iexact Z20
  isplitl [K22]; · iexact K22
  isplitl [Z11]; · iexact Z11
  iexact K31

set_option maxRecDepth 65536 in
theorem part22_wp (c : Dev nD)  (v2 : BitVec 32) (v8 : BitVec 32) (v30 : BitVec 32) (v613 : BitVec 32) (v614 : BitVec 32) {h0} {h1} {h2} {h3} {h4} {h5} {h6} {h7} {h8} {h9} {h10} {h11} {h12}
    {Φ : (Σ' (v646 : BitVec 32), BitVec 32) → sProp 𝕄} :
    iprop(records m K ∗ Ow (F := F) c 13 ∗ cred (tallyAt (dcell c (23 : Fin 42)) () zN) ∗ atPos ER (dcell c (23 : Fin 42)) 0 ∅ 0)
      ⊢ iprop((∀ (r0 : BitVec 32), (Ow (F := F) c 13 ∗ semVal (dcell c (23 : Fin 42)) 0 ∗ vP c (zf c 2) 1 fullShare (VF m c)) -∗ Φ ⟨r0, 0#32⟩) -∗ wp frame (wpE (defs₀ (F := F)) 𝒱₀ (c : Thread nD τ) none) Set.univ (k0_part22 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v30 v613 v614) Φ) := by
  rw [k0_part22_eq_skeleton]
  unfold k0_part22_skel
  simp only [semSignalWord, semWaitWord, Prog.lift, Prog.bind_op, Prog.bind_ret, Prog.pure_eq_ret]
  iintro ⟨#HR, O, C23, P23⟩ Hk
  iapply (wait_v m K c (23 : Fin 42) (by decide) rfl rfl 13 3 (by decide) (by decide)) $$ [O C23 P23]
  · isplitr; · iexact HR
    isplitl [O]; · iexact O
    isplitl [C23]; · iexact C23
    iexact P23
  iintro ⟨O, Z23, V⟩
  ihave K32 := (Entails.of_eq (show dmaPay (F := F) m c (23 : Fin 42).val = iprop(vP c (zf c 2) 1 fullShare (VF m c)) from rfl)) $$ V
  rw [wp_ret]
  imodintro
  iapply Hk
  isplitl [O]; · iexact O
  isplitl [Z23]; · iexact Z23
  iexact K32

set_option maxRecDepth 65536 in
theorem part23_wp (c : Dev nD)  (v2 : BitVec 32) (v5 : BitVec 32) (v19 : BitVec 32) (v646 : BitVec 32) (c0_i32_608 : BitVec 32) {h0} {h1} {h2} {h3} {h4} {h5} {h6} {h7} {h8} {h9} {h10} {h11} {h12}
    {Φ : (Σ' (v675 : BitVec 32), BitVec 32) → sProp 𝕄} :
    iprop(records m K ∗ Ow (F := F) c 13 ∗ dutyTok ER (dcell c (3 : Fin 42)) 0 0 ∗ dutyTok ER (dcell (zr c) (15 : Fin 42)) 0 0 ∗ kP c (zb c 2) 0 fullShare (KF m c) ∗ (∃ f, kP (F := F) (zr c) (zb c 2) 0 fullShare f) ∗ dutyTok ER (dcell c (6 : Fin 42)) 0 0 ∗ dutyTok ER (dcell (zr c) (18 : Fin 42)) 0 0 ∗ vP c (zb c 2) 0 fullShare (VF m c) ∗ (∃ f, vP (F := F) (zr c) (zb c 2) 0 fullShare f))
      ⊢ iprop((∀ (r0 : BitVec 32), (Ow (F := F) c 15 ∗ kP c (zb c 2) 0 fullShare.right (KF m c) ∗ cred (tallyAt (dcell c (3 : Fin 42)) () zN) ∗ vP c (zb c 2) 0 fullShare.right (VF m c) ∗ cred (tallyAt (dcell c (6 : Fin 42)) () zN)) -∗ Φ ⟨r0, 4#32⟩) -∗ wp frame (wpE (defs₀ (F := F)) 𝒱₀ (c : Thread nD τ) none) Set.univ (k0_part23 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19 v646 c0_i32_608) Φ) := by
  rw [k0_part23_eq_skeleton]
  unfold k0_part23_skel
  simp only [semSignalWord, semWaitWord, Prog.lift, Prog.bind_op, Prog.bind_ret, Prog.pure_eq_ret]
  iintro ⟨#HR, O, T3, R15, K02, D02, T6, R18, K12, D12⟩ Hk
  ihave V := ((split_k m c (zb c 2) 0).1) $$ K02
  icases V with ⟨J02, KR02⟩
  iapply (send_k m K c (zr c) _ (dev14_eq c) (KF_zr m c) (3 : Fin 42) (15 : Fin 42) (by decide) (by decide) rfl rfl (zb c 2) 0 (off4_eq c 2) _ rfl rfl (Entails.of_eq rfl) (Entails.of_eq (over_z0 m c 2 (by decide))) 13 rfl) $$ [O T3 R15 J02 D02]
  · isplitr; · iexact HR
    isplitl [O]; · iexact O
    isplitl [T3]; · iexact T3
    isplitl [R15]; · iexact R15
    isplitl [J02]; · iexact J02
    iexact D02
  iintro ⟨C3, O⟩
  ihave V := ((split_v m c (zb c 2) 0).1) $$ K12
  icases V with ⟨J12, KR12⟩
  iapply (send_v m K c (zr c) _ (dev15_eq c) (VF_zr m c) (6 : Fin 42) (18 : Fin 42) (by decide) (by decide) rfl rfl (zb c 2) 0 (off4_eq c 2) _ rfl rfl (Entails.of_eq rfl) (Entails.of_eq (over_z1 m c 2 (by decide))) 14 rfl) $$ [O T6 R18 J12 D12]
  · isplitr; · iexact HR
    isplitl [O]; · iexact O
    isplitl [T6]; · iexact T6
    isplitl [R18]; · iexact R18
    isplitl [J12]; · iexact J12
    iexact D12
  iintro ⟨C6, O⟩
  rw [wp_ret]
  imodintro
  iapply Hk
  isplitl [O]; · iexact O
  isplitl [KR02]; · iexact KR02
  isplitl [C3]; · iexact C3
  isplitl [KR12]; · iexact KR12
  iexact C6

set_option maxRecDepth 65536 in
theorem part24_wp (c : Dev nD)  (v2 : BitVec 32) (v5 : BitVec 32) (v8 : BitVec 32) (v30 : BitVec 32) (v675 : BitVec 32) (c4_i32_637 : BitVec 32) {h0} {h1} {h2} {h3} {h4} {h5} {h6} {h7} {h8} {h9} {h10} {h11} {h12}
    {Φ : (Σ' (v704 : BitVec 32) (v705 : BitVec 32) (v706 : BitVec 1), BitVec 32) → sProp 𝕄} :
    iprop(records m K ∗ Ow (F := F) c 15 ∗ dutyTok ER (dcell c (9 : Fin 42)) 0 0 ∗ dutyTok ER (dcell (zl c) (21 : Fin 42)) 0 0 ∗ kP c (zf c 2) 1 fullShare (KF m c) ∗ (∃ f, kP (F := F) (zl c) (zf c 2) 1 fullShare f) ∗ dutyTok ER (dcell c (12 : Fin 42)) 0 0 ∗ dutyTok ER (dcell (zl c) (24 : Fin 42)) 0 0 ∗ vP c (zf c 2) 1 fullShare (VF m c) ∗ (∃ f, vP (F := F) (zl c) (zf c 2) 1 fullShare f))
      ⊢ iprop((∀ (r0 : BitVec 32) (r1 : BitVec 32) (r2 : BitVec 1), (Ow (F := F) c 17 ∗ kP c (zf c 2) 1 fullShare.right (KF m c) ∗ cred (tallyAt (dcell c (9 : Fin 42)) () zN) ∗ vP c (zf c 2) 1 fullShare.right (VF m c) ∗ cred (tallyAt (dcell c (12 : Fin 42)) () zN)) -∗ Φ ⟨r0, r1, r2, 0#32⟩) -∗ wp frame (wpE (defs₀ (F := F)) 𝒱₀ (c : Thread nD τ) none) Set.univ (k0_part24 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v8 v30 v675 c4_i32_637) Φ) := by
  rw [k0_part24_eq_skeleton]
  unfold k0_part24_skel
  simp only [semSignalWord, semWaitWord, Prog.lift, Prog.bind_op, Prog.bind_ret, Prog.pure_eq_ret]
  iintro ⟨#HR, O, T9, R21, K22, D22, T12, R24, K32, D32⟩ Hk
  ihave V := ((split_k m c (zf c 2) 1).1) $$ K22
  icases V with ⟨J22, KR22⟩
  iapply (send_k m K c (zl c) _ (dev16_eq c) (KF_zl m c) (9 : Fin 42) (21 : Fin 42) (by decide) (by decide) rfl rfl (zf c 2) 1 (off5_eq c 2) _ rfl rfl (Entails.of_eq rfl) (Entails.of_eq (over_z2 m c 2 (by decide))) 15 rfl) $$ [O T9 R21 J22 D22]
  · isplitr; · iexact HR
    isplitl [O]; · iexact O
    isplitl [T9]; · iexact T9
    isplitl [R21]; · iexact R21
    isplitl [J22]; · iexact J22
    iexact D22
  iintro ⟨C9, O⟩
  ihave V := ((split_v m c (zf c 2) 1).1) $$ K32
  icases V with ⟨J32, KR32⟩
  iapply (send_v m K c (zl c) _ (dev17_eq c) (VF_zl m c) (12 : Fin 42) (24 : Fin 42) (by decide) (by decide) rfl rfl (zf c 2) 1 (off5_eq c 2) _ rfl rfl (Entails.of_eq rfl) (Entails.of_eq (over_z3 m c 2 (by decide))) 16 rfl) $$ [O T12 R24 J32 D32]
  · isplitr; · iexact HR
    isplitl [O]; · iexact O
    isplitl [T12]; · iexact T12
    isplitl [R24]; · iexact R24
    isplitl [J32]; · iexact J32
    iexact D32
  iintro ⟨C12, O⟩
  rw [wp_ret]
  imodintro
  iapply Hk
  isplitl [O]; · iexact O
  isplitl [KR22]; · iexact KR22
  isplitl [C9]; · iexact C9
  isplitl [KR32]; · iexact KR32
  iexact C12

end Cert.KernelIdealProof

end
-- ==== Proof.KernelIdealPart5.lean ====
/-
# The third hop along z, the last block
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part25_wp (c : Dev nD)  (v8 : BitVec 32) (v704 : BitVec 32) (v705 : BitVec 32) (v706 : BitVec 1) (c0_i32_664 : BitVec 32) {h0} {h1} {h2} {h3} {h4} {h5} {h6} {h7} {h8} {h9} {h10} {h11} {h12}
    {Φ : (Σ' (v712 : BitVec 32) (v723 : BitVec 32), FVec F S1024x1024 .f32) → sProp 𝕄} :
    iprop(records m K ∗ qB c (qrow m c 0) (qrow m c 1) ∗ kP c (zb c 2) 0 fullShare.right (KF m c) ∗ lB c (Lc m c 0 2) (Lc m c 1 2))
      ⊢ iprop((∀ (r0 : BitVec 32) (r1 : BitVec 32), (qB c (qrow m c 0) (qrow m c 1) ∗ kP c (zb c 2) 0 fullShare.right (KF m c) ∗ lB c (Lc m c 0 3) (Lc m c 1 2)) -∗ Φ ⟨r0, r1, k0_pay26 (qrow m c 0) (kblk m (dz c (zb c 2)) 0)⟩) -∗ wp frame (wpE (defs₀ (F := F)) 𝒱₀ (c : Thread nD τ) none) Set.univ (k0_part25 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v8 v704 v705 v706 c0_i32_664) Φ) := by
  rw [k0_part25_eq_skeleton]
  unfold k0_part25_skel
  simp only [semSignalWord, semWaitWord, Prog.lift, Prog.bind_op, Prog.bind_ret, Prog.pure_eq_ret]
  iintro ⟨#HR, Q, KR02, L⟩ Hk
  iapply (ld_q0 c _ _) $$ [Q]
  · iexact Q
  iintro Q
  iapply (ld_k m c (zb c 2) 0 fullShare.right (off6_eq c 2)) $$ [KR02]
  · iexact KR02
  iintro KR02
  iapply (ld_l0 c _ _) $$ [L]
  · iexact L
  iintro L
  iapply (ld_l0 c _ _) $$ [L]
  · iexact L
  iintro L
  iapply (st_l0 c _ _ (Lc m c 0 3) rfl) $$ [L]
  · iexact L
  iintro L
  rw [wp_ret]
  imodintro
  iapply Hk
  isplitl [Q]; · iexact Q
  isplitl [KR02]; · iexact KR02
  iexact L

set_option maxRecDepth 65536 in
theorem part26_wp (c : Dev nD)  (v712 : BitVec 32) (v723 : BitVec 32) {h0} {h1} {h2} {h3} {h4} {h5} {h6} {h7} {h8} {h9} {h10} {h11} {h12}
    {Φ : (FVec F S1024x1024 .f32) → sProp 𝕄} :
    iprop(records m K ∗ aB c (Ac m c 0 2) (Ac m c 1 2) ∗ vP c (zb c 2) 0 fullShare.right (VF m c) ∗ qB c (qrow m c 0) (qrow m c 1) ∗ kP c (zf c 2) 1 fullShare.right (KF m c) ∗ lB c (Lc m c 0 3) (Lc m c 1 2))
      ⊢ iprop(((aB c (Ac m c 0 3) (Ac m c 1 2) ∗ vP c (zb c 2) 0 fullShare.right (VF m c) ∗ qB c (qrow m c 0) (qrow m c 1) ∗ kP c (zf c 2) 1 fullShare.right (KF m c) ∗ lB c (Lc m c 0 3) (Lc m c 1 3)) -∗ Φ (k0_pay29 (qrow m c 1) (kblk m (dz c (zf c 2)) 1))) -∗ wp frame (wpE (defs₀ (F := F)) 𝒱₀ (c : Thread nD τ) none) Set.univ (k0_part26 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v712 v723 (k0_pay26 (qrow m c 0) (kblk m (dz c (zb c 2)) 0))) Φ) := by
  rw [k0_part26_eq_skeleton]
  unfold k0_part26_skel
  simp only [semSignalWord, semWaitWord, Prog.lift, Prog.bind_op, Prog.bind_ret, Prog.pure_eq_ret]
  iintro ⟨#HR, A, KR12, Q, KR22, L⟩ Hk
  iapply (ld_a0 c _ _) $$ [A]
  · iexact A
  iintro A
  iapply (ld_v m c (zb c 2) 0 fullShare.right (off6_eq c 2)) $$ [KR12]
  · iexact KR12
  iintro KR12
  iapply (ld_a0 c _ _) $$ [A]
  · iexact A
  iintro A
  iapply (st_a0 c _ _ (Ac m c 0 3) rfl) $$ [A]
  · iexact A
  iintro A
  iapply (ld_q1 c _ _) $$ [Q]
  · iexact Q
  iintro Q
  iapply (ld_k m c (zf c 2) 1 fullShare.right (off7_eq c 2)) $$ [KR22]
  · iexact KR22
  iintro KR22
  iapply (ld_l1 c _ _) $$ [L]
  · iexact L
  iintro L
  iapply (ld_l1 c _ _) $$ [L]
  · iexact L
  iintro L
  iapply (st_l1 c _ _ (Lc m c 1 3) rfl) $$ [L]
  · iexact L
  iintro L
  rw [wp_ret]
  imodintro
  iapply Hk
  isplitl [A]; · iexact A
  isplitl [KR12]; · iexact KR12
  isplitl [Q]; · iexact Q
  isplitl [KR22]; · iexact KR22
  iexact L

set_option maxRecDepth 65536 in
theorem part27_wp (c : Dev nD)  (v2 : BitVec 32) (v5 : BitVec 32) (v19 : BitVec 32) (v723 : BitVec 32) {h0} {h1} {h2} {h3} {h4} {h5} {h6} {h7} {h8} {h9} {h10} {h11} {h12}
    {Φ : (PUnit) → sProp 𝕄} :
    iprop(records m K ∗ aB c (Ac m c 0 3) (Ac m c 1 2) ∗ vP c (zf c 2) 1 fullShare.right (VF m c) ∗ Ow (F := F) c 17 ∗ cred (tallyAt (dcell c (3 : Fin 42)) () zN) ∗ atPos ER (dcell c (3 : Fin 42)) 0 ∅ 0 ∗ kP c (zb c 2) 0 fullShare.right (KF m c))
      ⊢ iprop(((aB c (Ac m c 0 3) (Ac m c 1 3) ∗ vP c (zf c 2) 1 fullShare.right (VF m c) ∗ Ow (F := F) c 17 ∗ semVal (dcell c (3 : Fin 42)) 0 ∗ kP c (zb c 2) 0 fullShare (KF m c)) -∗ Φ ⟨⟩) -∗ wp frame (wpE (defs₀ (F := F)) 𝒱₀ (c : Thread nD τ) none) Set.univ (k0_part27 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19 v723 (k0_pay29 (qrow m c 1) (kblk m (dz c (zf c 2)) 1))) Φ) := by
  rw [k0_part27_eq_skeleton]
  unfold k0_part27_skel
  simp only [semSignalWord, semWaitWord, Prog.lift, Prog.bind_op, Prog.bind_ret, Prog.pure_eq_ret]
  iintro ⟨#HR, A, KR32, O, C3, P3, KR02⟩ Hk
  iapply (ld_a1 c _ _) $$ [A]
  · iexact A
  iintro A
  iapply (ld_v m c (zf c 2) 1 fullShare.right (off7_eq c 2)) $$ [KR32]
  · iexact KR32
  iintro KR32
  iapply (ld_a1 c _ _) $$ [A]
  · iexact A
  iintro A
  iapply (st_a1 c _ _ (Ac m c 1 3) rfl) $$ [A]
  · iexact A
  iintro A
  iapply (wait_k m K c (3 : Fin 42) (by decide) rfl rfl 17 0 (by decide) (by decide)) $$ [O C3 P3]
  · isplitr; · iexact HR
    isplitl [O]; · iexact O
    isplitl [C3]; · iexact C3
    iexact P3
  iintro ⟨O, Z3, V⟩
  ihave J02 := (Entails.of_eq (show dmaPay (F := F) m c (3 : Fin 42).val = iprop(kP c (zb c 2) 0 fullShare.left (KF m c)) from rfl)) $$ V
  ihave K02 := ((split_k m c (zb c 2) 0).2) $$ [J02 KR02]
  · isplitl [J02]; · iexact J02
    iexact KR02
  rw [wp_ret]
  imodintro
  iapply Hk
  isplitl [A]; · iexact A
  isplitl [KR32]; · iexact KR32
  isplitl [O]; · iexact O
  isplitl [Z3]; · iexact Z3
  iexact K02

set_option maxRecDepth 65536 in
theorem part28_wp (c : Dev nD)  (v2 : BitVec 32) (v5 : BitVec 32) (v19 : BitVec 32) {h0} {h1} {h2} {h3} {h4} {h5} {h6} {h7} {h8} {h9} {h10} {h11} {h12}
    {Φ : (PUnit) → sProp 𝕄} :
    iprop(records m K ∗ Ow (F := F) c 17 ∗ cred (tallyAt (dcell c (15 : Fin 42)) () zN) ∗ atPos ER (dcell c (15 : Fin 42)) 0 ∅ 0 ∗ cred (tallyAt (dcell c (6 : Fin 42)) () zN) ∗ atPos ER (dcell c (6 : Fin 42)) 0 ∅ 0 ∗ vP c (zb c 2) 0 fullShare.right (VF m c) ∗ cred (tallyAt (dcell c (18 : Fin 42)) () zN) ∗ atPos ER (dcell c (18 : Fin 42)) 0 ∅ 0)
      ⊢ iprop(((Ow (F := F) c 17 ∗ semVal (dcell c (15 : Fin 42)) 0 ∗ kP c (zb c 3) 0 fullShare (KF m c) ∗ semVal (dcell c (6 : Fin 42)) 0 ∗ vP c (zb c 2) 0 fullShare (VF m c) ∗ semVal (dcell c (18 : Fin 42)) 0 ∗ vP c (zb c 3) 0 fullShare (VF m c)) -∗ Φ ⟨⟩) -∗ wp frame (wpE (defs₀ (F := F)) 𝒱₀ (c : Thread nD τ) none) Set.univ (k0_part28 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v19) Φ) := by
  rw [k0_part28_eq_skeleton]
  unfold k0_part28_skel
  simp only [semSignalWord, semWaitWord, Prog.lift, Prog.bind_op, Prog.bind_ret, Prog.pure_eq_ret]
  iintro ⟨#HR, O, C15, P15, C6, P6, KR12, C18, P18⟩ Hk
  iapply (wait_k m K c (15 : Fin 42) (by decide) rfl rfl 17 4 (by decide) (by decide)) $$ [O C15 P15]
  · isplitr; · iexact HR
    isplitl [O]; · iexact O
    isplitl [C15]; · iexact C15
    iexact P15
  iintro ⟨O, Z15, V⟩
  ihave K03 := (Entails.of_eq (show dmaPay (F := F) m c (15 : Fin 42).val = iprop(kP c (zb c 3) 0 fullShare (KF m c)) from rfl)) $$ V
  iapply (wait_v m K c (6 : Fin 42) (by decide) rfl rfl 17 0 (by decide) (by decide)) $$ [O C6 P6]
  · isplitr; · iexact HR
    isplitl [O]; · iexact O
    isplitl [C6]; · iexact C6
    iexact P6
  iintro ⟨O, Z6, V⟩
  ihave J12 := (Entails.of_eq (show dmaPay (F := F) m c (6 : Fin 42).val = iprop(vP c (zb c 2) 0 fullShare.left (VF m c)) from rfl)) $$ V
  ihave K12 := ((split_v m c (zb c 2) 0).2) $$ [J12 KR12]
  · isplitl [J12]; · iexact J12
    iexact KR12
  iapply (wait_v m K c (18 : Fin 42) (by decide) rfl rfl 17 4 (by decide) (by decide)) $$ [O C18 P18]
  · isplitr; · iexact HR
    isplitl [O]; · iexact O
    isplitl [C18]; · iexact C18
    iexact P18
  iintro ⟨O, Z18, V⟩
  ihave K13 := (Entails.of_eq (show dmaPay (F := F) m c (18 : Fin 42).val = iprop(vP c (zb c 3) 0 fullShare (VF m c)) from rfl)) $$ V
  rw [wp_ret]
  imodintro
  iapply Hk
  isplitl [O]; · iexact O
  isplitl [Z15]; · iexact Z15
  isplitl [K03]; · iexact K03
  isplitl [Z6]; · iexact Z6
  isplitl [K12]; · iexact K12
  isplitl [Z18]; · iexact Z18
  iexact K13

set_option maxRecDepth 65536 in
theorem part29_wp (c : Dev nD)  (v2 : BitVec 32) (v5 : BitVec 32) (v30 : BitVec 32) {h0} {h1} {h2} {h3} {h4} {h5} {h6} {h7} {h8} {h9} {h10} {h11} {h12}
    {Φ : (BitVec 32) → sProp 𝕄} :
    iprop(records m K ∗ Ow (F := F) c 17 ∗ cred (tallyAt (dcell c (9 : Fin 42)) () zN) ∗ atPos ER (dcell c (9 : Fin 42)) 0 ∅ 0 ∗ kP c (zf c 2) 1 fullShare.right (KF m c) ∗ cred (tallyAt (dcell c (21 : Fin 42)) () zN) ∗ atPos ER (dcell c (21 : Fin 42)) 0 ∅ 0 ∗ cred (tallyAt (dcell c (12 : Fin 42)) () zN) ∗ atPos ER (dcell c (12 : Fin 42)) 0 ∅ 0 ∗ vP c (zf c 2) 1 fullShare.right (VF m c))
      ⊢ iprop((∀ (r0 : BitVec 32), (Ow (F := F) c 17 ∗ semVal (dcell c (9 : Fin 42)) 0 ∗ kP c (zf c 2) 1 fullShare (KF m c) ∗ semVal (dcell c (21 : Fin 42)) 0 ∗ kP c (zf c 3) 1 fullShare (KF m c) ∗ semVal (dcell c (12 : Fin 42)) 0 ∗ vP c (zf c 2) 1 fullShare (VF m c)) -∗ Φ r0) -∗ wp frame (wpE (defs₀ (F := F)) 𝒱₀ (c : Thread nD τ) none) Set.univ (k0_part29 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v30) Φ) := by
  rw [k0_part29_eq_skeleton]
  unfold k0_part29_skel
  simp only [semSignalWord, semWaitWord, Prog.lift, Prog.bind_op, Prog.bind_ret, Prog.pure_eq_ret]
  iintro ⟨#HR, O, C9, P9, KR22, C21, P21, C12, P12, KR32⟩ Hk
  iapply (wait_k m K c (9 : Fin 42) (by decide) rfl rfl 17 0 (by decide) (by decide)) $$ [O C9 P9]
  · isplitr; · iexact HR
    isplitl [O]; · iexact O
    isplitl [C9]; · iexact C9
    iexact P9
  iintro ⟨O, Z9, V⟩
  ihave J22 := (Entails.of_eq (show dmaPay (F := F) m c (9 : Fin 42).val = iprop(kP c (zf c 2) 1 fullShare.left (KF m c)) from rfl)) $$ V
  ihave K22 := ((split_k m c (zf c 2) 1).2) $$ [J22 KR22]
  · isplitl [J22]; · iexact J22
    iexact KR22
  iapply (wait_k m K c (21 : Fin 42) (by decide) rfl rfl 17 4 (by decide) (by decide)) $$ [O C21 P21]
  · isplitr; · iexact HR
    isplitl [O]; · iexact O
    isplitl [C21]; · iexact C21
    iexact P21
  iintro ⟨O, Z21, V⟩
  ihave K23 := (Entails.of_eq (show dmaPay (F := F) m c (21 : Fin 42).val = iprop(kP c (zf c 3) 1 fullShare (KF m c)) from rfl)) $$ V
  iapply (wait_v m K c (12 : Fin 42) (by decide) rfl rfl 17 0 (by decide) (by decide)) $$ [O C12 P12]
  · isplitr; · iexact HR
    isplitl [O]; · iexact O
    isplitl [C12]; · iexact C12
    iexact P12
  iintro ⟨O, Z12, V⟩
  ihave J32 := (Entails.of_eq (show dmaPay (F := F) m c (12 : Fin 42).val = iprop(vP c (zf c 2) 1 fullShare.left (VF m c)) from rfl)) $$ V
  ihave K32 := ((split_v m c (zf c 2) 1).2) $$ [J32 KR32]
  · isplitl [J32]; · iexact J32
    iexact KR32
  rw [wp_ret]
  imodintro
  iapply Hk
  isplitl [O]; · iexact O
  isplitl [Z9]; · iexact Z9
  isplitl [K22]; · iexact K22
  isplitl [Z21]; · iexact Z21
  isplitl [K23]; · iexact K23
  isplitl [Z12]; · iexact Z12
  iexact K32

set_option maxRecDepth 65536 in
theorem part30_wp (c : Dev nD)  (v5 : BitVec 32) (v8 : BitVec 32) (v30 : BitVec 32) (v845 : BitVec 32) {h0} {h1} {h2} {h3} {h4} {h5} {h6} {h7} {h8} {h9} {h10} {h11} {h12}
    {Φ : (Σ' (v866 : BitVec 32) (v877 : BitVec 32), FVec F S1024x128 .bf16) → sProp 𝕄} :
    iprop(records m K ∗ Ow (F := F) c 17 ∗ cred (tallyAt (dcell c (24 : Fin 42)) () zN) ∗ atPos ER (dcell c (24 : Fin 42)) 0 ∅ 0 ∗ qB c (qrow m c 0) (qrow m c 1))
      ⊢ iprop((∀ (r0 : BitVec 32) (r1 : BitVec 32), (Ow (F := F) c 17 ∗ semVal (dcell c (24 : Fin 42)) 0 ∗ vP c (zf c 3) 1 fullShare (VF m c) ∗ qB c (qrow m c 0) (qrow m c 1)) -∗ Φ ⟨r0, r1, k0_pay32 (qrow m c 0)⟩) -∗ wp frame (wpE (defs₀ (F := F)) 𝒱₀ (c : Thread nD τ) none) Set.univ (k0_part30 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v5 v8 v30 v845) Φ) := by
  rw [k0_part30_eq_skeleton]
  unfold k0_part30_skel
  simp only [semSignalWord, semWaitWord, Prog.lift, Prog.bind_op, Prog.bind_ret, Prog.pure_eq_ret]
  iintro ⟨#HR, O, C24, P24, Q⟩ Hk
  iapply (wait_v m K c (24 : Fin 42) (by decide) rfl rfl 17 4 (by decide) (by decide)) $$ [O C24 P24]
  · isplitr; · iexact HR
    isplitl [O]; · iexact O
    isplitl [C24]; · iexact C24
    iexact P24
  iintro ⟨O, Z24, V⟩
  ihave K33 := (Entails.of_eq (show dmaPay (F := F) m c (24 : Fin 42).val = iprop(vP c (zf c 3) 1 fullShare (VF m c)) from rfl)) $$ V
  iapply (ld_q0 c _ _) $$ [Q]
  · iexact Q
  iintro Q
  rw [wp_ret]
  imodintro
  iapply Hk
  isplitl [O]; · iexact O
  isplitl [Z24]; · iexact Z24
  isplitl [K33]; · iexact K33
  iexact Q

set_option maxRecDepth 65536 in
theorem part31_wp (c : Dev nD)  (v866 : BitVec 32) (v877 : BitVec 32) {h0} {h1} {h2} {h3} {h4} {h5} {h6} {h7} {h8} {h9} {h10} {h11} {h12}
    {Φ : (FVec F S1024x128 .bf16) → sProp 𝕄} :
    iprop(records m K ∗ kP c (zb c 3) 0 fullShare (KF m c) ∗ lB c (Lc m c 0 3) (Lc m c 1 3) ∗ aB c (Ac m c 0 3) (Ac m c 1 3) ∗ vP c (zb c 3) 0 fullShare (VF m c) ∗ qB c (qrow m c 0) (qrow m c 1))
      ⊢ iprop(((kP c (zb c 3) 0 fullShare (KF m c) ∗ lB c (Lc m c 0 4) (Lc m c 1 3) ∗ aB c (Ac m c 0 4) (Ac m c 1 3) ∗ vP c (zb c 3) 0 fullShare (VF m c) ∗ qB c (qrow m c 0) (qrow m c 1)) -∗ Φ (k0_pay36 (qrow m c 1))) -∗ wp frame (wpE (defs₀ (F := F)) 𝒱₀ (c : Thread nD τ) none) Set.univ (k0_part31 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v866 v877 (k0_pay32 (qrow m c 0))) Φ) := by
  rw [k0_part31_eq_skeleton]
  unfold k0_part31_skel
  simp only [semSignalWord, semWaitWord, Prog.lift, Prog.bind_op, Prog.bind_ret, Prog.pure_eq_ret]
  iintro ⟨#HR, K03, L, A, K13, Q⟩ Hk
  iapply (ld_k m c (zb c 3) 0 fullShare (off6_eq c 3)) $$ [K03]
  · iexact K03
  iintro K03
  iapply (ld_l0 c _ _) $$ [L]
  · iexact L
  iintro L
  iapply (ld_l0 c _ _) $$ [L]
  · iexact L
  iintro L
  iapply (st_l0 c _ _ (Lc m c 0 4) rfl) $$ [L]
  · iexact L
  iintro L
  iapply (ld_a0 c _ _) $$ [A]
  · iexact A
  iintro A
  iapply (ld_v m c (zb c 3) 0 fullShare (off6_eq c 3)) $$ [K13]
  · iexact K13
  iintro K13
  iapply (ld_a0 c _ _) $$ [A]
  · iexact A
  iintro A
  iapply (st_a0 c _ _ (Ac m c 0 4) rfl) $$ [A]
  · iexact A
  iintro A
  iapply (ld_q1 c _ _) $$ [Q]
  · iexact Q
  iintro Q
  rw [wp_ret]
  imodintro
  iapply Hk
  isplitl [K03]; · iexact K03
  isplitl [L]; · iexact L
  isplitl [A]; · iexact A
  isplitl [K13]; · iexact K13
  iexact Q

set_option maxRecDepth 65536 in
theorem part32_wp (c : Dev nD)  (v877 : BitVec 32) {h0} {h1} {h2} {h3} {h4} {h5} {h6} {h7} {h8} {h9} {h10} {h11} {h12}
    {Φ : (FVec F S1024x128 .f32) → sProp 𝕄} :
    iprop(records m K ∗ kP c (zf c 3) 1 fullShare (KF m c) ∗ lB c (Lc m c 0 4) (Lc m c 1 3) ∗ aB c (Ac m c 0 4) (Ac m c 1 3) ∗ vP c (zf c 3) 1 fullShare (VF m c))
      ⊢ iprop(((kP c (zf c 3) 1 fullShare (KF m c) ∗ lB c (Lc m c 0 4) (Lc m c 1 4) ∗ aB c (Ac m c 0 4) (Ac m c 1 4) ∗ vP c (zf c 3) 1 fullShare (VF m c)) -∗ Φ (k0_pay40 (Ac m c 0 4) (Lc m c 0 4))) -∗ wp frame (wpE (defs₀ (F := F)) 𝒱₀ (c : Thread nD τ) none) Set.univ (k0_part32 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v877 (k0_pay36 (qrow m c 1))) Φ) := by
  rw [k0_part32_eq_skeleton]
  unfold k0_part32_skel
  simp only [semSignalWord, semWaitWord, Prog.lift, Prog.bind_op, Prog.bind_ret, Prog.pure_eq_ret]
  iintro ⟨#HR, K23, L, A, K33⟩ Hk
  iapply (ld_k m c (zf c 3) 1 fullShare (off7_eq c 3)) $$ [K23]
  · iexact K23
  iintro K23
  iapply (ld_l1 c _ _) $$ [L]
  · iexact L
  iintro L
  iapply (ld_l1 c _ _) $$ [L]
  · iexact L
  iintro L
  iapply (st_l1 c _ _ (Lc m c 1 4) rfl) $$ [L]
  · iexact L
  iintro L
  iapply (ld_a1 c _ _) $$ [A]
  · iexact A
  iintro A
  iapply (ld_v m c (zf c 3) 1 fullShare (off7_eq c 3)) $$ [K33]
  · iexact K33
  iintro K33
  iapply (ld_a1 c _ _) $$ [A]
  · iexact A
  iintro A
  iapply (st_a1 c _ _ (Ac m c 1 4) rfl) $$ [A]
  · iexact A
  iintro A
  iapply (ld_a0 c _ _) $$ [A]
  · iexact A
  iintro A
  iapply (ld_l0 c _ _) $$ [L]
  · iexact L
  iintro L
  rw [wp_ret]
  imodintro
  iapply Hk
  isplitl [K23]; · iexact K23
  isplitl [L]; · iexact L
  isplitl [A]; · iexact A
  iexact K33

end Cert.KernelIdealProof

end
-- ==== Proof.KernelIdealPart6.lean ====
/-
# The heads exchanged
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part33_wp (c : Dev nD) (fg : Vec F S16x1024x128 .bf16) (v5 : BitVec 32) (v8 : BitVec 32) (v53 : BitVec 32) (v56 : BitVec 32) {h0} {h1} {h2} {h3} {h4} {h5} {h6} {h7} {h8} {h9} {h10} {h11} {h12}
    {Φ : (BitVec 32) → sProp 𝕄} :
    iprop(records m K ∗ gP (F := F) c (pr c) fg ∗ aB c (Ac m c 0 4) (Ac m c 1 4) ∗ lB c (Lc m c 0 4) (Lc m c 1 4) ∗ Ow (F := F) c 17 ∗ dutyTok ER (dcell c (25 : Fin 42)) 0 0 ∗ dutyTok ER (dcell (xp c) (26 : Fin 42)) 0 0 ∗ (∃ f, gP (F := F) (xp c) (pr c) f) ∗ atPos ER (dcell c (25 : Fin 42)) 0 ∅ 0)
      ⊢ iprop((∀ (r0 : BitVec 32), (aB c (Ac m c 0 4) (Ac m c 1 4) ∗ lB c (Lc m c 0 4) (Lc m c 1 4) ∗ Ow (F := F) c 18 ∗ semVal (dcell c (25 : Fin 42)) 0 ∗ gP c (pr c) (OG m c)) -∗ Φ r0) -∗ wp frame (wpE (defs₀ (F := F)) 𝒱₀ (c : Thread nD τ) none) Set.univ (k0_part33 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v5 v8 v53 v56 (k0_pay40 (Ac m c 0 4) (Lc m c 0 4))) Φ) := by
  rw [k0_part33_eq_skeleton]
  unfold k0_part33_skel
  simp only [semSignalWord, semWaitWord, Prog.lift, Prog.bind_op, Prog.bind_ret, Prog.pure_eq_ret]
  iintro ⟨#HR, G, A, L, O, T25, R26, DX, P25⟩ Hk
  iapply (ld_gd c (2 * pr c + 0) (pr c) _ (off8_eq c 0) (by omega)) $$ [G]
  · iexact G
  iintro %x G
  iapply (st_g c (2 * pr c + 0) (pr c) _ (off8_eq c 0) (by omega)) $$ [G]
  · iexact G
  iintro G
  iapply (ld_a1 c _ _) $$ [A]
  · iexact A
  iintro A
  iapply (ld_l1 c _ _) $$ [L]
  · iexact L
  iintro L
  iapply (ld_gd c (2 * pr c + 1) (pr c) _ (off8_eq c 1) (by omega)) $$ [G]
  · iexact G
  iintro %x G
  iapply (st_g c (2 * pr c + 1) (pr c) _ (off8_eq c 1) (by omega)) $$ [G]
  · iexact G
  iintro G
  ihave G := (Entails.of_eq (og_pair m c (off8_eq c 0) (off8_eq c 1) _ _ fg (k0_pay41 (k0_pay40 (Ac m c 0 4) (Lc m c 0 4))) (k0_pay42 (Ac m c 1 4) (Lc m c 1 4)) rfl rfl)) $$ G
  iapply (send_g m K c (xp c) _ (dev18_eq c) (OG_xp m c) (25 : Fin 42) (26 : Fin 42) (by decide) (by decide) rfl rfl (pr c) (off9_eq c) _ rfl rfl (Entails.of_eq rfl) (Entails.of_eq (over_x m c)) 17 rfl) $$ [O T25 R26 G DX]
  · isplitr; · iexact HR
    isplitl [O]; · iexact O
    isplitl [T25]; · iexact T25
    isplitl [R26]; · iexact R26
    isplitl [G]; · iexact G
    iexact DX
  iintro ⟨C25, O⟩
  iapply (wait_g m K c (25 : Fin 42) (by decide) rfl rfl 18 0 (by decide) (by decide)) $$ [O C25 P25]
  · isplitr; · iexact HR
    isplitl [O]; · iexact O
    isplitl [C25]; · iexact C25
    iexact P25
  iintro ⟨O, Z25, V⟩
  ihave G := (Entails.of_eq (show dmaPay (F := F) m c (25 : Fin 42).val = iprop(gP c (pr c) (OG m c)) from rfl)) $$ V
  rw [wp_ret]
  imodintro
  iapply Hk
  isplitl [A]; · iexact A
  isplitl [L]; · iexact L
  isplitl [O]; · iexact O
  isplitl [Z25]; · iexact Z25
  iexact G

set_option maxRecDepth 65536 in
theorem part34_wp (c : Dev nD)  (v5 : BitVec 32) (v8 : BitVec 32) (v971 : BitVec 32) {h0} {h1} {h2} {h3} {h4} {h5} {h6} {h7} {h8} {h9} {h10} {h11} {h12}
    {Φ : (BitVec 32) → sProp 𝕄} :
    iprop(records m K ∗ Ow (F := F) c 18 ∗ cred (tallyAt (dcell c (26 : Fin 42)) () gN) ∗ atPos ER (dcell c (26 : Fin 42)) 0 ∅ 0)
      ⊢ iprop((∀ (r0 : BitVec 32), (Ow (F := F) c 18 ∗ semVal (dcell c (26 : Fin 42)) 0 ∗ gP c (prx c) (OG m c)) -∗ Φ r0) -∗ wp frame (wpE (defs₀ (F := F)) 𝒱₀ (c : Thread nD τ) none) Set.univ (k0_part34 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v5 v8 v971) Φ) := by
  rw [k0_part34_eq_skeleton]
  unfold k0_part34_skel
  simp only [semSignalWord, semWaitWord, Prog.lift, Prog.bind_op, Prog.bind_ret, Prog.pure_eq_ret]
  iintro ⟨#HR, O, C26, P26⟩ Hk
  iapply (wait_g m K c (26 : Fin 42) (by decide) rfl rfl 18 5 (by decide) (by decide)) $$ [O C26 P26]
  · isplitr; · iexact HR
    isplitl [O]; · iexact O
    isplitl [C26]; · iexact C26
    iexact P26
  iintro ⟨O, Z26, V⟩
  ihave GX := (Entails.of_eq (show dmaPay (F := F) m c (26 : Fin 42).val = iprop(gP c (prx c) (OG m c)) from rfl)) $$ V
  rw [wp_ret]
  imodintro
  iapply Hk
  isplitl [O]; · iexact O
  isplitl [Z26]; · iexact Z26
  iexact GX

set_option maxRecDepth 65536 in
theorem part35_wp (c : Dev nD)  (v2 : BitVec 32) (v8 : BitVec 32) (v41 : BitVec 32) (v52 : BitVec 32) (v999 : BitVec 32) {h0} {h1} {h2} {h3} {h4} {h5} {h6} {h7} {h8} {h9} {h10} {h11} {h12}
    {Φ : (PUnit) → sProp 𝕄} :
    iprop(records m K ∗ Ow (F := F) c 18 ∗ dutyTok ER (dcell c (27 : Fin 42)) 0 0 ∗ dutyTok ER (dcell (yu c) (33 : Fin 42)) 0 0 ∗ gP c (yb c 0) (OG m c) ∗ (∃ f, gP (F := F) (yu c) (yb c 0) f) ∗ dutyTok ER (dcell c (30 : Fin 42)) 0 0 ∗ dutyTok ER (dcell (yd c) (36 : Fin 42)) 0 0 ∗ gP c (yf c 0) (OG m c) ∗ (∃ f, gP (F := F) (yd c) (yf c 0) f))
      ⊢ iprop(((Ow (F := F) c 20 ∗ cred (tallyAt (dcell c (27 : Fin 42)) () gN) ∗ cred (tallyAt (dcell c (30 : Fin 42)) () gN)) -∗ Φ ⟨⟩) -∗ wp frame (wpE (defs₀ (F := F)) 𝒱₀ (c : Thread nD τ) none) Set.univ (k0_part35 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v41 v52 v999) Φ) := by
  rw [k0_part35_eq_skeleton]
  unfold k0_part35_skel
  simp only [semSignalWord, semWaitWord, Prog.lift, Prog.bind_op, Prog.bind_ret, Prog.pure_eq_ret]
  iintro ⟨#HR, O, T27, R33, Y00, E00, T30, R36, Y10, E10⟩ Hk
  iapply (send_g m K c (yu c) _ (dev19_eq c) (OG_yu m c) (27 : Fin 42) (33 : Fin 42) (by decide) (by decide) rfl rfl (yb c 0) (off10_eq c 0) _ rfl rfl (Entails.of_eq rfl) (Entails.of_eq (over_y0 m c 0 (by decide))) 18 rfl) $$ [O T27 R33 Y00 E00]
  · isplitr; · iexact HR
    isplitl [O]; · iexact O
    isplitl [T27]; · iexact T27
    isplitl [R33]; · iexact R33
    isplitl [Y00]; · iexact Y00
    iexact E00
  iintro ⟨C27, O⟩
  iapply (send_g m K c (yd c) _ (dev20_eq c) (OG_yd m c) (30 : Fin 42) (36 : Fin 42) (by decide) (by decide) rfl rfl (yf c 0) (off11_eq c 0) _ rfl rfl (Entails.of_eq rfl) (Entails.of_eq (over_y1 m c 0 (by decide))) 19 rfl) $$ [O T30 R36 Y10 E10]
  · isplitr; · iexact HR
    isplitl [O]; · iexact O
    isplitl [T30]; · iexact T30
    isplitl [R36]; · iexact R36
    isplitl [Y10]; · iexact Y10
    iexact E10
  iintro ⟨C30, O⟩
  rw [wp_ret]
  imodintro
  iapply Hk
  isplitl [O]; · iexact O
  isplitl [C27]; · iexact C27
  iexact C30

set_option maxRecDepth 65536 in
theorem part36_wp (c : Dev nD)  (v2 : BitVec 32) (v8 : BitVec 32) (v41 : BitVec 32) (v52 : BitVec 32) {h0} {h1} {h2} {h3} {h4} {h5} {h6} {h7} {h8} {h9} {h10} {h11} {h12}
    {Φ : (PUnit) → sProp 𝕄} :
    iprop(records m K ∗ Ow (F := F) c 20 ∗ cred (tallyAt (dcell c (27 : Fin 42)) () gN) ∗ atPos ER (dcell c (27 : Fin 42)) 0 ∅ 0 ∗ cred (tallyAt (dcell c (33 : Fin 42)) () gN) ∗ atPos ER (dcell c (33 : Fin 42)) 0 ∅ 0 ∗ cred (tallyAt (dcell c (30 : Fin 42)) () gN) ∗ atPos ER (dcell c (30 : Fin 42)) 0 ∅ 0)
      ⊢ iprop(((Ow (F := F) c 20 ∗ semVal (dcell c (27 : Fin 42)) 0 ∗ gP c (yb c 0) (OG m c) ∗ semVal (dcell c (33 : Fin 42)) 0 ∗ gP c (yb c 1) (OG m c) ∗ semVal (dcell c (30 : Fin 42)) 0 ∗ gP c (yf c 0) (OG m c)) -∗ Φ ⟨⟩) -∗ wp frame (wpE (defs₀ (F := F)) 𝒱₀ (c : Thread nD τ) none) Set.univ (k0_part36 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v41 v52) Φ) := by
  rw [k0_part36_eq_skeleton]
  unfold k0_part36_skel
  simp only [semSignalWord, semWaitWord, Prog.lift, Prog.bind_op, Prog.bind_ret, Prog.pure_eq_ret]
  iintro ⟨#HR, O, C27, P27, C33, P33, C30, P30⟩ Hk
  iapply (wait_g m K c (27 : Fin 42) (by decide) rfl rfl 20 0 (by decide) (by decide)) $$ [O C27 P27]
  · isplitr; · iexact HR
    isplitl [O]; · iexact O
    isplitl [C27]; · iexact C27
    iexact P27
  iintro ⟨O, Z27, V⟩
  ihave Y00 := (Entails.of_eq (show dmaPay (F := F) m c (27 : Fin 42).val = iprop(gP c (yb c 0) (OG m c)) from rfl)) $$ V
  iapply (wait_g m K c (33 : Fin 42) (by decide) rfl rfl 20 6 (by decide) (by decide)) $$ [O C33 P33]
  · isplitr; · iexact HR
    isplitl [O]; · iexact O
    isplitl [C33]; · iexact C33
    iexact P33
  iintro ⟨O, Z33, V⟩
  ihave Y01 := (Entails.of_eq (show dmaPay (F := F) m c (33 : Fin 42).val = iprop(gP c (yb c 1) (OG m c)) from rfl)) $$ V
  iapply (wait_g m K c (30 : Fin 42) (by decide) rfl rfl 20 0 (by decide) (by decide)) $$ [O C30 P30]
  · isplitr; · iexact HR
    isplitl [O]; · iexact O
    isplitl [C30]; · iexact C30
    iexact P30
  iintro ⟨O, Z30, V⟩
  ihave Y10 := (Entails.of_eq (show dmaPay (F := F) m c (30 : Fin 42).val = iprop(gP c (yf c 0) (OG m c)) from rfl)) $$ V
  rw [wp_ret]
  imodintro
  iapply Hk
  isplitl [O]; · iexact O
  isplitl [Z27]; · iexact Z27
  isplitl [Y00]; · iexact Y00
  isplitl [Z33]; · iexact Z33
  isplitl [Y01]; · iexact Y01
  isplitl [Z30]; · iexact Z30
  iexact Y10

set_option maxRecDepth 65536 in
theorem part37_wp (c : Dev nD)  (v2 : BitVec 32) (v5 : BitVec 32) {h0} {h1} {h2} {h3} {h4} {h5} {h6} {h7} {h8} {h9} {h10} {h11} {h12}
    {Φ : (Σ' (v1081 : BitVec 32) (v1086 : BitVec 32), BitVec 32) → sProp 𝕄} :
    iprop(records m K ∗ Ow (F := F) c 20 ∗ cred (tallyAt (dcell c (36 : Fin 42)) () gN) ∗ atPos ER (dcell c (36 : Fin 42)) 0 ∅ 0)
      ⊢ iprop((∀ (r0 : BitVec 32) (r1 : BitVec 32), (Ow (F := F) c 20 ∗ semVal (dcell c (36 : Fin 42)) 0 ∗ gP c (yf c 1) (OG m c)) -∗ Φ ⟨r0, r1, 0#32⟩) -∗ wp frame (wpE (defs₀ (F := F)) 𝒱₀ (c : Thread nD τ) none) Set.univ (k0_part37 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5) Φ) := by
  rw [k0_part37_eq_skeleton]
  unfold k0_part37_skel
  simp only [semSignalWord, semWaitWord, Prog.lift, Prog.bind_op, Prog.bind_ret, Prog.pure_eq_ret]
  iintro ⟨#HR, O, C36, P36⟩ Hk
  iapply (wait_g m K c (36 : Fin 42) (by decide) rfl rfl 20 6 (by decide) (by decide)) $$ [O C36 P36]
  · isplitr; · iexact HR
    isplitl [O]; · iexact O
    isplitl [C36]; · iexact C36
    iexact P36
  iintro ⟨O, Z36, V⟩
  ihave Y11 := (Entails.of_eq (show dmaPay (F := F) m c (36 : Fin 42).val = iprop(gP c (yf c 1) (OG m c)) from rfl)) $$ V
  rw [wp_ret]
  imodintro
  iapply Hk
  isplitl [O]; · iexact O
  isplitl [Z36]; · iexact Z36
  iexact Y11

set_option maxRecDepth 65536 in
theorem part38_wp (c : Dev nD)  (v2 : BitVec 32) (v8 : BitVec 32) (v41 : BitVec 32) (v52 : BitVec 32) (v1081 : BitVec 32) (v1086 : BitVec 32) (c0_i32_1037 : BitVec 32) {h0} {h1} {h2} {h3} {h4} {h5} {h6} {h7} {h8} {h9} {h10} {h11} {h12}
    {Φ : (PUnit) → sProp 𝕄} :
    iprop(records m K ∗ Ow (F := F) c 20 ∗ dutyTok ER (dcell c (28 : Fin 42)) 0 0 ∗ dutyTok ER (dcell (yu c) (34 : Fin 42)) 0 0 ∗ gP c (yb c 1) (OG m c) ∗ (∃ f, gP (F := F) (yu c) (yb c 1) f) ∗ dutyTok ER (dcell c (31 : Fin 42)) 0 0 ∗ dutyTok ER (dcell (yd c) (37 : Fin 42)) 0 0 ∗ gP c (yf c 1) (OG m c) ∗ (∃ f, gP (F := F) (yd c) (yf c 1) f))
      ⊢ iprop(((Ow (F := F) c 22 ∗ cred (tallyAt (dcell c (28 : Fin 42)) () gN) ∗ cred (tallyAt (dcell c (31 : Fin 42)) () gN)) -∗ Φ ⟨⟩) -∗ wp frame (wpE (defs₀ (F := F)) 𝒱₀ (c : Thread nD τ) none) Set.univ (k0_part38 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v41 v52 v1081 v1086 c0_i32_1037) Φ) := by
  rw [k0_part38_eq_skeleton]
  unfold k0_part38_skel
  simp only [semSignalWord, semWaitWord, Prog.lift, Prog.bind_op, Prog.bind_ret, Prog.pure_eq_ret]
  iintro ⟨#HR, O, T28, R34, Y01, E01, T31, R37, Y11, E11⟩ Hk
  iapply (send_g m K c (yu c) _ (dev21_eq c) (OG_yu m c) (28 : Fin 42) (34 : Fin 42) (by decide) (by decide) rfl rfl (yb c 1) (off10_eq c 1) _ rfl rfl (Entails.of_eq rfl) (Entails.of_eq (over_y0 m c 1 (by decide))) 20 rfl) $$ [O T28 R34 Y01 E01]
  · isplitr; · iexact HR
    isplitl [O]; · iexact O
    isplitl [T28]; · iexact T28
    isplitl [R34]; · iexact R34
    isplitl [Y01]; · iexact Y01
    iexact E01
  iintro ⟨C28, O⟩
  iapply (send_g m K c (yd c) _ (dev22_eq c) (OG_yd m c) (31 : Fin 42) (37 : Fin 42) (by decide) (by decide) rfl rfl (yf c 1) (off11_eq c 1) _ rfl rfl (Entails.of_eq rfl) (Entails.of_eq (over_y1 m c 1 (by decide))) 21 rfl) $$ [O T31 R37 Y11 E11]
  · isplitr; · iexact HR
    isplitl [O]; · iexact O
    isplitl [T31]; · iexact T31
    isplitl [R37]; · iexact R37
    isplitl [Y11]; · iexact Y11
    iexact E11
  iintro ⟨C31, O⟩
  rw [wp_ret]
  imodintro
  iapply Hk
  isplitl [O]; · iexact O
  isplitl [C28]; · iexact C28
  iexact C31

end Cert.KernelIdealProof

end
-- ==== Proof.KernelIdealPart7.lean ====
/-
# The last hop along y, the result
-/
module

public import proofs.«01_k».proof.Proof.KernelIdealPieces

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
theorem part39_wp (c : Dev nD)  (v2 : BitVec 32) (v8 : BitVec 32) (v41 : BitVec 32) (v52 : BitVec 32) {h0} {h1} {h2} {h3} {h4} {h5} {h6} {h7} {h8} {h9} {h10} {h11} {h12}
    {Φ : (PUnit) → sProp 𝕄} :
    iprop(records m K ∗ Ow (F := F) c 22 ∗ cred (tallyAt (dcell c (28 : Fin 42)) () gN) ∗ atPos ER (dcell c (28 : Fin 42)) 0 ∅ 0 ∗ cred (tallyAt (dcell c (34 : Fin 42)) () gN) ∗ atPos ER (dcell c (34 : Fin 42)) 0 ∅ 0 ∗ cred (tallyAt (dcell c (31 : Fin 42)) () gN) ∗ atPos ER (dcell c (31 : Fin 42)) 0 ∅ 0)
      ⊢ iprop(((Ow (F := F) c 22 ∗ semVal (dcell c (28 : Fin 42)) 0 ∗ gP c (yb c 1) (OG m c) ∗ semVal (dcell c (34 : Fin 42)) 0 ∗ gP c (yb c 2) (OG m c) ∗ semVal (dcell c (31 : Fin 42)) 0 ∗ gP c (yf c 1) (OG m c)) -∗ Φ ⟨⟩) -∗ wp frame (wpE (defs₀ (F := F)) 𝒱₀ (c : Thread nD τ) none) Set.univ (k0_part39 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v41 v52) Φ) := by
  rw [k0_part39_eq_skeleton]
  unfold k0_part39_skel
  simp only [semSignalWord, semWaitWord, Prog.lift, Prog.bind_op, Prog.bind_ret, Prog.pure_eq_ret]
  iintro ⟨#HR, O, C28, P28, C34, P34, C31, P31⟩ Hk
  iapply (wait_g m K c (28 : Fin 42) (by decide) rfl rfl 22 0 (by decide) (by decide)) $$ [O C28 P28]
  · isplitr; · iexact HR
    isplitl [O]; · iexact O
    isplitl [C28]; · iexact C28
    iexact P28
  iintro ⟨O, Z28, V⟩
  ihave Y01 := (Entails.of_eq (show dmaPay (F := F) m c (28 : Fin 42).val = iprop(gP c (yb c 1) (OG m c)) from rfl)) $$ V
  iapply (wait_g m K c (34 : Fin 42) (by decide) rfl rfl 22 7 (by decide) (by decide)) $$ [O C34 P34]
  · isplitr; · iexact HR
    isplitl [O]; · iexact O
    isplitl [C34]; · iexact C34
    iexact P34
  iintro ⟨O, Z34, V⟩
  ihave Y02 := (Entails.of_eq (show dmaPay (F := F) m c (34 : Fin 42).val = iprop(gP c (yb c 2) (OG m c)) from rfl)) $$ V
  iapply (wait_g m K c (31 : Fin 42) (by decide) rfl rfl 22 0 (by decide) (by decide)) $$ [O C31 P31]
  · isplitr; · iexact HR
    isplitl [O]; · iexact O
    isplitl [C31]; · iexact C31
    iexact P31
  iintro ⟨O, Z31, V⟩
  ihave Y11 := (Entails.of_eq (show dmaPay (F := F) m c (31 : Fin 42).val = iprop(gP c (yf c 1) (OG m c)) from rfl)) $$ V
  rw [wp_ret]
  imodintro
  iapply Hk
  isplitl [O]; · iexact O
  isplitl [Z28]; · iexact Z28
  isplitl [Y01]; · iexact Y01
  isplitl [Z34]; · iexact Z34
  isplitl [Y02]; · iexact Y02
  isplitl [Z31]; · iexact Z31
  iexact Y11

set_option maxRecDepth 65536 in
theorem part40_wp (c : Dev nD)  (v2 : BitVec 32) (v5 : BitVec 32) (v41 : BitVec 32) {h0} {h1} {h2} {h3} {h4} {h5} {h6} {h7} {h8} {h9} {h10} {h11} {h12}
    {Φ : (Σ' (v1163 : BitVec 32), BitVec 32) → sProp 𝕄} :
    iprop(records m K ∗ Ow (F := F) c 22 ∗ cred (tallyAt (dcell c (37 : Fin 42)) () gN) ∗ atPos ER (dcell c (37 : Fin 42)) 0 ∅ 0)
      ⊢ iprop((∀ (r0 : BitVec 32) (r1 : BitVec 32), (Ow (F := F) c 22 ∗ semVal (dcell c (37 : Fin 42)) 0 ∗ gP c (yf c 2) (OG m c)) -∗ Φ ⟨r0, r1⟩) -∗ wp frame (wpE (defs₀ (F := F)) 𝒱₀ (c : Thread nD τ) none) Set.univ (k0_part40 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v5 v41) Φ) := by
  rw [k0_part40_eq_skeleton]
  unfold k0_part40_skel
  simp only [semSignalWord, semWaitWord, Prog.lift, Prog.bind_op, Prog.bind_ret, Prog.pure_eq_ret]
  iintro ⟨#HR, O, C37, P37⟩ Hk
  iapply (wait_g m K c (37 : Fin 42) (by decide) rfl rfl 22 7 (by decide) (by decide)) $$ [O C37 P37]
  · isplitr; · iexact HR
    isplitl [O]; · iexact O
    isplitl [C37]; · iexact C37
    iexact P37
  iintro ⟨O, Z37, V⟩
  ihave Y12 := (Entails.of_eq (show dmaPay (F := F) m c (37 : Fin 42).val = iprop(gP c (yf c 2) (OG m c)) from rfl)) $$ V
  rw [wp_ret]
  imodintro
  iapply Hk
  isplitl [O]; · iexact O
  isplitl [Z37]; · iexact Z37
  iexact Y12

set_option maxRecDepth 65536 in
theorem part41_wp (c : Dev nD)  (v2 : BitVec 32) (v8 : BitVec 32) (v52 : BitVec 32) (v1163 : BitVec 32) (v1171 : BitVec 32) {h0} {h1} {h2} {h3} {h4} {h5} {h6} {h7} {h8} {h9} {h10} {h11} {h12}
    {Φ : (PUnit) → sProp 𝕄} :
    iprop(records m K ∗ Ow (F := F) c 22 ∗ dutyTok ER (dcell c (29 : Fin 42)) 0 0 ∗ dutyTok ER (dcell (yu c) (35 : Fin 42)) 0 0 ∗ gP c (yb c 2) (OG m c) ∗ (∃ f, gP (F := F) (yu c) (yb c 2) f) ∗ dutyTok ER (dcell c (32 : Fin 42)) 0 0 ∗ dutyTok ER (dcell (yd c) (38 : Fin 42)) 0 0 ∗ gP c (yf c 2) (OG m c) ∗ (∃ f, gP (F := F) (yd c) (yf c 2) f))
      ⊢ iprop(((Ow (F := F) c 24 ∗ cred (tallyAt (dcell c (29 : Fin 42)) () gN) ∗ cred (tallyAt (dcell c (32 : Fin 42)) () gN)) -∗ Φ ⟨⟩) -∗ wp frame (wpE (defs₀ (F := F)) 𝒱₀ (c : Thread nD τ) none) Set.univ (k0_part41 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v52 v1163 v1171) Φ) := by
  rw [k0_part41_eq_skeleton]
  unfold k0_part41_skel
  simp only [semSignalWord, semWaitWord, Prog.lift, Prog.bind_op, Prog.bind_ret, Prog.pure_eq_ret]
  iintro ⟨#HR, O, T29, R35, Y02, E02, T32, R38, Y12, E12⟩ Hk
  iapply (send_g m K c (yu c) _ (dev23_eq c) (OG_yu m c) (29 : Fin 42) (35 : Fin 42) (by decide) (by decide) rfl rfl (yb c 2) (off10_eq c 2) _ rfl rfl (Entails.of_eq rfl) (Entails.of_eq (over_y0 m c 2 (by decide))) 22 rfl) $$ [O T29 R35 Y02 E02]
  · isplitr; · iexact HR
    isplitl [O]; · iexact O
    isplitl [T29]; · iexact T29
    isplitl [R35]; · iexact R35
    isplitl [Y02]; · iexact Y02
    iexact E02
  iintro ⟨C29, O⟩
  iapply (send_g m K c (yd c) _ (dev24_eq c) (OG_yd m c) (32 : Fin 42) (38 : Fin 42) (by decide) (by decide) rfl rfl (yf c 2) (off11_eq c 2) _ rfl rfl (Entails.of_eq rfl) (Entails.of_eq (over_y1 m c 2 (by decide))) 23 rfl) $$ [O T32 R38 Y12 E12]
  · isplitr; · iexact HR
    isplitl [O]; · iexact O
    isplitl [T32]; · iexact T32
    isplitl [R38]; · iexact R38
    isplitl [Y12]; · iexact Y12
    iexact E12
  iintro ⟨C32, O⟩
  rw [wp_ret]
  imodintro
  iapply Hk
  isplitl [O]; · iexact O
  isplitl [C29]; · iexact C29
  iexact C32

set_option maxRecDepth 65536 in
theorem part42_wp (c : Dev nD)  (v2 : BitVec 32) (v8 : BitVec 32) (v41 : BitVec 32) (v52 : BitVec 32) {h0} {h1} {h2} {h3} {h4} {h5} {h6} {h7} {h8} {h9} {h10} {h11} {h12}
    {Φ : (PUnit) → sProp 𝕄} :
    iprop(records m K ∗ Ow (F := F) c 24 ∗ cred (tallyAt (dcell c (29 : Fin 42)) () gN) ∗ atPos ER (dcell c (29 : Fin 42)) 0 ∅ 0 ∗ cred (tallyAt (dcell c (35 : Fin 42)) () gN) ∗ atPos ER (dcell c (35 : Fin 42)) 0 ∅ 0 ∗ cred (tallyAt (dcell c (32 : Fin 42)) () gN) ∗ atPos ER (dcell c (32 : Fin 42)) 0 ∅ 0)
      ⊢ iprop(((Ow (F := F) c 24 ∗ semVal (dcell c (29 : Fin 42)) 0 ∗ gP c (yb c 2) (OG m c) ∗ semVal (dcell c (35 : Fin 42)) 0 ∗ gP c (yb c 3) (OG m c) ∗ semVal (dcell c (32 : Fin 42)) 0 ∗ gP c (yf c 2) (OG m c)) -∗ Φ ⟨⟩) -∗ wp frame (wpE (defs₀ (F := F)) 𝒱₀ (c : Thread nD τ) none) Set.univ (k0_part42 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c v2 v8 v41 v52) Φ) := by
  rw [k0_part42_eq_skeleton]
  unfold k0_part42_skel
  simp only [semSignalWord, semWaitWord, Prog.lift, Prog.bind_op, Prog.bind_ret, Prog.pure_eq_ret]
  iintro ⟨#HR, O, C29, P29, C35, P35, C32, P32⟩ Hk
  iapply (wait_g m K c (29 : Fin 42) (by decide) rfl rfl 24 0 (by decide) (by decide)) $$ [O C29 P29]
  · isplitr; · iexact HR
    isplitl [O]; · iexact O
    isplitl [C29]; · iexact C29
    iexact P29
  iintro ⟨O, Z29, V⟩
  ihave Y02 := (Entails.of_eq (show dmaPay (F := F) m c (29 : Fin 42).val = iprop(gP c (yb c 2) (OG m c)) from rfl)) $$ V
  iapply (wait_g m K c (35 : Fin 42) (by decide) rfl rfl 24 8 (by decide) (by decide)) $$ [O C35 P35]
  · isplitr; · iexact HR
    isplitl [O]; · iexact O
    isplitl [C35]; · iexact C35
    iexact P35
  iintro ⟨O, Z35, V⟩
  ihave Y03 := (Entails.of_eq (show dmaPay (F := F) m c (35 : Fin 42).val = iprop(gP c (yb c 3) (OG m c)) from rfl)) $$ V
  iapply (wait_g m K c (32 : Fin 42) (by decide) rfl rfl 24 0 (by decide) (by decide)) $$ [O C32 P32]
  · isplitr; · iexact HR
    isplitl [O]; · iexact O
    isplitl [C32]; · iexact C32
    iexact P32
  iintro ⟨O, Z32, V⟩
  ihave Y12 := (Entails.of_eq (show dmaPay (F := F) m c (32 : Fin 42).val = iprop(gP c (yf c 2) (OG m c)) from rfl)) $$ V
  rw [wp_ret]
  imodintro
  iapply Hk
  isplitl [O]; · iexact O
  isplitl [Z29]; · iexact Z29
  isplitl [Y02]; · iexact Y02
  isplitl [Z35]; · iexact Z35
  isplitl [Y03]; · iexact Y03
  isplitl [Z32]; · iexact Z32
  iexact Y12

set_option maxRecDepth 65536 in
theorem part43_wp (c : Dev nD)   {h0} {h1} {h2} {h3} {h4} {h5} {h6} {h7} {h8} {h9} {h10} {h11} {h12}
    {Φ : (FVec F S1024x128 .f32) → sProp 𝕄} :
    iprop(records m K ∗ Ow (F := F) c 24 ∗ cred (tallyAt (dcell c (38 : Fin 42)) () gN) ∗ atPos ER (dcell c (38 : Fin 42)) 0 ∅ 0 ∗ gP c (yb c 0) (OG m c) ∗ gP c (yb c 1) (OG m c) ∗ gP c (yb c 2) (OG m c) ∗ gP c (yb c 3) (OG m c) ∗ gP c (yf c 0) (OG m c) ∗ gP c (yf c 1) (OG m c) ∗ gP c (yf c 2) (OG m c) ∗ stB m c 0)
      ⊢ iprop(((Ow (F := F) c 24 ∗ semVal (dcell c (38 : Fin 42)) 0 ∗ ogB m c ∗ stB m c 4) -∗ Φ (k0_pay47 (orow m (dh c 4) (4 % 2)))) -∗ wp frame (wpE (defs₀ (F := F)) 𝒱₀ (c : Thread nD τ) none) Set.univ (k0_part43 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 c) Φ) := by
  rw [k0_part43_eq_skeleton]
  unfold k0_part43_skel
  simp only [semSignalWord, semWaitWord, Prog.lift, Prog.bind_op, Prog.bind_ret, Prog.pure_eq_ret]
  iintro ⟨#HR, O, C38, P38, Y00, Y01, Y02, Y03, Y10, Y11, Y12, ST⟩ Hk
  iapply (wait_g m K c (38 : Fin 42) (by decide) rfl rfl 24 8 (by decide) (by decide)) $$ [O C38 P38]
  · isplitr; · iexact HR
    isplitl [O]; · iexact O
    isplitl [C38]; · iexact C38
    iexact P38
  iintro ⟨O, Z38, V⟩
  ihave Y13 := (Entails.of_eq (show dmaPay (F := F) m c (38 : Fin 42).val = iprop(gP c (yf c 3) (OG m c)) from rfl)) $$ V
  ihave OGB := (merge_g m c) $$ [Y00 Y01 Y02 Y03 Y10 Y11 Y12 Y13]
  · isplitl [Y00]; · iexact Y00
    isplitl [Y01]; · iexact Y01
    isplitl [Y02]; · iexact Y02
    isplitl [Y03]; · iexact Y03
    isplitl [Y10]; · iexact Y10
    isplitl [Y11]; · iexact Y11
    isplitl [Y12]; · iexact Y12
    iexact Y13
  iapply (ld_og m c 0) $$ [OGB]
  · iexact OGB
  iintro OGB
  iapply (ld_st m c 0 0) $$ [ST]
  · iexact ST
  iintro %xv1227 ST
  iapply (st_st m c 0 rfl) $$ [ST]
  · iexact ST
  iintro ST
  iapply (ld_og m c 1) $$ [OGB]
  · iexact OGB
  iintro OGB
  iapply (ld_st m c 1 1) $$ [ST]
  · iexact ST
  iintro %xv1233 ST
  iapply (st_st m c 1 rfl) $$ [ST]
  · iexact ST
  iintro ST
  iapply (ld_og m c 2) $$ [OGB]
  · iexact OGB
  iintro OGB
  iapply (ld_st m c 2 2) $$ [ST]
  · iexact ST
  iintro %xv1239 ST
  iapply (st_st m c 2 rfl) $$ [ST]
  · iexact ST
  iintro ST
  iapply (ld_og m c 3) $$ [OGB]
  · iexact OGB
  iintro OGB
  iapply (ld_st m c 3 3) $$ [ST]
  · iexact ST
  iintro %xv1245 ST
  iapply (st_st m c 3 rfl) $$ [ST]
  · iexact ST
  iintro ST
  iapply (ld_og m c 4) $$ [OGB]
  · iexact OGB
  iintro OGB
  rw [wp_ret]
  imodintro
  iapply Hk
  isplitl [O]; · iexact O
  isplitl [Z38]; · iexact Z38
  isplitl [OGB]; · iexact OGB
  iexact ST

set_option maxRecDepth 65536 in
theorem part44_wp (c : Dev nD)   {h0} {h1} {h2} {h3} {h4} {h5} {h6} {h7} {h8} {h9} {h10} {h11} {h12}
    {Φ : (PUnit) → sProp 𝕄} :
    iprop(records m K ∗ stB m c 4 ∗ ogB m c)
      ⊢ iprop(((stB m c 9 ∗ ogB m c) -∗ Φ ⟨⟩) -∗ wp frame (wpE (defs₀ (F := F)) 𝒱₀ (c : Thread nD τ) none) Set.univ (k0_part44 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 (k0_pay47 (orow m (dh c 4) (4 % 2)))) Φ) := by
  rw [k0_part44_eq_skeleton]
  unfold k0_part44_skel
  simp only [semSignalWord, semWaitWord, Prog.lift, Prog.bind_op, Prog.bind_ret, Prog.pure_eq_ret]
  iintro ⟨#HR, ST, OGB⟩ Hk
  iapply (ld_st m c 4 4) $$ [ST]
  · iexact ST
  iintro %xv1251 ST
  iapply (st_st m c 4 rfl) $$ [ST]
  · iexact ST
  iintro ST
  iapply (ld_og m c 5) $$ [OGB]
  · iexact OGB
  iintro OGB
  iapply (ld_st m c 5 5) $$ [ST]
  · iexact ST
  iintro %xv1257 ST
  iapply (st_st m c 5 rfl) $$ [ST]
  · iexact ST
  iintro ST
  iapply (ld_og m c 6) $$ [OGB]
  · iexact OGB
  iintro OGB
  iapply (ld_st m c 6 6) $$ [ST]
  · iexact ST
  iintro %xv1263 ST
  iapply (st_st m c 6 rfl) $$ [ST]
  · iexact ST
  iintro ST
  iapply (ld_og m c 7) $$ [OGB]
  · iexact OGB
  iintro OGB
  iapply (ld_st m c 7 7) $$ [ST]
  · iexact ST
  iintro %xv1269 ST
  iapply (st_st m c 7 rfl) $$ [ST]
  · iexact ST
  iintro ST
  iapply (ld_og m c 8) $$ [OGB]
  · iexact OGB
  iintro OGB
  iapply (ld_st m c 8 8) $$ [ST]
  · iexact ST
  iintro %xv1275 ST
  iapply (st_st m c 8 rfl) $$ [ST]
  · iexact ST
  iintro ST
  rw [wp_ret]
  imodintro
  iapply Hk
  isplitl [ST]; · iexact ST
  iexact OGB

set_option maxRecDepth 65536 in
theorem part45_wp (c : Dev nD)   {h0} {h1} {h2} {h3} {h4} {h5} {h6} {h7} {h8} {h9} {h10} {h11} {h12}
    {Φ : (Σ' (v1304 : FVec F S1024x128 .f32), Vec F S1024x1x128 .f32) → sProp 𝕄} :
    iprop(records m K ∗ ogB m c ∗ stB m c 9)
      ⊢ iprop((∀ (r1 : Vec F S1024x1x128 .f32), (ogB m c ∗ stB m c 13) -∗ Φ ⟨k0_pay57 (orow m (dh c 13) (13 % 2)), r1⟩) -∗ wp frame (wpE (defs₀ (F := F)) 𝒱₀ (c : Thread nD τ) none) Set.univ (k0_part45 (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15 ) Φ) := by
  rw [k0_part45_eq_skeleton]
  unfold k0_part45_skel
  simp only [semSignalWord, semWaitWord, Prog.lift, Prog.bind_op, Prog.bind_ret, Prog.pure_eq_ret]
  iintro ⟨#HR, OGB, ST⟩ Hk
  iapply (ld_og m c 9) $$ [OGB]
  · iexact OGB
  iintro OGB
  iapply (ld_st m c 9 9) $$ [ST]
  · iexact ST
  iintro %xv1281 ST
  iapply (st_st m c 9 rfl) $$ [ST]
  · iexact ST
  iintro ST
  iapply (ld_og m c 10) $$ [OGB]
  · iexact OGB
  iintro OGB
  iapply (ld_st m c 10 10) $$ [ST]
  · iexact ST
  iintro %xv1287 ST
  iapply (st_st m c 10 rfl) $$ [ST]
  · iexact ST
  iintro ST
  iapply (ld_og m c 11) $$ [OGB]
  · iexact OGB
  iintro OGB
  iapply (ld_st m c 11 11) $$ [ST]
  · iexact ST
  iintro %xv1293 ST
  iapply (st_st m c 11 rfl) $$ [ST]
  · iexact ST
  iintro ST
  iapply (ld_og m c 12) $$ [OGB]
  · iexact OGB
  iintro OGB
  iapply (ld_st m c 12 12) $$ [ST]
  · iexact ST
  iintro %xv1299 ST
  iapply (st_st m c 12 rfl) $$ [ST]
  · iexact ST
  iintro ST
  iapply (ld_og m c 13) $$ [OGB]
  · iexact OGB
  iintro OGB
  iapply (ld_st m c 13 13) $$ [ST]
  · iexact ST
  iintro %xv1305 ST
  rw [wp_ret]
  imodintro
  iapply Hk
  isplitl [OGB]; · iexact OGB
  iexact ST

end Cert.KernelIdealProof

end
-- ==== Proof.KernelIdealRun.lean ====
/-
# A device's whole run
-/
module

public import proofs.«01_k».proof.Proof.KernelIdealPart1
public import proofs.«01_k».proof.Proof.KernelIdealPart2
public import proofs.«01_k».proof.Proof.KernelIdealPart3
public import proofs.«01_k».proof.Proof.KernelIdealPart4
public import proofs.«01_k».proof.Proof.KernelIdealPart5
public import proofs.«01_k».proof.Proof.KernelIdealPart6
public import proofs.«01_k».proof.Proof.KernelIdealPart7

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (K : Dev nD × Fin 42 → ℕ)

set_option maxRecDepth 65536 in
set_option maxHeartbeats 0 in
/-- From what a device holds at the start of its run to what it holds at the end. -/
theorem body_wp (c : Dev nD) (uq vq : Vec F S1x1024x128 .bf16) (ua va : Vec F S1x1024x128 .f32) (ul vl : Vec F S1x1024x128 .f32) (fg : Vec F S16x1024x128 .bf16) {h0} {h1} {h2} {h3} {h4} {h5} {h6} {h7} {h8} {h9} {h10} {h11} {h12}
    {Φ : PUnit → sProp 𝕄} :
    iprop(records m K ∗ Ow (F := F) c 0 ∗ (((mQ c).view.loc (c : Thread nD τ)) ↦[(mQ c).view.set]{fullShare} m ((c : Thread nD τ).loc main_arg0)) ∗ (∃ f, (((c : Thread nD τ).loc cc0_scratch6) ↦{fullShare} f)) ∗ (((mK c).view.loc (c : Thread nD τ)) ↦[(mK c).view.set]{fullShare} m ((c : Thread nD τ).loc main_arg1)) ∗ (∃ f, (((c : Thread nD τ).loc cc0_scratch7) ↦{fullShare} f)) ∗ (((mV c).view.loc (c : Thread nD τ)) ↦[(mV c).view.set]{fullShare} m ((c : Thread nD τ).loc main_arg2)) ∗ (∃ f, (((c : Thread nD τ).loc cc0_scratch8) ↦{fullShare} f)) ∗ atPos ER (dcell c (1 : Fin 42)) 0 ∅ 0 ∗ atPos ER (dcell c (2 : Fin 42)) 0 ∅ 0 ∗ atPos ER (dcell c (3 : Fin 42)) 0 ∅ 0 ∗ atPos ER (dcell c (4 : Fin 42)) 0 ∅ 0 ∗ atPos ER (dcell c (5 : Fin 42)) 0 ∅ 0 ∗ atPos ER (dcell c (6 : Fin 42)) 0 ∅ 0 ∗ atPos ER (dcell c (7 : Fin 42)) 0 ∅ 0 ∗ atPos ER (dcell c (8 : Fin 42)) 0 ∅ 0 ∗ atPos ER (dcell c (9 : Fin 42)) 0 ∅ 0 ∗ atPos ER (dcell c (10 : Fin 42)) 0 ∅ 0 ∗ atPos ER (dcell c (11 : Fin 42)) 0 ∅ 0 ∗ atPos ER (dcell c (12 : Fin 42)) 0 ∅ 0 ∗ atPos ER (dcell c (13 : Fin 42)) 0 ∅ 0 ∗ atPos ER (dcell c (14 : Fin 42)) 0 ∅ 0 ∗ atPos ER (dcell c (15 : Fin 42)) 0 ∅ 0 ∗ atPos ER (dcell c (16 : Fin 42)) 0 ∅ 0 ∗ atPos ER (dcell c (17 : Fin 42)) 0 ∅ 0 ∗ atPos ER (dcell c (18 : Fin 42)) 0 ∅ 0 ∗ atPos ER (dcell c (19 : Fin 42)) 0 ∅ 0 ∗ atPos ER (dcell c (20 : Fin 42)) 0 ∅ 0 ∗ atPos ER (dcell c (21 : Fin 42)) 0 ∅ 0 ∗ atPos ER (dcell c (22 : Fin 42)) 0 ∅ 0 ∗ atPos ER (dcell c (23 : Fin 42)) 0 ∅ 0 ∗ atPos ER (dcell c (24 : Fin 42)) 0 ∅ 0 ∗ atPos ER (dcell c (25 : Fin 42)) 0 ∅ 0 ∗ atPos ER (dcell c (26 : Fin 42)) 0 ∅ 0 ∗ atPos ER (dcell c (27 : Fin 42)) 0 ∅ 0 ∗ atPos ER (dcell c (28 : Fin 42)) 0 ∅ 0 ∗ atPos ER (dcell c (29 : Fin 42)) 0 ∅ 0 ∗ atPos ER (dcell c (30 : Fin 42)) 0 ∅ 0 ∗ atPos ER (dcell c (31 : Fin 42)) 0 ∅ 0 ∗ atPos ER (dcell c (32 : Fin 42)) 0 ∅ 0 ∗ atPos ER (dcell c (33 : Fin 42)) 0 ∅ 0 ∗ atPos ER (dcell c (34 : Fin 42)) 0 ∅ 0 ∗ atPos ER (dcell c (35 : Fin 42)) 0 ∅ 0 ∗ atPos ER (dcell c (36 : Fin 42)) 0 ∅ 0 ∗ atPos ER (dcell c (37 : Fin 42)) 0 ∅ 0 ∗ atPos ER (dcell c (38 : Fin 42)) 0 ∅ 0 ∗ atPos ER (dcell c (39 : Fin 42)) 0 ∅ 0 ∗ atPos ER (dcell c (40 : Fin 42)) 0 ∅ 0 ∗ atPos ER (dcell c (41 : Fin 42)) 0 ∅ 0 ∗ dutyTok ER (dcell c (1 : Fin 42)) 0 0 ∗ dutyTok ER (dcell c (2 : Fin 42)) 0 0 ∗ dutyTok ER (dcell c (3 : Fin 42)) 0 0 ∗ dutyTok ER (dcell c (4 : Fin 42)) 0 0 ∗ dutyTok ER (dcell c (5 : Fin 42)) 0 0 ∗ dutyTok ER (dcell c (6 : Fin 42)) 0 0 ∗ dutyTok ER (dcell c (7 : Fin 42)) 0 0 ∗ dutyTok ER (dcell c (8 : Fin 42)) 0 0 ∗ dutyTok ER (dcell c (9 : Fin 42)) 0 0 ∗ dutyTok ER (dcell c (10 : Fin 42)) 0 0 ∗ dutyTok ER (dcell c (11 : Fin 42)) 0 0 ∗ dutyTok ER (dcell c (12 : Fin 42)) 0 0 ∗ dutyTok ER (dcell c (25 : Fin 42)) 0 0 ∗ dutyTok ER (dcell c (27 : Fin 42)) 0 0 ∗ dutyTok ER (dcell c (28 : Fin 42)) 0 0 ∗ dutyTok ER (dcell c (29 : Fin 42)) 0 0 ∗ dutyTok ER (dcell c (30 : Fin 42)) 0 0 ∗ dutyTok ER (dcell c (31 : Fin 42)) 0 0 ∗ dutyTok ER (dcell c (32 : Fin 42)) 0 0 ∗ dutyTok ER (dcell c (39 : Fin 42)) 0 0 ∗ dutyTok ER (dcell c (40 : Fin 42)) 0 0 ∗ dutyTok ER (dcell c (41 : Fin 42)) 0 0 ∗ dutyTok ER (dcell (zr c) (13 : Fin 42)) 0 0 ∗ cred (tallyAt (dcell c (13 : Fin 42)) () zN) ∗ dutyTok ER (dcell (zr c) (14 : Fin 42)) 0 0 ∗ cred (tallyAt (dcell c (14 : Fin 42)) () zN) ∗ dutyTok ER (dcell (zr c) (15 : Fin 42)) 0 0 ∗ cred (tallyAt (dcell c (15 : Fin 42)) () zN) ∗ dutyTok ER (dcell (zr c) (16 : Fin 42)) 0 0 ∗ cred (tallyAt (dcell c (16 : Fin 42)) () zN) ∗ dutyTok ER (dcell (zr c) (17 : Fin 42)) 0 0 ∗ cred (tallyAt (dcell c (17 : Fin 42)) () zN) ∗ dutyTok ER (dcell (zr c) (18 : Fin 42)) 0 0 ∗ cred (tallyAt (dcell c (18 : Fin 42)) () zN) ∗ dutyTok ER (dcell (zl c) (19 : Fin 42)) 0 0 ∗ cred (tallyAt (dcell c (19 : Fin 42)) () zN) ∗ dutyTok ER (dcell (zl c) (20 : Fin 42)) 0 0 ∗ cred (tallyAt (dcell c (20 : Fin 42)) () zN) ∗ dutyTok ER (dcell (zl c) (21 : Fin 42)) 0 0 ∗ cred (tallyAt (dcell c (21 : Fin 42)) () zN) ∗ dutyTok ER (dcell (zl c) (22 : Fin 42)) 0 0 ∗ cred (tallyAt (dcell c (22 : Fin 42)) () zN) ∗ dutyTok ER (dcell (zl c) (23 : Fin 42)) 0 0 ∗ cred (tallyAt (dcell c (23 : Fin 42)) () zN) ∗ dutyTok ER (dcell (zl c) (24 : Fin 42)) 0 0 ∗ cred (tallyAt (dcell c (24 : Fin 42)) () zN) ∗ dutyTok ER (dcell (xp c) (26 : Fin 42)) 0 0 ∗ cred (tallyAt (dcell c (26 : Fin 42)) () gN) ∗ dutyTok ER (dcell (yu c) (33 : Fin 42)) 0 0 ∗ cred (tallyAt (dcell c (33 : Fin 42)) () gN) ∗ dutyTok ER (dcell (yu c) (34 : Fin 42)) 0 0 ∗ cred (tallyAt (dcell c (34 : Fin 42)) () gN) ∗ dutyTok ER (dcell (yu c) (35 : Fin 42)) 0 0 ∗ cred (tallyAt (dcell c (35 : Fin 42)) () gN) ∗ dutyTok ER (dcell (yd c) (36 : Fin 42)) 0 0 ∗ cred (tallyAt (dcell c (36 : Fin 42)) () gN) ∗ dutyTok ER (dcell (yd c) (37 : Fin 42)) 0 0 ∗ cred (tallyAt (dcell c (37 : Fin 42)) () gN) ∗ dutyTok ER (dcell (yd c) (38 : Fin 42)) 0 0 ∗ cred (tallyAt (dcell c (38 : Fin 42)) () gN) ∗ dutyTok ER (bcell (zl c)) 0 0 ∗ barPay (F := F) (zl c) 0 ∗ dutyTok ER (bcell (zr c)) 0 1 ∗ barPay (F := F) (zr c) 1 ∗ dutyTok ER (bcell (xp c)) 0 2 ∗ barPay (F := F) (xp c) 2 ∗ dutyTok ER (bcell (yd c)) 0 3 ∗ barPay (F := F) (yd c) 3 ∗ dutyTok ER (bcell (yu c)) 0 4 ∗ barPay (F := F) (yu c) 4 ∗ cred (tallyAt (bcell c) () 5) ∗ atPos ER (bcell c) 0 ∅ 0 ∗ (∃ f, kP (F := F) c (zb c 0) 0 fullShare f) ∗ (∃ f, vP (F := F) c (zb c 0) 0 fullShare f) ∗ (∃ f, kP (F := F) c (zf c 0) 1 fullShare f) ∗ (∃ f, vP (F := F) c (zf c 0) 1 fullShare f) ∗ qB (F := F) c uq vq ∗ aB (F := F) c ua va ∗ lB (F := F) c ul vl ∗ gP (F := F) c (pr c) fg ∗ stB m c 0)
      ⊢ iprop(((aB c (Ac m c 0 4) (Ac m c 1 4) ∗ (((mQ c).view.loc (c : Thread nD τ)) ↦[(mQ c).view.set]{fullShare} m ((c : Thread nD τ).loc main_arg0)) ∗ (((mK c).view.loc (c : Thread nD τ)) ↦[(mK c).view.set]{fullShare} m ((c : Thread nD τ).loc main_arg1)) ∗ (((mV c).view.loc (c : Thread nD τ)) ↦[(mV c).view.set]{fullShare} m ((c : Thread nD τ).loc main_arg2)) ∗ kP c (zb c 0) 0 fullShare (KF m c) ∗ kP c (zb c 1) 0 fullShare (KF m c) ∗ kP c (zb c 2) 0 fullShare (KF m c) ∗ kP c (zb c 3) 0 fullShare (KF m c) ∗ vP c (zb c 0) 0 fullShare (VF m c) ∗ vP c (zb c 1) 0 fullShare (VF m c) ∗ vP c (zb c 2) 0 fullShare (VF m c) ∗ vP c (zb c 3) 0 fullShare (VF m c) ∗ kP c (zf c 0) 1 fullShare (KF m c) ∗ kP c (zf c 1) 1 fullShare (KF m c) ∗ kP c (zf c 2) 1 fullShare (KF m c) ∗ kP c (zf c 3) 1 fullShare (KF m c) ∗ vP c (zf c 0) 1 fullShare (VF m c) ∗ vP c (zf c 1) 1 fullShare (VF m c) ∗ vP c (zf c 2) 1 fullShare (VF m c) ∗ vP c (zf c 3) 1 fullShare (VF m c) ∗ lB c (Lc m c 0 4) (Lc m c 1 4) ∗ Ow (F := F) c 24 ∗ ogB m c ∗ qB c (qrow m c 0) (qrow m c 1) ∗ stB m c 16 ∗ qT m c ∗ kT m c ∗ vT m c ∗ semVal (dcell c (1 : Fin 42)) 0 ∗ semVal (dcell c (10 : Fin 42)) 0 ∗ semVal (dcell c (11 : Fin 42)) 0 ∗ semVal (dcell c (12 : Fin 42)) 0 ∗ semVal (dcell c (13 : Fin 42)) 0 ∗ semVal (dcell c (14 : Fin 42)) 0 ∗ semVal (dcell c (15 : Fin 42)) 0 ∗ semVal (dcell c (16 : Fin 42)) 0 ∗ semVal (dcell c (17 : Fin 42)) 0 ∗ semVal (dcell c (18 : Fin 42)) 0 ∗ semVal (dcell c (19 : Fin 42)) 0 ∗ semVal (dcell c (2 : Fin 42)) 0 ∗ semVal (dcell c (20 : Fin 42)) 0 ∗ semVal (dcell c (21 : Fin 42)) 0 ∗ semVal (dcell c (22 : Fin 42)) 0 ∗ semVal (dcell c (23 : Fin 42)) 0 ∗ semVal (dcell c (24 : Fin 42)) 0 ∗ semVal (dcell c (25 : Fin 42)) 0 ∗ semVal (dcell c (26 : Fin 42)) 0 ∗ semVal (dcell c (27 : Fin 42)) 0 ∗ semVal (dcell c (28 : Fin 42)) 0 ∗ semVal (dcell c (29 : Fin 42)) 0 ∗ semVal (dcell c (3 : Fin 42)) 0 ∗ semVal (dcell c (30 : Fin 42)) 0 ∗ semVal (dcell c (31 : Fin 42)) 0 ∗ semVal (dcell c (32 : Fin 42)) 0 ∗ semVal (dcell c (33 : Fin 42)) 0 ∗ semVal (dcell c (34 : Fin 42)) 0 ∗ semVal (dcell c (35 : Fin 42)) 0 ∗ semVal (dcell c (36 : Fin 42)) 0 ∗ semVal (dcell c (37 : Fin 42)) 0 ∗ semVal (dcell c (38 : Fin 42)) 0 ∗ semVal (dcell c (39 : Fin 42)) 0 ∗ semVal (dcell c (4 : Fin 42)) 0 ∗ semVal (dcell c (40 : Fin 42)) 0 ∗ semVal (dcell c (41 : Fin 42)) 0 ∗ semVal (dcell c (5 : Fin 42)) 0 ∗ semVal (dcell c (6 : Fin 42)) 0 ∗ semVal (dcell c (7 : Fin 42)) 0 ∗ semVal (dcell c (8 : Fin 42)) 0 ∗ semVal (dcell c (9 : Fin 42)) 0 ∗ semVal (bcell c) 0) -∗ Φ ⟨⟩) -∗ wp frame (wpE (defs₀ (F := F)) 𝒱₀ (c : Thread nD τ) none) Set.univ (cc0_body (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15) Φ) := by
  rw [cc0_body_eq_skeleton]
  unfold cc0_body_skel
  simp only [Prog.lift]
  iintro ⟨#HR, O, A0, X0, A1, X1, A2, X2, P1, P2, P3, P4, P5, P6, P7, P8, P9, P10, P11, P12, P13, P14, P15, P16, P17, P18, P19, P20, P21, P22, P23, P24, P25, P26, P27, P28, P29, P30, P31, P32, P33, P34, P35, P36, P37, P38, P39, P40, P41, T1, T2, T3, T4, T5, T6, T7, T8, T9, T10, T11, T12, T25, T27, T28, T29, T30, T31, T32, T39, T40, T41, R13, C13, R14, C14, R15, C15, R16, C16, R17, C17, R18, C18, R19, C19, R20, C20, R21, C21, R22, C22, R23, C23, R24, C24, R26, C26, R33, C33, R34, C34, R35, C35, R36, C36, R37, C37, R38, C38, B0, H0, B1, H1, B2, H2, B3, H3, B4, H4, CB, PB, K00, K10, K20, K30, Q, A, L, G, ST⟩ Hk
  rw [wp_bind]
  rw [k0_part46_eq_skeleton]
  unfold k0_part46_skel
  simp only [Prog.lift]
  rw [wp_bind]
  iapply (part1_wp m K c) $$ []
  · iexact HR
  iintro %w1_0 %w1_1 %w1_2 %w1_3 %w1_4 %w1_5 %w1_6
  try dsimp only
  rw [wp_bind]
  iapply (part2_wp m K c _ _ _ _) $$ [A0 X0 T39 A1 X1 T40]
  · isplitr; · iexact HR
    isplitl [A0]; · iexact A0
    isplitl [X0]; · iexact X0
    isplitl [T39]; · iexact T39
    isplitl [A1]; · iexact A1
    isplitl [X1]; · iexact X1
    iexact T40
  iintro %w2_0 %w2_1 %w2_2 %w2_3 ⟨C39, C40⟩
  try dsimp only
  rw [wp_bind]
  iapply (part3_wp m K c _ _ _ _ _ _ _ _) $$ [A2 X2 T41 O B0 H0 B1 H1 B2 H2 B3 H3]
  · isplitr; · iexact HR
    isplitl [A2]; · iexact A2
    isplitl [X2]; · iexact X2
    isplitl [T41]; · iexact T41
    isplitl [O]; · iexact O
    isplitl [B0]; · iexact B0
    isplitl [H0]; · iexact H0
    isplitl [B1]; · iexact B1
    isplitl [H1]; · iexact H1
    isplitl [B2]; · iexact B2
    isplitl [H2]; · iexact H2
    isplitl [B3]; · iexact B3
    iexact H3
  iintro %w3_0 ⟨C41, O⟩
  try dsimp only
  rw [wp_bind]
  iapply (part4_wp m K c _ _ _ _ _) $$ [O B4 H4 CB PB C39 P39 C40 P40 C41 P41 Q K00]
  · isplitr; · iexact HR
    isplitl [O]; · iexact O
    isplitl [B4]; · iexact B4
    isplitl [H4]; · iexact H4
    isplitl [CB]; · iexact CB
    isplitl [PB]; · iexact PB
    isplitl [C39]; · iexact C39
    isplitl [P39]; · iexact P39
    isplitl [C40]; · iexact C40
    isplitl [P40]; · iexact P40
    isplitl [C41]; · iexact C41
    isplitl [P41]; · iexact P41
    isplitl [Q]; · iexact Q
    iexact K00
  iintro ⟨O, ZB, D00, D01, D02, D10, D11, D12, D20, D21, D22, D30, D31, D32, DX, E00, E01, E02, E10, E11, E12, Z39, X0, A0, Z40, X1, A1, Z41, X2, A2, Q, K00⟩
  try dsimp only
  rw [wp_bind]
  iapply (part5_wp m K c _ _) $$ [X2 K10 X0 Q X1 K20 K30]
  · isplitr; · iexact HR
    isplitl [X2]; · iexact X2
    isplitl [K10]; · iexact K10
    isplitl [X0]; · iexact X0
    isplitl [Q]; · iexact Q
    isplitl [X1]; · iexact X1
    isplitl [K20]; · iexact K20
    iexact K30
  iintro ⟨X2, K10, X0, Q, X1, K20, K30⟩
  try dsimp only
  rw [wp_bind]
  iapply (part6_wp m K c _ _ _ _ _ _ _) $$ [A L]
  · isplitr; · iexact HR
    isplitl [A]; · iexact A
    iexact L
  iintro %w6_0 ⟨A, L⟩
  try dsimp only
  rw [wp_bind]
  iapply (part7_wp m K c _ _ _ _ _) $$ [O T1 R13 K00 D00 T4 R16 K10 D10]
  · isplitr; · iexact HR
    isplitl [O]; · iexact O
    isplitl [T1]; · iexact T1
    isplitl [R13]; · iexact R13
    isplitl [K00]; · iexact K00
    isplitl [D00]; · iexact D00
    isplitl [T4]; · iexact T4
    isplitl [R16]; · iexact R16
    isplitl [K10]; · iexact K10
    iexact D10
  iintro %w7_0 %w7_1 ⟨O, KR00, C1, KR10, C4⟩
  try dsimp only
  rw [wp_bind]
  iapply (part8_wp m K c _ _ _ _ _ _) $$ [O T7 R19 K20 D20 T10 R22 K30 D30]
  · isplitr; · iexact HR
    isplitl [O]; · iexact O
    isplitl [T7]; · iexact T7
    isplitl [R19]; · iexact R19
    isplitl [K20]; · iexact K20
    isplitl [D20]; · iexact D20
    isplitl [T10]; · iexact T10
    isplitl [R22]; · iexact R22
    isplitl [K30]; · iexact K30
    iexact D30
  iintro %w8_0 %w8_1 %w8_2 %w8_3 ⟨O, KR20, C7, KR30, C10⟩
  try dsimp only
  rw [wp_bind]
  iapply (part9_wp m K c _ _ _ _ _) $$ [Q KR00 L A]
  · isplitr; · iexact HR
    isplitl [Q]; · iexact Q
    isplitl [KR00]; · iexact KR00
    isplitl [L]; · iexact L
    iexact A
  iintro %w9_0 %w9_1 ⟨Q, KR00, L, A⟩
  try dsimp only
  rw [wp_bind]
  iapply (part10_wp m K c _ _) $$ [KR10 A Q KR20 L]
  · isplitr; · iexact HR
    isplitl [KR10]; · iexact KR10
    isplitl [A]; · iexact A
    isplitl [Q]; · iexact Q
    isplitl [KR20]; · iexact KR20
    iexact L
  iintro ⟨KR10, A, Q, KR20, L⟩
  try dsimp only
  rw [wp_bind]
  iapply (part11_wp m K c _ _ _) $$ [KR30 A O C1 P1 KR00 C13 P13]
  · isplitr; · iexact HR
    isplitl [KR30]; · iexact KR30
    isplitl [A]; · iexact A
    isplitl [O]; · iexact O
    isplitl [C1]; · iexact C1
    isplitl [P1]; · iexact P1
    isplitl [KR00]; · iexact KR00
    isplitl [C13]; · iexact C13
    iexact P13
  iintro ⟨KR30, A, O, Z1, K00, Z13, K01⟩
  try dsimp only
  rw [wp_bind]
  iapply (part12_wp m K c _ _ _) $$ [O C4 P4 KR10 C16 P16]
  · isplitr; · iexact HR
    isplitl [O]; · iexact O
    isplitl [C4]; · iexact C4
    isplitl [P4]; · iexact P4
    isplitl [KR10]; · iexact KR10
    isplitl [C16]; · iexact C16
    iexact P16
  iintro ⟨O, Z4, K10, Z16, K11⟩
  try dsimp only
  rw [wp_bind]
  iapply (part13_wp m K c _ _ _) $$ [O C7 P7 KR20 C19 P19 C10 P10 KR30]
  · isplitr; · iexact HR
    isplitl [O]; · iexact O
    isplitl [C7]; · iexact C7
    isplitl [P7]; · iexact P7
    isplitl [KR20]; · iexact KR20
    isplitl [C19]; · iexact C19
    isplitl [P19]; · iexact P19
    isplitl [C10]; · iexact C10
    isplitl [P10]; · iexact P10
    iexact KR30
  iintro %w13_0 ⟨O, Z7, K20, Z19, K21, Z10, K30⟩
  try dsimp only
  rw [wp_bind]
  iapply (part14_wp m K c _ _ _ _ _) $$ [O C22 P22]
  · isplitr; · iexact HR
    isplitl [O]; · iexact O
    isplitl [C22]; · iexact C22
    iexact P22
  iintro %w14_0 ⟨O, Z22, K31⟩
  try dsimp only
  rw [wp_bind]
  iapply (part15_wp m K c _ _ _ _ _) $$ [O T2 R14 K01 D01 T5 R17 K11 D11]
  · isplitr; · iexact HR
    isplitl [O]; · iexact O
    isplitl [T2]; · iexact T2
    isplitl [R14]; · iexact R14
    isplitl [K01]; · iexact K01
    isplitl [D01]; · iexact D01
    isplitl [T5]; · iexact T5
    isplitl [R17]; · iexact R17
    isplitl [K11]; · iexact K11
    iexact D11
  iintro %w15_0 ⟨O, KR01, C2, KR11, C5⟩
  try dsimp only
  rw [wp_bind]
  iapply (part16_wp m K c _ _ _ _ _) $$ [O T8 R20 K21 D21 T11 R23 K31 D31]
  · isplitr; · iexact HR
    isplitl [O]; · iexact O
    isplitl [T8]; · iexact T8
    isplitl [R20]; · iexact R20
    isplitl [K21]; · iexact K21
    isplitl [D21]; · iexact D21
    isplitl [T11]; · iexact T11
    isplitl [R23]; · iexact R23
    isplitl [K31]; · iexact K31
    iexact D31
  iintro %w16_0 %w16_1 %w16_2 %w16_3 ⟨O, KR21, C8, KR31, C11⟩
  try dsimp only
  rw [wp_bind]
  iapply (part17_wp m K c _ _ _ _ _ _) $$ [Q KR01 L]
  · isplitr; · iexact HR
    isplitl [Q]; · iexact Q
    isplitl [KR01]; · iexact KR01
    iexact L
  iintro %w17_0 %w17_1 ⟨Q, KR01, L⟩
  try dsimp only
  rw [wp_bind]
  iapply (part18_wp m K c _ _) $$ [A KR11 Q KR21 L]
  · isplitr; · iexact HR
    isplitl [A]; · iexact A
    isplitl [KR11]; · iexact KR11
    isplitl [Q]; · iexact Q
    isplitl [KR21]; · iexact KR21
    iexact L
  iintro ⟨A, KR11, Q, KR21, L⟩
  try dsimp only
  rw [wp_bind]
  iapply (part19_wp m K c _ _ _ _) $$ [KR31 A O C2 P2 KR01]
  · isplitr; · iexact HR
    isplitl [KR31]; · iexact KR31
    isplitl [A]; · iexact A
    isplitl [O]; · iexact O
    isplitl [C2]; · iexact C2
    isplitl [P2]; · iexact P2
    iexact KR01
  iintro ⟨KR31, A, O, Z2, K01⟩
  try dsimp only
  rw [wp_bind]
  iapply (part20_wp m K c _ _ _) $$ [O C14 P14 C5 P5 KR11 C17 P17]
  · isplitr; · iexact HR
    isplitl [O]; · iexact O
    isplitl [C14]; · iexact C14
    isplitl [P14]; · iexact P14
    isplitl [C5]; · iexact C5
    isplitl [P5]; · iexact P5
    isplitl [KR11]; · iexact KR11
    isplitl [C17]; · iexact C17
    iexact P17
  iintro ⟨O, Z14, K02, Z5, K11, Z17, K12⟩
  try dsimp only
  rw [wp_bind]
  iapply (part21_wp m K c _ _ _) $$ [O C8 P8 KR21 C20 P20 C11 P11 KR31]
  · isplitr; · iexact HR
    isplitl [O]; · iexact O
    isplitl [C8]; · iexact C8
    isplitl [P8]; · iexact P8
    isplitl [KR21]; · iexact KR21
    isplitl [C20]; · iexact C20
    isplitl [P20]; · iexact P20
    isplitl [C11]; · iexact C11
    isplitl [P11]; · iexact P11
    iexact KR31
  iintro %w21_0 %w21_1 ⟨O, Z8, K21, Z20, K22, Z11, K31⟩
  try dsimp only
  rw [wp_bind]
  iapply (part22_wp m K c _ _ _ _ _) $$ [O C23 P23]
  · isplitr; · iexact HR
    isplitl [O]; · iexact O
    isplitl [C23]; · iexact C23
    iexact P23
  iintro %w22_0 ⟨O, Z23, K32⟩
  try dsimp only
  rw [wp_bind]
  iapply (part23_wp m K c _ _ _ _ _) $$ [O T3 R15 K02 D02 T6 R18 K12 D12]
  · isplitr; · iexact HR
    isplitl [O]; · iexact O
    isplitl [T3]; · iexact T3
    isplitl [R15]; · iexact R15
    isplitl [K02]; · iexact K02
    isplitl [D02]; · iexact D02
    isplitl [T6]; · iexact T6
    isplitl [R18]; · iexact R18
    isplitl [K12]; · iexact K12
    iexact D12
  iintro %w23_0 ⟨O, KR02, C3, KR12, C6⟩
  try dsimp only
  rw [wp_bind]
  iapply (part24_wp m K c _ _ _ _ _ _) $$ [O T9 R21 K22 D22 T12 R24 K32 D32]
  · isplitr; · iexact HR
    isplitl [O]; · iexact O
    isplitl [T9]; · iexact T9
    isplitl [R21]; · iexact R21
    isplitl [K22]; · iexact K22
    isplitl [D22]; · iexact D22
    isplitl [T12]; · iexact T12
    isplitl [R24]; · iexact R24
    isplitl [K32]; · iexact K32
    iexact D32
  iintro %w24_0 %w24_1 %w24_2 ⟨O, KR22, C9, KR32, C12⟩
  try dsimp only
  rw [wp_bind]
  iapply (part25_wp m K c _ _ _ _ _) $$ [Q KR02 L]
  · isplitr; · iexact HR
    isplitl [Q]; · iexact Q
    isplitl [KR02]; · iexact KR02
    iexact L
  iintro %w25_0 %w25_1 ⟨Q, KR02, L⟩
  try dsimp only
  rw [wp_bind]
  iapply (part26_wp m K c _ _) $$ [A KR12 Q KR22 L]
  · isplitr; · iexact HR
    isplitl [A]; · iexact A
    isplitl [KR12]; · iexact KR12
    isplitl [Q]; · iexact Q
    isplitl [KR22]; · iexact KR22
    iexact L
  iintro ⟨A, KR12, Q, KR22, L⟩
  try dsimp only
  rw [wp_bind]
  iapply (part27_wp m K c _ _ _ _) $$ [A KR32 O C3 P3 KR02]
  · isplitr; · iexact HR
    isplitl [A]; · iexact A
    isplitl [KR32]; · iexact KR32
    isplitl [O]; · iexact O
    isplitl [C3]; · iexact C3
    isplitl [P3]; · iexact P3
    iexact KR02
  iintro ⟨A, KR32, O, Z3, K02⟩
  try dsimp only
  rw [wp_bind]
  iapply (part28_wp m K c _ _ _) $$ [O C15 P15 C6 P6 KR12 C18 P18]
  · isplitr; · iexact HR
    isplitl [O]; · iexact O
    isplitl [C15]; · iexact C15
    isplitl [P15]; · iexact P15
    isplitl [C6]; · iexact C6
    isplitl [P6]; · iexact P6
    isplitl [KR12]; · iexact KR12
    isplitl [C18]; · iexact C18
    iexact P18
  iintro ⟨O, Z15, K03, Z6, K12, Z18, K13⟩
  try dsimp only
  rw [wp_bind]
  iapply (part29_wp m K c _ _ _) $$ [O C9 P9 KR22 C21 P21 C12 P12 KR32]
  · isplitr; · iexact HR
    isplitl [O]; · iexact O
    isplitl [C9]; · iexact C9
    isplitl [P9]; · iexact P9
    isplitl [KR22]; · iexact KR22
    isplitl [C21]; · iexact C21
    isplitl [P21]; · iexact P21
    isplitl [C12]; · iexact C12
    isplitl [P12]; · iexact P12
    iexact KR32
  iintro %w29_0 ⟨O, Z9, K22, Z21, K23, Z12, K32⟩
  try dsimp only
  rw [wp_bind]
  iapply (part30_wp m K c _ _ _ _) $$ [O C24 P24 Q]
  · isplitr; · iexact HR
    isplitl [O]; · iexact O
    isplitl [C24]; · iexact C24
    isplitl [P24]; · iexact P24
    iexact Q
  iintro %w30_0 %w30_1 ⟨O, Z24, K33, Q⟩
  try dsimp only
  rw [wp_bind]
  iapply (part31_wp m K c _ _) $$ [K03 L A K13 Q]
  · isplitr; · iexact HR
    isplitl [K03]; · iexact K03
    isplitl [L]; · iexact L
    isplitl [A]; · iexact A
    isplitl [K13]; · iexact K13
    iexact Q
  iintro ⟨K03, L, A, K13, Q⟩
  try dsimp only
  rw [wp_bind]
  iapply (part32_wp m K c _) $$ [K23 L A K33]
  · isplitr; · iexact HR
    isplitl [K23]; · iexact K23
    isplitl [L]; · iexact L
    isplitl [A]; · iexact A
    iexact K33
  iintro ⟨K23, L, A, K33⟩
  try dsimp only
  rw [wp_bind]
  iapply (part33_wp m K c _ _ _ _ _) $$ [G A L O T25 R26 DX P25]
  · isplitr; · iexact HR
    isplitl [G]; · iexact G
    isplitl [A]; · iexact A
    isplitl [L]; · iexact L
    isplitl [O]; · iexact O
    isplitl [T25]; · iexact T25
    isplitl [R26]; · iexact R26
    isplitl [DX]; · iexact DX
    iexact P25
  iintro %w33_0 ⟨A, L, O, Z25, G⟩
  try dsimp only
  rw [wp_bind]
  iapply (part34_wp m K c _ _ _) $$ [O C26 P26]
  · isplitr; · iexact HR
    isplitl [O]; · iexact O
    isplitl [C26]; · iexact C26
    iexact P26
  iintro %w34_0 ⟨O, Z26, GX⟩
  try dsimp only
  ihave YY := (y_start c (OG m c)) $$ [G GX]
  · isplitl [G]; · iexact G
    iexact GX
  icases YY with ⟨Y00, Y10⟩
  rw [wp_bind]
  iapply (part35_wp m K c _ _ _ _ _) $$ [O T27 R33 Y00 E00 T30 R36 Y10 E10]
  · isplitr; · iexact HR
    isplitl [O]; · iexact O
    isplitl [T27]; · iexact T27
    isplitl [R33]; · iexact R33
    isplitl [Y00]; · iexact Y00
    isplitl [E00]; · iexact E00
    isplitl [T30]; · iexact T30
    isplitl [R36]; · iexact R36
    isplitl [Y10]; · iexact Y10
    iexact E10
  iintro ⟨O, C27, C30⟩
  try dsimp only
  rw [wp_bind]
  iapply (part36_wp m K c _ _ _ _) $$ [O C27 P27 C33 P33 C30 P30]
  · isplitr; · iexact HR
    isplitl [O]; · iexact O
    isplitl [C27]; · iexact C27
    isplitl [P27]; · iexact P27
    isplitl [C33]; · iexact C33
    isplitl [P33]; · iexact P33
    isplitl [C30]; · iexact C30
    iexact P30
  iintro ⟨O, Z27, Y00, Z33, Y01, Z30, Y10⟩
  try dsimp only
  rw [wp_bind]
  iapply (part37_wp m K c _ _) $$ [O C36 P36]
  · isplitr; · iexact HR
    isplitl [O]; · iexact O
    isplitl [C36]; · iexact C36
    iexact P36
  iintro %w37_0 %w37_1 ⟨O, Z36, Y11⟩
  try dsimp only
  rw [wp_bind]
  iapply (part38_wp m K c _ _ _ _ _ _ _) $$ [O T28 R34 Y01 E01 T31 R37 Y11 E11]
  · isplitr; · iexact HR
    isplitl [O]; · iexact O
    isplitl [T28]; · iexact T28
    isplitl [R34]; · iexact R34
    isplitl [Y01]; · iexact Y01
    isplitl [E01]; · iexact E01
    isplitl [T31]; · iexact T31
    isplitl [R37]; · iexact R37
    isplitl [Y11]; · iexact Y11
    iexact E11
  iintro ⟨O, C28, C31⟩
  try dsimp only
  rw [wp_bind]
  iapply (part39_wp m K c _ _ _ _) $$ [O C28 P28 C34 P34 C31 P31]
  · isplitr; · iexact HR
    isplitl [O]; · iexact O
    isplitl [C28]; · iexact C28
    isplitl [P28]; · iexact P28
    isplitl [C34]; · iexact C34
    isplitl [P34]; · iexact P34
    isplitl [C31]; · iexact C31
    iexact P31
  iintro ⟨O, Z28, Y01, Z34, Y02, Z31, Y11⟩
  try dsimp only
  rw [wp_bind]
  iapply (part40_wp m K c _ _ _) $$ [O C37 P37]
  · isplitr; · iexact HR
    isplitl [O]; · iexact O
    isplitl [C37]; · iexact C37
    iexact P37
  iintro %w40_0 %w40_1 ⟨O, Z37, Y12⟩
  try dsimp only
  rw [wp_bind]
  iapply (part41_wp m K c _ _ _ _ _) $$ [O T29 R35 Y02 E02 T32 R38 Y12 E12]
  · isplitr; · iexact HR
    isplitl [O]; · iexact O
    isplitl [T29]; · iexact T29
    isplitl [R35]; · iexact R35
    isplitl [Y02]; · iexact Y02
    isplitl [E02]; · iexact E02
    isplitl [T32]; · iexact T32
    isplitl [R38]; · iexact R38
    isplitl [Y12]; · iexact Y12
    iexact E12
  iintro ⟨O, C29, C32⟩
  try dsimp only
  rw [wp_bind]
  iapply (part42_wp m K c _ _ _ _) $$ [O C29 P29 C35 P35 C32 P32]
  · isplitr; · iexact HR
    isplitl [O]; · iexact O
    isplitl [C29]; · iexact C29
    isplitl [P29]; · iexact P29
    isplitl [C35]; · iexact C35
    isplitl [P35]; · iexact P35
    isplitl [C32]; · iexact C32
    iexact P32
  iintro ⟨O, Z29, Y02, Z35, Y03, Z32, Y12⟩
  try dsimp only
  rw [wp_bind]
  iapply (part43_wp m K c) $$ [O C38 P38 Y00 Y01 Y02 Y03 Y10 Y11 Y12 ST]
  · isplitr; · iexact HR
    isplitl [O]; · iexact O
    isplitl [C38]; · iexact C38
    isplitl [P38]; · iexact P38
    isplitl [Y00]; · iexact Y00
    isplitl [Y01]; · iexact Y01
    isplitl [Y02]; · iexact Y02
    isplitl [Y03]; · iexact Y03
    isplitl [Y10]; · iexact Y10
    isplitl [Y11]; · iexact Y11
    isplitl [Y12]; · iexact Y12
    iexact ST
  iintro ⟨O, Z38, OGB, ST⟩
  try dsimp only
  rw [wp_bind]
  iapply (part44_wp m K c) $$ [ST OGB]
  · isplitr; · iexact HR
    isplitl [ST]; · iexact ST
    iexact OGB
  iintro ⟨ST, OGB⟩
  try dsimp only
  rw [wp_bind]
  iapply (part45_wp m K c) $$ [OGB ST]
  · isplitr; · iexact HR
    isplitl [OGB]; · iexact OGB
    iexact ST
  iintro %w45_0 ⟨OGB, ST⟩
  try dsimp only
  simp only [Prog.bind_op, Prog.bind_ret, Prog.pure_eq_ret]
  iapply (st_st m c 13 rfl) $$ [ST]
  · iexact ST
  iintro ST
  iapply (ld_og m c 14) $$ [OGB]
  · iexact OGB
  iintro OGB
  iapply (ld_st m c 14 14) $$ [ST]
  · iexact ST
  iintro %x14 ST
  rw [wp_ret]
  imodintro
  iapply (st_st m c 14 rfl) $$ [ST]
  · iexact ST
  iintro ST
  iapply (ld_og m c 15) $$ [OGB]
  · iexact OGB
  iintro OGB
  iapply (ld_st m c 15 15) $$ [ST]
  · iexact ST
  iintro %x15 ST
  iapply (st_st m c 15 rfl) $$ [ST]
  · iexact ST
  iintro ST
  rw [wp_ret]
  imodintro
  iapply Hk
  isplitl [A]; · iexact A
  isplitl [A0]; · iexact A0
  isplitl [A1]; · iexact A1
  isplitl [A2]; · iexact A2
  isplitl [K00]; · iexact K00
  isplitl [K01]; · iexact K01
  isplitl [K02]; · iexact K02
  isplitl [K03]; · iexact K03
  isplitl [K10]; · iexact K10
  isplitl [K11]; · iexact K11
  isplitl [K12]; · iexact K12
  isplitl [K13]; · iexact K13
  isplitl [K20]; · iexact K20
  isplitl [K21]; · iexact K21
  isplitl [K22]; · iexact K22
  isplitl [K23]; · iexact K23
  isplitl [K30]; · iexact K30
  isplitl [K31]; · iexact K31
  isplitl [K32]; · iexact K32
  isplitl [K33]; · iexact K33
  isplitl [L]; · iexact L
  isplitl [O]; · iexact O
  isplitl [OGB]; · iexact OGB
  isplitl [Q]; · iexact Q
  isplitl [ST]; · iexact ST
  isplitl [X0]; · iexact X0
  isplitl [X1]; · iexact X1
  isplitl [X2]; · iexact X2
  isplitl [Z1]; · iexact Z1
  isplitl [Z10]; · iexact Z10
  isplitl [Z11]; · iexact Z11
  isplitl [Z12]; · iexact Z12
  isplitl [Z13]; · iexact Z13
  isplitl [Z14]; · iexact Z14
  isplitl [Z15]; · iexact Z15
  isplitl [Z16]; · iexact Z16
  isplitl [Z17]; · iexact Z17
  isplitl [Z18]; · iexact Z18
  isplitl [Z19]; · iexact Z19
  isplitl [Z2]; · iexact Z2
  isplitl [Z20]; · iexact Z20
  isplitl [Z21]; · iexact Z21
  isplitl [Z22]; · iexact Z22
  isplitl [Z23]; · iexact Z23
  isplitl [Z24]; · iexact Z24
  isplitl [Z25]; · iexact Z25
  isplitl [Z26]; · iexact Z26
  isplitl [Z27]; · iexact Z27
  isplitl [Z28]; · iexact Z28
  isplitl [Z29]; · iexact Z29
  isplitl [Z3]; · iexact Z3
  isplitl [Z30]; · iexact Z30
  isplitl [Z31]; · iexact Z31
  isplitl [Z32]; · iexact Z32
  isplitl [Z33]; · iexact Z33
  isplitl [Z34]; · iexact Z34
  isplitl [Z35]; · iexact Z35
  isplitl [Z36]; · iexact Z36
  isplitl [Z37]; · iexact Z37
  isplitl [Z38]; · iexact Z38
  isplitl [Z39]; · iexact Z39
  isplitl [Z4]; · iexact Z4
  isplitl [Z40]; · iexact Z40
  isplitl [Z41]; · iexact Z41
  isplitl [Z5]; · iexact Z5
  isplitl [Z6]; · iexact Z6
  isplitl [Z7]; · iexact Z7
  isplitl [Z8]; · iexact Z8
  isplitl [Z9]; · iexact Z9
  iexact ZB

end Cert.KernelIdealProof

end
-- ==== Proof.KernelIdealLaunch.lean ====
/-
# The launch: from the machine at the start to the result arrays
-/
module

public import proofs.«01_k».proof.Proof.KernelIdealGhost
public import proofs.«01_k».proof.Proof.KernelIdealRun
public import proofs.«01_k».proof.Proof.Gen.KernelIdeal.Points
public import Idealize.ShloMosaic.Adequacy
public import Idealize.ShloMosaic.Init
public import Idealize.ShloMosaic.Lib.Pipeline.CollectiveSegs

@[expose] public section

noncomputable section

namespace Cert.KernelIdealProof

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## What a device holds before and after its run -/

/-- The three argument arrays. -/
def args (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2)))
/-- One buffer at some contents. -/
def someBuf (c : Dev nD) (b : Ref sig .tc) : sProp 𝕄 := iprop(∃ f : Buf (Elt F) ((c : Thread nD τ).loc b), ((c : Thread nD τ).loc b) ↦{fullShare} f)
/-- The nine buffers the kernel works in. -/
def bufs (c : Dev nD) : sProp 𝕄 :=
  iprop(someBuf (F := F) c cc0_scratch0 ∗ someBuf (F := F) c cc0_scratch1 ∗ someBuf (F := F) c cc0_scratch2 ∗ someBuf (F := F) c cc0_scratch3 ∗ someBuf (F := F) c cc0_scratch4
    ∗ someBuf (F := F) c cc0_scratch5 ∗ someBuf (F := F) c cc0_scratch6 ∗ someBuf (F := F) c cc0_scratch7 ∗ someBuf (F := F) c cc0_scratch8)
theorem bufs_eq (c : Dev nD) : (Pipeline.scopedRest (Ix := Unit) (Name := ℕ) (U := UU) (Lvl := ℕ) (Val := Elt F) spec0 c : sProp 𝕄) = bufs c := scopedRest0_eq c

def start (c : Dev nD) : sProp 𝕄 := iprop((∃ K, records m K) ∗ poss c ∗ payToks c ∗ creds c ∗ args m c)
def Φ₀ (c : Dev nD) : sProp 𝕄 := iprop(start m c ∗ bufs c)
def Φ₁ (c : Dev nD) : sProp 𝕄 := iprop(args m c ∗ bufs c ∗ zeros c)

def dats (_ : Fin 1) (c : Dev nD) : Dat τ (Elt F) Unit ℕ UU ℕ cfg0 c where
  A w := m ((cfg0.win w).arr.view.loc (c : Thread nD τ))
  after w _ := match w with
    | ⟨0, _⟩ => OUT m c
  Φ t := match t with
    | ⟨0, _⟩ => Φ₀ m c
    | ⟨_ + 1, _⟩ => Φ₁ m c
  q _ := fullShare
  owed t := match t with
    | ⟨0, _⟩ => Os c 0
    | ⟨_ + 1, _⟩ => 0

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## What the neighbours' barriers are handed -/

theorem barPay0 (c : Dev nD) : barPay (F := F) (zl c) 0 = iprop(anyZ (F := F) c (zb c 1) 0 ∗ anyZ (F := F) c (zb c 2) 0 ∗ anyZ (F := F) c (zb c 3) 0) := by
  have h0 := zb_zr (zl c) 0 (by decide)
  have h1 := zb_zr (zl c) 1 (by decide)
  have h2 := zb_zr (zl c) 2 (by decide)
  rw [zr_zl] at h0 h1 h2
  show iprop(anyZ (F := F) (zr (zl c)) (zb (zl c) 0) 0 ∗ anyZ (F := F) (zr (zl c)) (zb (zl c) 1) 0 ∗ anyZ (F := F) (zr (zl c)) (zb (zl c) 2) 0) = _
  rw [zr_zl, ← h0, ← h1, ← h2]
theorem barPay1 (c : Dev nD) : barPay (F := F) (zr c) 1 = iprop(anyZ (F := F) c (zf c 1) 1 ∗ anyZ (F := F) c (zf c 2) 1 ∗ anyZ (F := F) c (zf c 3) 1) := by
  have h0 := zf_zl (zr c) 0
  have h1 := zf_zl (zr c) 1
  have h2 := zf_zl (zr c) 2
  rw [zl_zr] at h0 h1 h2
  show iprop(anyZ (F := F) (zl (zr c)) (zf (zr c) 0) 1 ∗ anyZ (F := F) (zl (zr c)) (zf (zr c) 1) 1 ∗ anyZ (F := F) (zl (zr c)) (zf (zr c) 2) 1) = _
  rw [zl_zr, ← h0, ← h1, ← h2]
theorem barPay2 (c : Dev nD) : barPay (F := F) (xp c) 2 = anyG (F := F) c (prx c) := by
  show anyG (F := F) (xp (xp c)) (pr (xp c)) = _
  rw [xp_xp, pr_xp]
theorem barPay3 (c : Dev nD) : barPay (F := F) (yd c) 3 = iprop(anyG (F := F) c (yb c 1) ∗ anyG (F := F) c (yb c 2) ∗ anyG (F := F) c (yb c 3)) := by
  have h0 := yb_yu (yd c) 0 (by decide)
  have h1 := yb_yu (yd c) 1 (by decide)
  have h2 := yb_yu (yd c) 2 (by decide)
  rw [yu_yd] at h0 h1 h2
  show iprop(anyG (F := F) (yu (yd c)) (yb (yd c) 0) ∗ anyG (F := F) (yu (yd c)) (yb (yd c) 1) ∗ anyG (F := F) (yu (yd c)) (yb (yd c) 2)) = _
  rw [yu_yd, ← h0, ← h1, ← h2]
theorem barPay4 (c : Dev nD) : barPay (F := F) (yu c) 4 = iprop(anyG (F := F) c (yf c 1) ∗ anyG (F := F) c (yf c 2) ∗ anyG (F := F) c (yf c 3)) := by
  have h0 := yf_yd (yu c) 0
  have h1 := yf_yd (yu c) 1
  have h2 := yf_yd (yu c) 2
  rw [yd_yu] at h0 h1 h2
  show iprop(anyG (F := F) (yd (yu c)) (yf (yu c) 0) ∗ anyG (F := F) (yd (yu c)) (yf (yu c) 1) ∗ anyG (F := F) (yd (yu c)) (yf (yu c) 2)) = _
  rw [yd_yu, ← h0, ← h1, ← h2]

theorem anyZ_intro (d : Dev nD) (o i : ℕ) (f g : Vec F S4x2x1024x128 .bf16) : iprop(kP d o i fullShare f ∗ vP d o i fullShare g) ⊢ anyZ (F := F) d o i := by
  unfold anyZ
  iintro ⟨H1, H2⟩
  isplitl [H1]
  · iexists f; iexact H1
  · iexists g; iexact H2
theorem anyG_intro (d : Dev nD) (p : ℕ) (f : Vec F S16x1024x128 .bf16) : gP d p f ⊢ anyG (F := F) d p := by
  unfold anyG
  iintro H
  iexists f; iexact H

/-- The gathered keys and values cut: one's own blocks kept, the places for others' blocks handed to the two neighbours along `z`. -/
theorem z_split (c : Dev nD) (f g : Vec F S4x2x1024x128 .bf16) :
    iprop((((c : Thread nD τ).loc cc0_scratch0) ↦{fullShare} f) ∗ (((c : Thread nD τ).loc cc0_scratch1) ↦{fullShare} g))
      ⊢ iprop(barPay (F := F) (zl c) 0 ∗ barPay (F := F) (zr c) 1 ∗ kP c (zb c 0) 0 fullShare f ∗ vP c (zb c 0) 0 fullShare g ∗ kP c (zf c 0) 1 fullShare f ∗ vP c (zf c 0) 1 fullShare g) := by
  rw [k_cut, v_cut, barPay0, barPay1]
  iintro ⟨⟨K0, K1, K2, K3, L0, L1, L2, L3⟩, V0, V1, V2, V3, W0, W1, W2, W3⟩
  isplitl [K1 V1 K2 V2 K3 V3]
  · isplitl [K1 V1]
    · iapply (anyZ_intro c _ _ f g); isplitl [K1] <;> iassumption
    isplitl [K2 V2]
    · iapply (anyZ_intro c _ _ f g); isplitl [K2] <;> iassumption
    iapply (anyZ_intro c _ _ f g); isplitl [K3] <;> iassumption
  isplitl [L1 W1 L2 W2 L3 W3]
  · isplitl [L1 W1]
    · iapply (anyZ_intro c _ _ f g); isplitl [L1] <;> iassumption
    isplitl [L2 W2]
    · iapply (anyZ_intro c _ _ f g); isplitl [L2] <;> iassumption
    iapply (anyZ_intro c _ _ f g); isplitl [L3] <;> iassumption
  isplitl [K0]; · iexact K0
  isplitl [V0]; · iexact V0
  isplitl [L0]; · iexact L0
  iexact W0

/-- The gathered heads cut: one's own pair kept, the rest handed to the neighbours along `x` and `y`. -/
theorem g_split (c : Dev nD) (f : Vec F S16x1024x128 .bf16) :
    (((c : Thread nD τ).loc cc0_scratch5) ↦{fullShare} f)
      ⊢ iprop(barPay (F := F) (xp c) 2 ∗ barPay (F := F) (yd c) 3 ∗ barPay (F := F) (yu c) 4 ∗ gP c (pr c) f) := by
  rw [g_cut, barPay2, barPay3, barPay4]
  iintro ⟨H0, H1, H2, H3, H4, H5, H6, H7⟩
  isplitl [H1]; · iapply (anyG_intro c _ f); iexact H1
  isplitl [H2 H3 H4]
  · isplitl [H2]; · iapply (anyG_intro c _ f); iexact H2
    isplitl [H3]; · iapply (anyG_intro c _ f); iexact H3
    iapply (anyG_intro c _ f); iexact H4
  isplitl [H5 H6 H7]
  · isplitl [H5]; · iapply (anyG_intro c _ f); iexact H5
    isplitl [H6]; · iapply (anyG_intro c _ f); iexact H6
    iapply (anyG_intro c _ f); iexact H7
  iexact H0

/-- The gathered keys and values put together. -/
theorem k_join (c : Dev nD) (f : Vec F S4x2x1024x128 .bf16) :
    iprop(kP c (zb c 0) 0 fullShare f ∗ kP c (zb c 1) 0 fullShare f ∗ kP c (zb c 2) 0 fullShare f ∗ kP c (zb c 3) 0 fullShare f
      ∗ kP c (zf c 0) 1 fullShare f ∗ kP c (zf c 1) 1 fullShare f ∗ kP c (zf c 2) 1 fullShare f ∗ kP c (zf c 3) 1 fullShare f) ⊢ someBuf (F := F) c cc0_scratch0 := by
  rw [← k_cut]
  unfold someBuf
  iintro H
  iexists f; iexact H
theorem v_join (c : Dev nD) (f : Vec F S4x2x1024x128 .bf16) :
    iprop(vP c (zb c 0) 0 fullShare f ∗ vP c (zb c 1) 0 fullShare f ∗ vP c (zb c 2) 0 fullShare f ∗ vP c (zb c 3) 0 fullShare f
      ∗ vP c (zf c 0) 1 fullShare f ∗ vP c (zf c 1) 1 fullShare f ∗ vP c (zf c 2) 1 fullShare f ∗ vP c (zf c 3) 1 fullShare f) ⊢ someBuf (F := F) c cc0_scratch1 := by
  rw [← v_cut]
  unfold someBuf
  iintro H
  iexists f; iexact H
theorem buf_any (c : Dev nD) (b : Ref sig .tc) (f : Buf (Elt F) ((c : Thread nD τ).loc b)) : (((c : Thread nD τ).loc b) ↦{fullShare} f) ⊢ someBuf (F := F) c b := by
  unfold someBuf
  iintro H
  iexists f; iexact H

/-! ## One device's run -/

set_option maxRecDepth 65536 in
set_option maxHeartbeats 0 in
theorem device_wp (c : Dev nD) (W : Waits sig Unit) (f : Vec F S1024x16x128 .f32) {h0 h1 h2 h3 h4 h5 h6 h7 h8 h9 h10 h11 h12} {Φ : PUnit → sProp 𝕄} :
    iprop(Φ₀ m c ∗ owes (c : Thread nD τ) (Os c 0) W ∗ (((c : Thread nD τ).loc cc0_stg0_0) ↦{fullShare} f))
      ⊢ iprop(((Φ₁ m c ∗ (∃ W, owes (c : Thread nD τ) 0 W) ∗ (((c : Thread nD τ).loc cc0_stg0_0) ↦{fullShare} OUT m c)) -∗ Φ ⟨⟩)
        -∗ wp frame (wpE (defs₀ (F := F)) 𝒱₀ (c : Thread nD τ) none) Set.univ (cc0_body (Memref.whole main_arg0) h0 (Memref.whole main_arg1) h1 (Memref.whole main_arg2) h2 (Memref.whole cc0_stg0_0) h3 (Memref.whole cc0_scratch0) h4 (Memref.whole cc0_scratch1) h5 (Memref.whole cc0_scratch2) h6 (Memref.whole cc0_scratch3) h7 (Memref.whole cc0_scratch4) h8 (Memref.whole cc0_scratch5) h9 (Memref.whole cc0_scratch6) h10 (Memref.whole cc0_scratch7) h11 (Memref.whole cc0_scratch8) h12 cc0_scratch9 cc0_scratch10 cc0_scratch11 cc0_scratch12 cc0_scratch13 cc0_scratch14 cc0_scratch15) Φ) := by
  unfold Φ₀ Φ₁ start args bufs creds
  rw [poss_eq, payToks_eq, zeros_eq]
  iintro ⟨⟨⟨⟨%K, #HR⟩, ⟨PB, P1, P2, P3, P4, P5, P6, P7, P8, P9, P10, P11, P12, P13, P14, P15, P16, P17, P18, P19, P20, P21, P22, P23, P24, P25, P26, P27, P28, P29, P30, P31, P32, P33, P34, P35, P36, P37, P38, P39, P40, P41⟩, ⟨B0, B1, B2, B3, B4, T1, T2, T3, T4, T5, T6, T7, T8, T9, T10, T11, T12, R13, R14, R15, R16, R17, R18, R19, R20, R21, R22, R23, R24, T25, R26, T27, T28, T29, T30, T31, T32, R33, R34, R35, R36, R37, R38, T39, T40, T41⟩, ⟨CB, C13, C14, C15, C16, C17, C18, C19, C20, C21, C22, C23, C24, C26, C33, C34, C35, C36, C37, C38⟩, A0, A1, A2⟩, ⟨S0, S1, S2, S3, S4, S5, X0, X1, X2⟩⟩, O, ST⟩ Hk
  ihave S0 := (Entails.of_eq (show someBuf (F := F) c cc0_scratch0 = iprop(∃ f : Vec F S4x2x1024x128 .bf16, ((c : Thread nD τ).loc cc0_scratch0) ↦{fullShare} f) from rfl)) $$ S0
  ihave S1 := (Entails.of_eq (show someBuf (F := F) c cc0_scratch1 = iprop(∃ f : Vec F S4x2x1024x128 .bf16, ((c : Thread nD τ).loc cc0_scratch1) ↦{fullShare} f) from rfl)) $$ S1
  ihave S2 := (Entails.of_eq (show someBuf (F := F) c cc0_scratch2 = iprop(∃ f : Vec F S2x1024x128 .bf16, ((c : Thread nD τ).loc cc0_scratch2) ↦{fullShare} f) from rfl)) $$ S2
  ihave S3 := (Entails.of_eq (show someBuf (F := F) c cc0_scratch3 = iprop(∃ f : Vec F S2x1024x128 .f32, ((c : Thread nD τ).loc cc0_scratch3) ↦{fullShare} f) from rfl)) $$ S3
  ihave S4 := (Entails.of_eq (show someBuf (F := F) c cc0_scratch4 = iprop(∃ f : Vec F S2x1024x128 .f32, ((c : Thread nD τ).loc cc0_scratch4) ↦{fullShare} f) from rfl)) $$ S4
  ihave S5 := (Entails.of_eq (show someBuf (F := F) c cc0_scratch5 = iprop(∃ f : Vec F S16x1024x128 .bf16, ((c : Thread nD τ).loc cc0_scratch5) ↦{fullShare} f) from rfl)) $$ S5
  ihave X0 := (Entails.of_eq (show someBuf (F := F) c cc0_scratch6 = iprop(∃ f, ((c : Thread nD τ).loc cc0_scratch6) ↦{fullShare} f) from rfl)) $$ X0
  ihave X1 := (Entails.of_eq (show someBuf (F := F) c cc0_scratch7 = iprop(∃ f, ((c : Thread nD τ).loc cc0_scratch7) ↦{fullShare} f) from rfl)) $$ X1
  ihave X2 := (Entails.of_eq (show someBuf (F := F) c cc0_scratch8 = iprop(∃ f, ((c : Thread nD τ).loc cc0_scratch8) ↦{fullShare} f) from rfl)) $$ X2
  icases S0 with ⟨%f0, S0⟩
  icases S1 with ⟨%f1, S1⟩
  icases S2 with ⟨%f2, S2⟩
  icases S3 with ⟨%f3, S3⟩
  icases S4 with ⟨%f4, S4⟩
  icases S5 with ⟨%f5, S5⟩
  ihave Q := (Entails.of_eq (show (((c : Thread nD τ).loc cc0_scratch2) ↦{fullShare} f2 : sProp 𝕄) = qB (F := F) c (fun j => f2 (ix3 (0 : Fin 2) (j 1) (j 2))) (fun j => f2 (ix3 (1 : Fin 2) (j 1) (j 2))) from by unfold qB; rw [← pack_eta])) $$ S2
  ihave A := (Entails.of_eq (show (((c : Thread nD τ).loc cc0_scratch3) ↦{fullShare} f3 : sProp 𝕄) = aB (F := F) c (fun j => f3 (ix3 (0 : Fin 2) (j 1) (j 2))) (fun j => f3 (ix3 (1 : Fin 2) (j 1) (j 2))) from by unfold aB; rw [← pack_eta])) $$ S3
  ihave L := (Entails.of_eq (show (((c : Thread nD τ).loc cc0_scratch4) ↦{fullShare} f4 : sProp 𝕄) = lB (F := F) c (fun j => f4 (ix3 (0 : Fin 2) (j 1) (j 2))) (fun j => f4 (ix3 (1 : Fin 2) (j 1) (j 2))) from by unfold lB; rw [← pack_eta])) $$ S4
  ihave HZ := (z_split (F := F) c f0 f1) $$ [S0 S1]
  · isplitl [S0] <;> iassumption
  icases HZ with ⟨H0, H1, K00, K10, K20, K30⟩
  ihave HG := (g_split (F := F) c f5) $$ S5
  icases HG with ⟨H2, H3, H4, G⟩
  ihave A0 := (pointsTo_split_subset (Finset.subset_univ (mQ c).view.set)).1 $$ A0
  icases A0 with ⟨A0, D0⟩
  ihave A1 := (pointsTo_split_subset (Finset.subset_univ (mK c).view.set)).1 $$ A1
  icases A1 with ⟨A1, D1⟩
  ihave A2 := (pointsTo_split_subset (Finset.subset_univ (mV c).view.set)).1 $$ A2
  icases A2 with ⟨A2, D2⟩
  iapply (body_wp m K c _ _ _ _ _ _ f5) $$ [O A0 X0 A1 X1 A2 X2 P1 P2 P3 P4 P5 P6 P7 P8 P9 P10 P11 P12 P13 P14 P15 P16 P17 P18 P19 P20 P21 P22 P23 P24 P25 P26 P27 P28 P29 P30 P31 P32 P33 P34 P35 P36 P37 P38 P39 P40 P41 T1 T2 T3 T4 T5 T6 T7 T8 T9 T10 T11 T12 T25 T27 T28 T29 T30 T31 T32 T39 T40 T41 R13 C13 R14 C14 R15 C15 R16 C16 R17 C17 R18 C18 R19 C19 R20 C20 R21 C21 R22 C22 R23 C23 R24 C24 R26 C26 R33 C33 R34 C34 R35 C35 R36 C36 R37 C37 R38 C38 B0 H0 B1 H1 B2 H2 B3 H3 B4 H4 CB PB K00 K10 K20 K30 Q A L G ST]
  · isplitr; · iexact HR
    isplitl [O]
    · unfold Ow; iexists W; iexact O
    isplitl [A0]; · iexact A0
    isplitl [X0]; · iexact X0
    isplitl [A1]; · iexact A1
    isplitl [X1]; · iexact X1
    isplitl [A2]; · iexact A2
    isplitl [X2]; · iexact X2
    isplitl [P1]; · iexact P1
    isplitl [P2]; · iexact P2
    isplitl [P3]; · iexact P3
    isplitl [P4]; · iexact P4
    isplitl [P5]; · iexact P5
    isplitl [P6]; · iexact P6
    isplitl [P7]; · iexact P7
    isplitl [P8]; · iexact P8
    isplitl [P9]; · iexact P9
    isplitl [P10]; · iexact P10
    isplitl [P11]; · iexact P11
    isplitl [P12]; · iexact P12
    isplitl [P13]; · iexact P13
    isplitl [P14]; · iexact P14
    isplitl [P15]; · iexact P15
    isplitl [P16]; · iexact P16
    isplitl [P17]; · iexact P17
    isplitl [P18]; · iexact P18
    isplitl [P19]; · iexact P19
    isplitl [P20]; · iexact P20
    isplitl [P21]; · iexact P21
    isplitl [P22]; · iexact P22
    isplitl [P23]; · iexact P23
    isplitl [P24]; · iexact P24
    isplitl [P25]; · iexact P25
    isplitl [P26]; · iexact P26
    isplitl [P27]; · iexact P27
    isplitl [P28]; · iexact P28
    isplitl [P29]; · iexact P29
    isplitl [P30]; · iexact P30
    isplitl [P31]; · iexact P31
    isplitl [P32]; · iexact P32
    isplitl [P33]; · iexact P33
    isplitl [P34]; · iexact P34
    isplitl [P35]; · iexact P35
    isplitl [P36]; · iexact P36
    isplitl [P37]; · iexact P37
    isplitl [P38]; · iexact P38
    isplitl [P39]; · iexact P39
    isplitl [P40]; · iexact P40
    isplitl [P41]; · iexact P41
    isplitl [T1]; · iexact T1
    isplitl [T2]; · iexact T2
    isplitl [T3]; · iexact T3
    isplitl [T4]; · iexact T4
    isplitl [T5]; · iexact T5
    isplitl [T6]; · iexact T6
    isplitl [T7]; · iexact T7
    isplitl [T8]; · iexact T8
    isplitl [T9]; · iexact T9
    isplitl [T10]; · iexact T10
    isplitl [T11]; · iexact T11
    isplitl [T12]; · iexact T12
    isplitl [T25]; · iexact T25
    isplitl [T27]; · iexact T27
    isplitl [T28]; · iexact T28
    isplitl [T29]; · iexact T29
    isplitl [T30]; · iexact T30
    isplitl [T31]; · iexact T31
    isplitl [T32]; · iexact T32
    isplitl [T39]; · iexact T39
    isplitl [T40]; · iexact T40
    isplitl [T41]; · iexact T41
    isplitl [R13]; · iexact R13
    isplitl [C13]; · iexact C13
    isplitl [R14]; · iexact R14
    isplitl [C14]; · iexact C14
    isplitl [R15]; · iexact R15
    isplitl [C15]; · iexact C15
    isplitl [R16]; · iexact R16
    isplitl [C16]; · iexact C16
    isplitl [R17]; · iexact R17
    isplitl [C17]; · iexact C17
    isplitl [R18]; · iexact R18
    isplitl [C18]; · iexact C18
    isplitl [R19]; · iexact R19
    isplitl [C19]; · iexact C19
    isplitl [R20]; · iexact R20
    isplitl [C20]; · iexact C20
    isplitl [R21]; · iexact R21
    isplitl [C21]; · iexact C21
    isplitl [R22]; · iexact R22
    isplitl [C22]; · iexact C22
    isplitl [R23]; · iexact R23
    isplitl [C23]; · iexact C23
    isplitl [R24]; · iexact R24
    isplitl [C24]; · iexact C24
    isplitl [R26]; · iexact R26
    isplitl [C26]; · iexact C26
    isplitl [R33]; · iexact R33
    isplitl [C33]; · iexact C33
    isplitl [R34]; · iexact R34
    isplitl [C34]; · iexact C34
    isplitl [R35]; · iexact R35
    isplitl [C35]; · iexact C35
    isplitl [R36]; · iexact R36
    isplitl [C36]; · iexact C36
    isplitl [R37]; · iexact R37
    isplitl [C37]; · iexact C37
    isplitl [R38]; · iexact R38
    isplitl [C38]; · iexact C38
    isplitl [B0]; · iexact B0
    isplitl [H0]; · iexact H0
    isplitl [B1]; · iexact B1
    isplitl [H1]; · iexact H1
    isplitl [B2]; · iexact B2
    isplitl [H2]; · iexact H2
    isplitl [B3]; · iexact B3
    isplitl [H3]; · iexact H3
    isplitl [B4]; · iexact B4
    isplitl [H4]; · iexact H4
    isplitl [CB]; · iexact CB
    isplitl [PB]; · iexact PB
    isplitl [K00]
    · iexists f0; iexact K00
    isplitl [K10]
    · iexists f1; iexact K10
    isplitl [K20]
    · iexists f0; iexact K20
    isplitl [K30]
    · iexists f1; iexact K30
    isplitl [Q]; · iexact Q
    isplitl [A]; · iexact A
    isplitl [L]; · iexact L
    isplitl [G]; · iexact G
    unfold stB
    iexists f
    isplitr
    · ipureintro; exact outUpTo_zero m c f
    iexact ST
  iintro ⟨A, A0, A1, A2, K00, K01, K02, K03, K10, K11, K12, K13, K20, K21, K22, K23, K30, K31, K32, K33, L, O, OGB, Q, ST, X0, X1, X2, Z1, Z10, Z11, Z12, Z13, Z14, Z15, Z16, Z17, Z18, Z19, Z2, Z20, Z21, Z22, Z23, Z24, Z25, Z26, Z27, Z28, Z29, Z3, Z30, Z31, Z32, Z33, Z34, Z35, Z36, Z37, Z38, Z39, Z4, Z40, Z41, Z5, Z6, Z7, Z8, Z9, ZB⟩
  iapply Hk
  isplitl [A A0 A1 A2 K00 K01 K02 K03 K10 K11 K12 K13 K20 K21 K22 K23 K30 K31 K32 K33 L OGB Q X0 X1 X2 Z1 Z10 Z11 Z12 Z13 Z14 Z15 Z16 Z17 Z18 Z19 Z2 Z20 Z21 Z22 Z23 Z24 Z25 Z26 Z27 Z28 Z29 Z3 Z30 Z31 Z32 Z33 Z34 Z35 Z36 Z37 Z38 Z39 Z4 Z40 Z41 Z5 Z6 Z7 Z8 Z9 ZB D0 D1 D2]
  · isplitl [A0 A1 A2 D0 D1 D2]
    · isplitl [A0 D0]
      · iapply (pointsTo_split_subset (Finset.subset_univ (mQ c).view.set)).2
        isplitl [A0] <;> iassumption
      isplitl [A1 D1]
      · iapply (pointsTo_split_subset (Finset.subset_univ (mK c).view.set)).2
        isplitl [A1] <;> iassumption
      iapply (pointsTo_split_subset (Finset.subset_univ (mV c).view.set)).2
      isplitl [A2] <;> iassumption
    isplitl [A K00 K01 K02 K03 K10 K11 K12 K13 K20 K21 K22 K23 K30 K31 K32 K33 L OGB Q X0 X1 X2]
    · isplitl [K00 K01 K02 K03 K20 K21 K22 K23]
      · iapply (k_join (F := F) c (KF m c))
        isplitl [K00]; · iexact K00
        isplitl [K01]; · iexact K01
        isplitl [K02]; · iexact K02
        isplitl [K03]; · iexact K03
        isplitl [K20]; · iexact K20
        isplitl [K21]; · iexact K21
        isplitl [K22]; · iexact K22
        iexact K23
      isplitl [K10 K11 K12 K13 K30 K31 K32 K33]
      · iapply (v_join (F := F) c (VF m c))
        isplitl [K10]; · iexact K10
        isplitl [K11]; · iexact K11
        isplitl [K12]; · iexact K12
        isplitl [K13]; · iexact K13
        isplitl [K30]; · iexact K30
        isplitl [K31]; · iexact K31
        isplitl [K32]; · iexact K32
        iexact K33
      isplitl [Q]
      · unfold qB; iapply (buf_any (F := F) c cc0_scratch2 _); iexact Q
      isplitl [A]
      · unfold aB; iapply (buf_any (F := F) c cc0_scratch3 _); iexact A
      isplitl [L]
      · unfold lB; iapply (buf_any (F := F) c cc0_scratch4 _); iexact L
      isplitl [OGB]
      · unfold ogB; iapply (buf_any (F := F) c cc0_scratch5 _); iexact OGB
      isplitl [X0]
      · unfold qT; iapply (buf_any (F := F) c cc0_scratch6 _); iexact X0
      isplitl [X1]
      · unfold kT; iapply (buf_any (F := F) c cc0_scratch7 _); iexact X1
      unfold vT; iapply (buf_any (F := F) c cc0_scratch8 _); iexact X2
    isplitl [ZB]; · iexact ZB
    isplitl [Z1]; · iexact Z1
    isplitl [Z2]; · iexact Z2
    isplitl [Z3]; · iexact Z3
    isplitl [Z4]; · iexact Z4
    isplitl [Z5]; · iexact Z5
    isplitl [Z6]; · iexact Z6
    isplitl [Z7]; · iexact Z7
    isplitl [Z8]; · iexact Z8
    isplitl [Z9]; · iexact Z9
    isplitl [Z10]; · iexact Z10
    isplitl [Z11]; · iexact Z11
    isplitl [Z12]; · iexact Z12
    isplitl [Z13]; · iexact Z13
    isplitl [Z14]; · iexact Z14
    isplitl [Z15]; · iexact Z15
    isplitl [Z16]; · iexact Z16
    isplitl [Z17]; · iexact Z17
    isplitl [Z18]; · iexact Z18
    isplitl [Z19]; · iexact Z19
    isplitl [Z20]; · iexact Z20
    isplitl [Z21]; · iexact Z21
    isplitl [Z22]; · iexact Z22
    isplitl [Z23]; · iexact Z23
    isplitl [Z24]; · iexact Z24
    isplitl [Z25]; · iexact Z25
    isplitl [Z26]; · iexact Z26
    isplitl [Z27]; · iexact Z27
    isplitl [Z28]; · iexact Z28
    isplitl [Z29]; · iexact Z29
    isplitl [Z30]; · iexact Z30
    isplitl [Z31]; · iexact Z31
    isplitl [Z32]; · iexact Z32
    isplitl [Z33]; · iexact Z33
    isplitl [Z34]; · iexact Z34
    isplitl [Z35]; · iexact Z35
    isplitl [Z36]; · iexact Z36
    isplitl [Z37]; · iexact Z37
    isplitl [Z38]; · iexact Z38
    isplitl [Z39]; · iexact Z39
    isplitl [Z40]; · iexact Z40
    iexact Z41
  isplitl [O]
  · unfold Ow
    icases O with ⟨%W', O⟩
    iexists W'; iexact O
  unfold stB
  icases ST with ⟨%g, %hg, ST⟩
  ihave ST := (Entails.of_eq (show (((c : Thread nD τ).loc cc0_stg0_0) ↦{fullShare} g : sProp 𝕄) = (((c : Thread nD τ).loc cc0_stg0_0) ↦{fullShare} OUT m c) from by rw [← outUpTo_all m c g hg])) $$ ST
  iexact ST

def bodyPre (c : Dev nD) : sProp 𝕄 :=
  iprop(Φ₀ m c ∗ (dats m 0 c).owesAt () t0_0.castSucc
    ∗ (∃ d, ∃ f : Buf (Elt F) ((c : Thread nD τ).loc cc0_stg0_0), ⌜f = (dats m 0 c).before (0 : Fin 1) t0_0 d⌝ ∗ (((c : Thread nD τ).loc cc0_stg0_0) ↦{fullShare} f)))
def bodyPost (c : Dev nD) : sProp 𝕄 :=
  iprop(Φ₁ m c ∗ (dats m 0 c).owesAt () t0_0.succ
    ∗ (∃ f : Buf (Elt F) ((c : Thread nD τ).loc cc0_stg0_0), ⌜f = OUT m c⌝ ∗ (((c : Thread nD τ).loc cc0_stg0_0) ↦{fullShare} f)))

set_option maxRecDepth 8000 in
theorem body_obligation (c : Dev nD) : BodyObligation (dats (F := F) m 0 c) (defs₀ (F := F)) 𝒱₀ () Set.univ := fun t => by
  rw [fin_N0 t]
  rw [bigSep_W0, bigSep_W0]
  simp only [owns_whole_eq]
  show bodyPre m c ⊢ wp frame (wpE (defs₀ (F := F)) 𝒱₀ c none) Set.univ
    (cc0_body (Memref.whole main_arg0) (Memref.isWhole_whole _) (Memref.whole main_arg1) (Memref.isWhole_whole _) (Memref.whole main_arg2) (Memref.isWhole_whole _) (Memref.whole cc0_stg0_0) (hstage0_0 0) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scratch15)
    (fun _ => bodyPost m c)
  unfold bodyPre bodyPost Dat.owesAt Pipeline.owesWithin
  iintro ⟨HΦ, ⟨%W, -, HO⟩, ⟨%d, %f, -, Hst⟩⟩
  iapply (device_wp m c W f) $$ [HΦ HO Hst]
  · isplitl [HΦ]; · iexact HΦ
    isplitl [HO]; · iexact HO
    iexact Hst
  iintro ⟨HΦ, ⟨%W', HO⟩, Hst⟩
  isplitl [HΦ]; · iexact HΦ
  isplitl [HO]
  · iexists W'
    isplitr; · ipureintro; exact fun _ _ => Or.inl trivial
    iexact HO
  iexists _; isplitr; · (ipureintro; rfl)
  iexact Hst

/-! ## The launch's side conditions -/

theorem share_eq (c : Dev nD) (w : Fin cfg0.W) : (dats m 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred (fun d => Os d 0) c ∗ prngReg c (ρ c) ∗ G' m c)
      ⊢ |={Set.univ}=> iprop(start m c ∗ emp) := by
  rw [Pipeline.unscopedRestP_none, unscopedRest0_eq]
  iintro ⟨Ha, Hlev, Hcr, -, HG⟩
  ihave Hc := (creds_intro (F := F) c) $$ Hcr
  unfold G'
  icases HG with ⟨⟨%K, HK⟩, HP, HT⟩
  imodintro
  unfold start
  isplitl
  · isplitl [HK Hlev]
    · iexists K
      unfold records recs
      rw [bigSep_sep']
      isplitl [HK]; · iexact HK
      iexact Hlev
    isplitl [HP]; · iexact HP
    isplitl [HT]; · iexact HT
    isplitl [Hc]; · iexact Hc
    unfold args
    iexact Ha
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, show (Pipeline.scopedRest cfg0.spec c : sProp 𝕄) = bufs c from bufs_eq c]
  unfold Φ₀
  iintro ⟨Hs, -, Hr⟩
  isplitl [Hs] <;> iassumption

theorem phi1_exit (c : Dev nD) :
    (dats m 0 c).Φ (Fin.last cfg0.N) ⊢ iprop((unscopedSems0 c ∗ args m c) ∗ Pipeline.ownSems0 osem c ∗ Pipeline.scopedRest cfg0.spec c) := by
  rw [show (dats m 0 c).Φ (Fin.last cfg0.N) = Φ₁ m c from rfl, show (Pipeline.scopedRest cfg0.spec c : sProp 𝕄) = bufs c from bufs_eq c]
  unfold Φ₁
  rw [sems0_eq]
  iintro ⟨Ha, Hb, Hu, Ho⟩
  isplitl [Ha Hu]
  · isplitl [Hu] <;> iassumption
  isplitl [Ho] <;> iassumption

theorem waits (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait c _ 0 0 (by fin_cases w; fin_cases s; exact Nat.le_of_eq rfl) (by decide)
    · exact (BI.Affine.affine).trans (Entails.of_eq (by rw [show (dats m 0 c).owed _ = 0 from rfl, MayWait_zero]; rfl))

/-! ## The run -/

/-- The result array after the run. -/
theorem arr_final (c : Dev nD) : (dats m 0 c).arrAt (0 : Fin 1) cfg0.N = OUT m c := by
  have hw : ((cfg0.win 0).blk t0_0).view.read (Elt F) ((dats m 0 c).arrAt (0 : Fin 1) cfg0.N) = (dats m 0 c).flushed (0 : Fin 1) t0_0 := by
    rw [show cfg0.N = t0_0.val + 1 from rfl, (dats m 0 c).arrAt_succ (0 : Fin 1) t0_0, flush0_0, if_pos rfl]
    exact View.read_write_univ _ _
  have hf : (dats m 0 c).flushed (0 : Fin 1) t0_0 = OUT m c := funext fun _ => rfl
  have hr (f : Buf (Elt F) ((c : Thread nD τ).loc main_v1)) : ((cfg0.win 0).blk t0_0).view.read (Elt F) f = f :=
    Memref.read_access_unit_zero (Elt F) main_v1
      (show (fun a => (win0_0.index t0_0) a * main_v1.ty.shape.size a) = fun _ => 0 from funext fun a => by fin_cases a <;> decide)
      (fun a => by fin_cases a <;> decide) f
  rw [hf] at hw
  exact (hr _).symm.trans hw

def QC : PUnit × MemSt nD τ sig (Elt F) → Prop := fun r =>
  ∀ c : Dev nD, r.2.mem ((c : Thread nD τ).loc main_v1) = OUT m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)

/-- What holding the argument arrays says about the memory. -/
theorem args_read (c : Dev nD) (s' : Phys nD τ sig (Elt F)) :
    iprop(args m c ∗ SI s') ⊢ iprop(⌜s'.mem.mem ((c : Thread nD τ).loc main_arg0) = m ((c : Thread nD τ).loc main_arg0)
      ∧ s'.mem.mem ((c : Thread nD τ).loc main_arg1) = m ((c : Thread nD τ).loc main_arg1)
      ∧ s'.mem.mem ((c : Thread nD τ).loc main_arg2) = m ((c : Thread nD τ).loc main_arg2)⌝ ∗ SI s') := by
  have h := pointsTo_read_all (Ix := Unit) (Name := ℕ) (U := UU) (Lvl := ℕ) (Finset.univ : Finset (Fin 3))
    (fun i => (c : Thread nD τ).loc (![main_arg0, main_arg1, main_arg2] i)) (fun i => m _) s'
  rw [bigSep_univ_eq_bigSepL ([0, 1, 2] : List (Fin 3)) (by decide) (by decide)] at h
  refine (show iprop(args m c ∗ SI s') ⊢ _ from h).trans ?_
  iintro ⟨%h, HS⟩
  isplitr
  · ipureintro
    exact ⟨h 0 (Finset.mem_univ _), h 1 (Finset.mem_univ _), h 2 (Finset.mem_univ _)⟩
  iexact HS

set_option maxRecDepth 8000 in
/-- From any memory with all counters at zero, every fair run of the kernel on the thirty-two devices ends, with each
    device's result array at `OUT`, the argument arrays unchanged and every counter at zero. -/
theorem run_main : θ_run defs (onTc (τ := τ) (main (F := F))) ⟨m, fun _ => 0, ρ⟩ (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w; exact Nat.succ_pos _) (harr := arr_whole0) (hstage := stage_whole0) (hshare := share_eq m)
    (hdistinct := winFacts0.arr_inj)
    (O₀ := fun d => Os d 0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun c => iprop(unscopedSems0 c ∗ args m c)) (Z := fun _ => iprop(emp))
    (hX := start_intro m ρ) (hin := phi0_intro m) (hout := phi1_exit m)
    (QY := fun c s => (s.mem ((c : Thread nD τ).loc main_arg0) = m ((c : Thread nD τ).loc main_arg0)
        ∧ s.mem ((c : Thread nD τ).loc main_arg1) = m ((c : Thread nD τ).loc main_arg1)
        ∧ s.mem ((c : Thread nD τ).loc main_arg2) = m ((c : Thread nD τ).loc main_arg2))
      ∧ ∀ sm : SemLoc sig, sm.isScoped .tc = false → s.sem ((c.tc : Thread nD τ), sm) = 0)
    (hY := fun c s' => by
      iintro ⟨⟨Hu, Ha⟩, -, HSI⟩
      ihave H := (args_read m c s') $$ [Ha HSI]
      · isplitl [Ha] <;> iassumption
      icases H with ⟨%ha, HSI⟩
      imod (Pipeline.unscopedSems0_read (X := unscopedSems0 c) (c := c) fupd_intro s') $$ [Hu HSI] with ⟨%hs, HSI⟩
      · isplitl [Hu] <;> iassumption
      imodintro
      isplitr
      · ipureintro; exact ⟨ha, hs⟩
      iexact HSI)
    (hQ := fun _ h hs => ⟨fun c => ⟨((h c).1 0).trans (arr_final m c), (h c).2.2.1⟩, sem_eq_zero hs fun c => (h c).2.2.2⟩)

end Cert.KernelIdealProof

end
-- ==== Proof.Frames.lean ====
/-
# The programs run to the end and leave everything quiet

The kernel's run is proved once, whatever the numbers are.  Here it is read at the device's own floats and at the
idealized ones, and the reference, a host program without a semaphore, is added.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.KernelIdealLaunch

@[expose] public section

noncomputable section

namespace Cert.FramesProof

open Idealize.ShloMosaic Idealize.ShloMosaic.TcCoe Idealize.SL.Sem

attribute [local instance] Cert.Kernel.Gen.facts Cert.KernelIdeal.Gen.facts Cert.ReferenceIdeal.Gen.facts

section
variable {F : FTy → Type} [FloatOps F]

set_option maxRecDepth 65536
set_option maxHeartbeats 0

/-- The kernel before and after idealization is one program: no operation was rewritten. -/
theorem bodies_same : Cert.Kernel.defs₀ (F := F) = Cert.KernelIdeal.defs₀ (F := F) := by
  unfold Cert.Kernel.defs₀ Cert.KernelIdeal.defs₀
  refine congrArg Defs.onTc (funext fun l => funext fun a => ?_)
  match l, a with
  | 0, (t, s) => rfl

theorem defs_same : Cert.Kernel.defs (F := F) = Cert.KernelIdeal.defs (F := F) := by
  unfold Cert.Kernel.defs Cert.KernelIdeal.defs
  rw [bodies_same]; rfl

/-- Whatever is proved of the idealized kernel's run holds of the original's. -/
theorem run_same (m : (ℓ : Loc Cert.Kernel.nD Cert.Kernel.τ Cert.Kernel.sig) → Buf (Elt F) ℓ) (g : Dev Cert.Kernel.nD → PrngReg)
    (Q : PUnit × MemSt Cert.KernelIdeal.nD Cert.KernelIdeal.τ Cert.KernelIdeal.sig (Elt F) → Prop)
    (h : θ_run (Cert.KernelIdeal.defs (F := F)) (onTc (τ := Cert.KernelIdeal.τ) (Cert.KernelIdeal.main (F := F))) ⟨m, fun _ => 0, g⟩ Q) :
    θ_run (Cert.Kernel.defs (F := F)) (onTc (τ := Cert.Kernel.τ) (Cert.Kernel.main (F := F))) ⟨m, fun _ => 0, g⟩ Q := by
  rw [defs_same]; exact h

end

/-- The idealized kernel runs, keeps its arguments and ends with every counter at zero. -/
theorem frame_kernelIdeal : Cert.quiescent_KernelIdeal := fun m g _ =>
  (θ_run Cert.KernelIdeal.defs _ _).mono (fun _ h => ⟨fun c => (h.1 c).2, h.2⟩)
    (Cert.KernelIdealProof.run_main (F := Ideal) m g)

/-- The kernel runs, keeps its arguments and ends with every counter at zero. -/
theorem frame_kernel : Cert.quiescent_Kernel := fun m g _ =>
  run_same (F := Bits) m g _
    ((θ_run Cert.KernelIdeal.defs _ _).mono (fun _ h => ⟨fun c => (h.1 c).2, h.2⟩)
      (Cert.KernelIdealProof.run_main (F := Bits) m g))

/-- The reference runs and keeps its arguments; it has no semaphore. -/
theorem frame_referenceIdeal : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run (F := Ideal) m g)

end Cert.FramesProof

end
-- ==== Proof.KernelIdealValue.lean ====
/-
# What the kernel computes, read at one element

Over the reals the kernel's casts are the identity, and its sums over blocks are plain sums.
-/
module

public import proofs.«01_k».proof.Proof.KernelIdealContents
public import Idealize.ShloMosaic.Lib.Pointwise
public import Idealize.ShloMosaic.Lib.IdealHost

@[expose] public section

noncomputable section

namespace Cert.KernelIdealProof

open Cert.KernelIdeal Cert.KernelIdeal.Gen
open Idealize.ShloMosaic Idealize.ShloMosaic.TcCoe

variable (m : (ℓ : Loc nD τ sig) → Buf (Elt Ideal) ℓ)

/-- The exponential of a scaled score. -/
theorem pay11_at (q : Vec Ideal S1x1024x128 .bf16) (k : Vec Ideal S1x1x1024x128 .bf16) (r : Fin 1024) (l : Fin 1024) :
    k0_pay11 (F := Ideal) q k (ix2 r l)
      = Ideal.exp ((∑ e : Fin 128, q (ix3 (0 : Fin 1) r e) * k (ix4 (0 : Fin 1) (0 : Fin 1) l e)) * Ideal.ofBits .f32 0x3DB504F3#32) := by
  pointwise [k0_pay11]

theorem pay12_at (q : Vec Ideal S1x1024x128 .bf16) (k : Vec Ideal S1x1x1024x128 .bf16) (a : Vec Ideal S1x1024x128 .f32) (r : Fin 1024) (d : Fin 128) :
    k0_pay12 (F := Ideal) q k a (ix3 (0 : Fin 1) r d)
      = a (ix3 (0 : Fin 1) r d) + ∑ l : Fin 1024, k0_pay11 (F := Ideal) q k (ix2 r l) := by
  pointwise [k0_pay12]

theorem pay13_at (e : FVec Ideal S1024x1024 .f32) (a : Vec Ideal S1x1024x128 .f32) (v : Vec Ideal S1x1x1024x128 .bf16) (r : Fin 1024) (d : Fin 128) :
    k0_pay13 (F := Ideal) e a v (ix3 (0 : Fin 1) r d)
      = a (ix3 (0 : Fin 1) r d) + ∑ l : Fin 1024, e (ix2 r l) * v (ix4 (0 : Fin 1) (0 : Fin 1) l d) := by
  pointwise [k0_pay13]

theorem pay42_at (a l : Vec Ideal S1x1024x128 .f32) (r : Fin 1024) (d : Fin 128) :
    k0_pay42 (F := Ideal) a l (ix3 (0 : Fin 1) r d) = Ideal.div (a (ix3 (0 : Fin 1) r d)) (l (ix3 (0 : Fin 1) r d)) := by
  pointwise [k0_pay42]

theorem pay43_at (o : Vec Ideal S1x1024x128 .bf16) (r : Fin 1024) (d : Fin 128) :
    k0_pay43 (F := Ideal) o (ix3 r (0 : Fin 1) d) = o (ix3 (0 : Fin 1) r d) := by
  pointwise [k0_pay43]

theorem pay2_at (x : Vec Ideal S1024x1x128 .f32) (r : Fin 1024) (d : Fin 128) :
    k0_pay2 (F := Ideal) x (ix3 (0 : Fin 1) r d) = x (ix3 r (0 : Fin 1) d) := by
  pointwise [k0_pay2]

theorem pay3_at (x : Vec Ideal S1024x1x128 .f32) (r : Fin 1024) (d : Fin 128) :
    k0_pay3 (F := Ideal) x (ix4 (0 : Fin 1) (0 : Fin 1) r d) = x (ix3 r (0 : Fin 1) d) := by
  pointwise [k0_pay3]

theorem pay4_at (x : Vec Ideal S1024x1x128 .f32) (r : Fin 1024) (d : Fin 128) :
    k0_pay4 (F := Ideal) x (ix4 (0 : Fin 1) (0 : Fin 1) r d) = x (ix3 r (0 : Fin 1) d) := by
  pointwise [k0_pay4]

/-- A device's arguments at one row, head and lane. -/
def aQ (c : Dev nD) (r : Fin 1024) (h : Fin 16) (e : Fin 128) : EReal := m ((c : Thread nD τ).loc main_arg0) (ix4 (0 : Fin 1) r h e)
def aK (c : Dev nD) (r : Fin 1024) (h : Fin 16) (e : Fin 128) : EReal := m ((c : Thread nD τ).loc main_arg1) (ix4 (0 : Fin 1) r h e)
def aV (c : Dev nD) (r : Fin 1024) (h : Fin 16) (e : Fin 128) : EReal := m ((c : Thread nD τ).loc main_arg2) (ix4 (0 : Fin 1) r h e)

/-- The head the device's local row `i` is. -/
def hd (c : Dev nD) (i : ℕ) : Fin 16 := ⟨2 * pr c + i % 2, by have : c.val < 32 := c.isLt; show 2 * (2 * ((c.val / 4) % 4) + c.val / 16) + i % 2 < 16; omega⟩

theorem off1_eq (c : Dev nD) : k0_off1 c = ![0, 0, 2 * pr c, 0] := by revert c; decide +kernel

theorem casts_local : S1x1024x2x128.ShapeCasts S1024x2x128 := by decide

theorem cast_local (x : Vec Ideal S1x1024x2x128 .f32) (r : Fin 1024) (i : Fin 2) (d : Fin 128) :
    shapeCast S1024x2x128 x casts_local (ix3 r i d) = x (ix4 (0 : Fin 1) r i d) := by
  pointwise []

theorem tQ_at (c : Dev nD) (r : Fin 1024) (i : ℕ) (d : Fin 128) :
    tQ m c (ix3 r (⟨i % 2, Nat.mod_lt _ (by decide)⟩ : Fin 2) d) = m ((c : Thread nD τ).loc main_arg0) (ix4 (0 : Fin 1) r (hd c i) d) := by
  refine (congrFun (Memref.read_squeeze_slice (Val := Elt Ideal) (Memref.whole main_arg0) (Rect.unit (s := S1x1024x16x128) (k0_off1 c) S1x1024x2x128.size (k0_off1_inb c)) (fun _ => rfl)
    squeezes_S1x1024x2x128_S1024x2x128 casts_local (m ((c : Thread nD τ).loc main_arg0))) _).trans ((cast_local _ r _ d).trans ?_)
  refine congrArg (m ((c : Thread nD τ).loc main_arg0)) ?_
  have e := off1_eq c
  funext a
  apply Fin.ext
  match a with
  | ⟨0, _⟩ => show k0_off1 c 0 + 1 * 0 = 0; rw [e]; rfl
  | ⟨1, _⟩ => show k0_off1 c 1 + 1 * r.val = r.val; rw [e]; show 0 + 1 * r.val = r.val; omega
  | ⟨2, _⟩ => show k0_off1 c 2 + 1 * (i % 2) = 2 * pr c + i % 2; rw [e]; show 2 * pr c + 1 * (i % 2) = _; omega
  | ⟨3, _⟩ => show k0_off1 c 3 + 1 * d.val = d.val; rw [e]; show 0 + 1 * d.val = d.val; omega

theorem tK_at (c : Dev nD) (r : Fin 1024) (i : ℕ) (d : Fin 128) :
    tK m c (ix3 r (⟨i % 2, Nat.mod_lt _ (by decide)⟩ : Fin 2) d) = m ((c : Thread nD τ).loc main_arg1) (ix4 (0 : Fin 1) r (hd c i) d) := by
  refine (congrFun (Memref.read_squeeze_slice (Val := Elt Ideal) (Memref.whole main_arg1) (Rect.unit (s := S1x1024x16x128) (k0_off1 c) S1x1024x2x128.size (k0_off1_inb c)) (fun _ => rfl)
    squeezes_S1x1024x2x128_S1024x2x128 casts_local (m ((c : Thread nD τ).loc main_arg1))) _).trans ((cast_local _ r _ d).trans ?_)
  refine congrArg (m ((c : Thread nD τ).loc main_arg1)) ?_
  have e := off1_eq c
  funext a
  apply Fin.ext
  match a with
  | ⟨0, _⟩ => show k0_off1 c 0 + 1 * 0 = 0; rw [e]; rfl
  | ⟨1, _⟩ => show k0_off1 c 1 + 1 * r.val = r.val; rw [e]; show 0 + 1 * r.val = r.val; omega
  | ⟨2, _⟩ => show k0_off1 c 2 + 1 * (i % 2) = 2 * pr c + i % 2; rw [e]; show 2 * pr c + 1 * (i % 2) = _; omega
  | ⟨3, _⟩ => show k0_off1 c 3 + 1 * d.val = d.val; rw [e]; show 0 + 1 * d.val = d.val; omega

theorem tV_at (c : Dev nD) (r : Fin 1024) (i : ℕ) (d : Fin 128) :
    tV m c (ix3 r (⟨i % 2, Nat.mod_lt _ (by decide)⟩ : Fin 2) d) = m ((c : Thread nD τ).loc main_arg2) (ix4 (0 : Fin 1) r (hd c i) d) := by
  refine (congrFun (Memref.read_squeeze_slice (Val := Elt Ideal) (Memref.whole main_arg2) (Rect.unit (s := S1x1024x16x128) (k0_off1 c) S1x1024x2x128.size (k0_off1_inb c)) (fun _ => rfl)
    squeezes_S1x1024x2x128_S1024x2x128 casts_local (m ((c : Thread nD τ).loc main_arg2))) _).trans ((cast_local _ r _ d).trans ?_)
  refine congrArg (m ((c : Thread nD τ).loc main_arg2)) ?_
  have e := off1_eq c
  funext a
  apply Fin.ext
  match a with
  | ⟨0, _⟩ => show k0_off1 c 0 + 1 * 0 = 0; rw [e]; rfl
  | ⟨1, _⟩ => show k0_off1 c 1 + 1 * r.val = r.val; rw [e]; show 0 + 1 * r.val = r.val; omega
  | ⟨2, _⟩ => show k0_off1 c 2 + 1 * (i % 2) = 2 * pr c + i % 2; rw [e]; show 2 * pr c + 1 * (i % 2) = _; omega
  | ⟨3, _⟩ => show k0_off1 c 3 + 1 * d.val = d.val; rw [e]; show 0 + 1 * d.val = d.val; omega

theorem qrow_at (c : Dev nD) (i : ℕ) (r : Fin 1024) (e : Fin 128) :
    qrow m c i (ix3 (0 : Fin 1) r e) = aQ m c r (hd c i) e :=
  (pay2_at _ r e).trans (tQ_at m c r i e)
theorem kblk_at (c : Dev nD) (i : ℕ) (l : Fin 1024) (e : Fin 128) :
    kblk m c i (ix4 (0 : Fin 1) (0 : Fin 1) l e) = aK m c l (hd c i) e :=
  (pay3_at _ l e).trans (tK_at m c l i e)
theorem vblk_at (c : Dev nD) (i : ℕ) (l : Fin 1024) (e : Fin 128) :
    vblk m c i (ix4 (0 : Fin 1) (0 : Fin 1) l e) = aV m c l (hd c i) e :=
  (pay4_at _ l e).trans (tV_at m c l i e)

/-- The weight row `r` of head `i` gives to row `l` of block `o`. -/
def wt (c : Dev nD) (i : ℕ) (r : Fin 1024) (o : ℕ) (l : Fin 1024) : EReal :=
  Ideal.exp ((∑ e : Fin 128, aQ m c r (hd c i) e * aK m (dz c o) l (hd (dz c o) i) e) * Ideal.ofBits .f32 0x3DB504F3#32)

theorem pay11_wt (c : Dev nD) (i : ℕ) (r : Fin 1024) (o : ℕ) (l : Fin 1024) :
    k0_pay11 (F := Ideal) (qrow m c i) (kblk m (dz c o) i) (ix2 r l) = wt m c i r o l := by
  rw [pay11_at, wt]
  simp only [qrow_at, kblk_at]

theorem Lc_at (c : Dev nD) (i : ℕ) (r : Fin 1024) (d : Fin 128) (n : ℕ) :
    Lc m c i n (ix3 (0 : Fin 1) r d) = ∑ t ∈ Finset.range n, ∑ l : Fin 1024, wt m c i r (zi c i t) l := by
  induction n with
  | zero => exact Ideal.ofBits_zero_f32
  | succ n ih =>
    rw [Finset.sum_range_succ, ← ih]
    refine (pay12_at _ _ _ r d).trans ?_
    simp only [pay11_wt]

theorem Ac_at (c : Dev nD) (i : ℕ) (r : Fin 1024) (d : Fin 128) (n : ℕ) :
    Ac m c i n (ix3 (0 : Fin 1) r d) = ∑ t ∈ Finset.range n, ∑ l : Fin 1024, wt m c i r (zi c i t) l
      * aV m (dz c (zi c i t)) l (hd (dz c (zi c i t)) i) d := by
  induction n with
  | zero => exact Ideal.ofBits_zero_f32
  | succ n ih =>
    rw [Finset.sum_range_succ, ← ih]
    refine (pay13_at _ _ _ r d).trans ?_
    simp only [pay11_wt, vblk_at]

/-- Both orders of the blocks go through all four of them. -/
theorem sum_blocks {M : Type} [AddCommMonoid M] (c : Dev nD) (i : ℕ) (f : ℕ → M) :
    ∑ t ∈ Finset.range 4, f (zi c i t) = ∑ o : Fin 4, f o.val := by
  rw [Finset.sum_range (n := 4)]
  refine Fintype.sum_equiv (Equiv.ofBijective (fun t : Fin 4 => (⟨zi c i t.val, by
    unfold zi zb zf; split <;> omega⟩ : Fin 4)) ((Finite.injective_iff_bijective).1 fun t t' h => ?_)) _ _ fun t => rfl
  have h : zi c i t.val = zi c i t'.val := congrArg Fin.val h
  apply Fin.ext
  have := t.isLt
  have := t'.isLt
  unfold zi zb zf at h
  split at h <;> omega

/-- The kernel's output at one element. -/
theorem OUT_at (c : Dev nD) (r : Fin 1024) (h : Fin 16) (d : Fin 128) :
    OUT m c (ix3 r h d)
      = Ideal.div (∑ o : Fin 4, ∑ l : Fin 1024, wt m (dh c h.val) (h.val % 2) r o.val l
            * aV m (dz (dh c h.val) o.val) l (hd (dz (dh c h.val) o.val) (h.val % 2)) d)
          (∑ o : Fin 4, ∑ l : Fin 1024, wt m (dh c h.val) (h.val % 2) r o.val l) := by
  refine (pay43_at _ r d).trans ((pay42_at _ _ r d).trans ?_)
  refine (congrArg₂ Ideal.div (Ac_at m (dh c h.val) (h.val % 2) r d 4) (Lc_at m (dh c h.val) (h.val % 2) r d 4)).trans ?_
  rw [sum_blocks (dh c h.val) (h.val % 2) (fun o => ∑ l : Fin 1024, wt m (dh c h.val) (h.val % 2) r o l)]
  rw [sum_blocks (dh c h.val) (h.val % 2) (fun o => ∑ l : Fin 1024, wt m (dh c h.val) (h.val % 2) r o l
      * aV m (dz (dh c h.val) o) l (hd (dz (dh c h.val) o) (h.val % 2)) d)]

end Cert.KernelIdealProof

end
-- ==== Proof.SoftmaxAlgebra.lean ====
/-
# A softmax with and without the maximum taken off

Over the extended reals, for real scores and any values: the weighted sum divided once at the end, with the weights
`exp s`, is the sum of the values by the normalized weights of the scores less their maximum.
-/
module

public import Idealize.ShloMosaic.Lib.Pointwise
public import Idealize.ShloMosaic.Lib.IdealHost
public import Mathlib.Analysis.SpecialFunctions.Exp

@[expose] public section

noncomputable section

namespace Cert.SoftmaxAlgebra

open Idealize.ShloMosaic

/-- A real factor that is not negative goes into a finite sum of extended reals. -/
theorem coe_mul_sum {ι : Type} (r : ℝ) (hr : 0 ≤ r) (s : Finset ι) (f : ι → EReal) :
    (∑ k ∈ s, f k) * (r : EReal) = ∑ k ∈ s, f k * (r : EReal) := by
  classical
  induction s using Finset.induction_on with
  | empty => simp
  | insert a s ha ih =>
    rw [Finset.sum_insert ha, Finset.sum_insert ha, ← ih]
    exact EReal.right_distrib_of_nonneg_of_ne_top (EReal.coe_nonneg.2 hr) (EReal.coe_ne_top r) _ _

/-- A finite sum of reals is real. -/
theorem coe_sum {ι : Type} (s : Finset ι) (f : ι → ℝ) : (∑ k ∈ s, ((f k : ℝ) : EReal)) = ((∑ k ∈ s, f k : ℝ) : EReal) := by
  classical
  induction s using Finset.induction_on with
  | empty => simp
  | insert a s ha ih => rw [Finset.sum_insert ha, Finset.sum_insert ha, ih, EReal.coe_add]

/-- Division of an extended real by a positive real. -/
theorem div_pos (x : EReal) (r : ℝ) (hr : 0 < r) : Ideal.div x (r : EReal) = x * ((r⁻¹ : ℝ) : EReal) := by
  unfold Ideal.div
  rw [if_neg (by exact_mod_cast hr.ne'), EReal.coe_inv]

theorem exp_coe (r : ℝ) : Ideal.exp (r : EReal) = ((Real.exp r : ℝ) : EReal) := rfl

/-- The two forms of attention's last step agree. -/
theorem softmax_eq {n : ℕ} [NeZero n] (s : Fin n → EReal) (hs : ∀ k, ∃ r : ℝ, s k = r) (v : Fin n → EReal)
    (M : EReal) (hM : ∃ r : ℝ, M = r) :
    Ideal.div (∑ k, Ideal.exp (s k) * v k) (∑ k, Ideal.exp (s k))
      = ∑ k, v k * Ideal.div (Ideal.exp (s k - M)) (∑ k, Ideal.exp (s k - M)) := by
  choose r hr using hs
  obtain ⟨b, rfl⟩ := hM
  have hE : 0 < ∑ k, Real.exp (r k) := Finset.sum_pos (fun k _ => Real.exp_pos _) Finset.univ_nonempty
  have hE' : 0 < ∑ k, Real.exp (r k - b) := Finset.sum_pos (fun k _ => Real.exp_pos _) Finset.univ_nonempty
  have hd : ∀ k, s k - (b : EReal) = ((r k - b : ℝ) : EReal) := fun k => by rw [hr, EReal.coe_sub]
  simp only [hd]
  simp only [hr, exp_coe, coe_sum, div_pos _ _ hE, div_pos _ _ hE']
  rw [coe_mul_sum _ (inv_nonneg.2 hE.le)]
  refine Finset.sum_congr rfl fun k _ => ?_
  have e : Real.exp (r k) * (∑ k, Real.exp (r k))⁻¹ = Real.exp (r k - b) * (∑ k, Real.exp (r k - b))⁻¹ := by
    simp only [Real.exp_sub, ← Finset.sum_div]
    have := Real.exp_pos b
    field_simp
  rw [mul_comm (((Real.exp (r k) : ℝ) : EReal)) (v k), mul_assoc, ← EReal.coe_mul, e, EReal.coe_mul]

/-- The maximum of finitely many reals, at least one, is real. -/
theorem fold_max_real {n : ℕ} [NeZero n] (s : Fin n → EReal) (hs : ∀ k, ∃ r : ℝ, s k = r) :
    ∃ r : ℝ, Finset.fold max (⊥ : EReal) s Finset.univ = r := by
  have h1 : Finset.fold max (⊥ : EReal) s Finset.univ ≠ ⊤ := by
    apply ne_of_lt
    rw [Finset.fold_max_lt]
    exact ⟨bot_lt_top, fun k _ => by obtain ⟨r, hr⟩ := hs k; rw [hr]; exact EReal.coe_lt_top r⟩
  have h2 : Finset.fold max (⊥ : EReal) s Finset.univ ≠ ⊥ := by
    apply ne_of_gt
    rw [Finset.lt_fold_max]
    obtain ⟨r, hr⟩ := hs 0
    exact .inr ⟨0, Finset.mem_univ _, by rw [hr]; exact EReal.bot_lt_coe r⟩
  exact ⟨_, (EReal.coe_toReal h1 h2).symm⟩

/-- A product of reals summed, and scaled by a real, is real. -/
theorem score_real {n : ℕ} (a b : Fin n → EReal) (ha : ∀ k, ∃ r : ℝ, a k = r) (hb : ∀ k, ∃ r : ℝ, b k = r)
    (σ : EReal) (hσ : ∃ r : ℝ, σ = r) : ∃ r : ℝ, (∑ k, a k * b k) * σ = r := by
  choose p hp using ha
  choose q hq using hb
  obtain ⟨t, rfl⟩ := hσ
  refine ⟨(∑ k, p k * q k) * t, ?_⟩
  simp only [hp, hq, ← EReal.coe_mul, coe_sum]

/-- The scale of the scores is a real. -/
theorem scale_real : ∃ r : ℝ, Ideal.ofBits .f32 0x3DB504F3#32 = r := by
  have h1 : Ideal.ofBits .f32 0x3DB504F3#32 ≠ ⊤ := by
    simp [Ideal.ofBits, Ideal.ieee, -EReal.coe_mul]
  have h2 : Ideal.ofBits .f32 0x3DB504F3#32 ≠ ⊥ := by
    simp [Ideal.ofBits, Ideal.ieee, -EReal.coe_mul]
  exact ⟨_, (EReal.coe_toReal h1 h2).symm⟩

/-- An extended real of absolute value below infinity is real. -/
theorem real_of_abs_lt (x : EReal) (h : max x (-x) < ⊤) : ∃ r : ℝ, x = r := by
  have h1 : x ≠ ⊤ := fun e => by rw [e] at h; simp at h
  have h2 : x ≠ ⊥ := fun e => by rw [e] at h; simp at h
  exact ⟨_, (EReal.coe_toReal h1 h2).symm⟩

end Cert.SoftmaxAlgebra

end
-- ==== Proof.ReferenceIdealValue.lean ====
/-
# What the reference computes, read at one element
-/
module

public import proofs.«01_k».proof.Proof.Gen.ReferenceIdeal
public import proofs.«01_k».proof.Proof.Gen.ReferenceIdeal.Run
public import proofs.«01_k».proof.Proof.SoftmaxAlgebra
public import Idealize.ShloMosaic.Lib.Pointwise

@[expose] public section

noncomputable section

namespace Cert.ReferenceIdealProof

open Cert.ReferenceIdeal Cert.ReferenceIdeal.Gen
open Idealize.ShloMosaic Idealize.ShloMosaic.TcCoe Cert.SoftmaxAlgebra

variable (Q K V : FVec Ideal S1x4096x16x128 .f32)

/-- The reference's scaled scores, as an array. -/
def SC : FVec Ideal S1x16x4096x4096 .f32 :=
  mulf (Host.dotGeneral dot_S1x4096x16x128_S1x4096x16x128_S1x16x4096x4096_3_3_1_1_02_02 none Q K)
    (broadcastInDim S1x16x4096x4096 ![] bcast_S_S1x16x4096x4096 (constant S_ .f32 0x3DB504F3#32))

/-- The maximum of a row of scores. -/
def MX : FVec Ideal S1x16x4096 .f32 :=
  Host.reduce FloatOps.maximumf (SC Q K) (constant S_ .f32 0xFF800000#32) reducesTo_S1x16x4096x4096_S1x16x4096_d3 h_S_

/-- The exponentials of the scores less their row's maximum. -/
def EX : FVec Ideal S1x16x4096x4096 .f32 :=
  Host.exp (subf (SC Q K) (broadcastInDim S1x16x4096x4096 ![0, 1, 2, 3] bcast_S1x16x4096x1_S1x16x4096x4096_0_1_2_3
    (broadcastInDim S1x16x4096x1 ![0, 1, 2] bcast_S1x16x4096_S1x16x4096x1_0_1_2 (MX Q K))))

/-- The normalized weights. -/
def WT : FVec Ideal S1x16x4096x4096 .f32 :=
  Host.divf (EX Q K) (broadcastInDim S1x16x4096x4096 ![0, 1, 2, 3] bcast_S1x16x4096x1_S1x16x4096x4096_0_1_2_3
    (broadcastInDim S1x16x4096x1 ![0, 1, 2] bcast_S1x16x4096_S1x16x4096x1_0_1_2
      (Host.reduceAdd (EX Q K) (constant S_ .f32 0x00000000#32) reducesTo_S1x16x4096x4096_S1x16x4096_d3 h_S_)))

/-- The reference's result. -/
def RES : FVec Ideal S4096x16x128 .f32 :=
  shapeCast S4096x16x128 (transpose S1x4096x16x128 [0, 3, 1, 2]
    (Host.dotGeneral dot_S1x4096x16x128_S1x16x4096x4096_S1x16x128x4096_1_3_3_2_02_01 none V (WT Q K))
    transposes_S1x16x128x4096_S1x4096x16x128_0_3_1_2) shapeCasts_S1x4096x16x128_S4096x16x128

/-- One score. -/
def score (h : Fin 16) (q k : Fin 4096) : EReal :=
  (∑ e : Fin 128, Q (ix4 (0 : Fin 1) q h e) * K (ix4 (0 : Fin 1) k h e)) * Ideal.ofBits .f32 0x3DB504F3#32

theorem SC_at (h : Fin 16) (q k : Fin 4096) : SC Q K (ix4 (0 : Fin 1) h q k) = score Q K h q k := by
  pointwise [SC, score]

theorem MX_at (h : Fin 16) (q : Fin 4096) : MX Q K (ix3 (0 : Fin 1) h q) = Finset.fold max (⊥ : EReal) (score Q K h q) Finset.univ := by
  pointwise [MX]
  rw [show Ideal.ofBits FTy.f32 0xFF800000#32 = ⊥ by simp [Ideal.ofBits, Ideal.ieee]]
  exact congrArg (fun f => Finset.fold max ⊥ f Finset.univ) (funext fun k => SC_at Q K h q k)

theorem EX_at (h : Fin 16) (q k : Fin 4096) :
    EX Q K (ix4 (0 : Fin 1) h q k) = Ideal.exp (score Q K h q k - MX Q K (ix3 (0 : Fin 1) h q)) := by
  rw [← SC_at]
  pointwise [EX]

theorem WT_at (h : Fin 16) (q k : Fin 4096) :
    WT Q K (ix4 (0 : Fin 1) h q k) = Ideal.div (EX Q K (ix4 (0 : Fin 1) h q k)) (∑ l : Fin 4096, EX Q K (ix4 (0 : Fin 1) h q l)) := by
  pointwise [WT]

theorem RES_at (q : Fin 4096) (h : Fin 16) (d : Fin 128) :
    RES Q K V (ix3 q h d) = ∑ k : Fin 4096, V (ix4 (0 : Fin 1) k h d) * WT Q K (ix4 (0 : Fin 1) h q k) := by
  pointwise [RES]

/-- For finite queries and keys the reference is the weighted sum with the plain exponentials, divided once. -/
theorem RES_eq (hQ : ∀ j, ∃ r : ℝ, Q j = r) (hK : ∀ j, ∃ r : ℝ, K j = r) (q : Fin 4096) (h : Fin 16) (d : Fin 128) :
    RES Q K V (ix3 q h d)
      = Ideal.div (∑ k : Fin 4096, Ideal.exp (score Q K h q k) * V (ix4 (0 : Fin 1) k h d)) (∑ k : Fin 4096, Ideal.exp (score Q K h q k)) := by
  have hs : ∀ k, ∃ r : ℝ, score Q K h q k = r := fun k => score_real _ _ (fun e => hQ _) (fun e => hK _) _ scale_real
  have hM : ∃ r : ℝ, MX Q K (ix3 (0 : Fin 1) h q) = r := by rw [MX_at]; exact fold_max_real _ hs
  rw [RES_at, softmax_eq (n := 4096) (score Q K h q) hs (fun k => V (ix4 (0 : Fin 1) k h d)) _ hM]
  simp only [WT_at, EX_at]

end Cert.ReferenceIdealProof

end
-- ==== Proof.Algebraic.lean ====
/-
# The kernel's result is the reference's

For finite queries and keys every device ends with its block of rows of plain attention over the whole sequence.
-/
module

public import proofs.«01_k».proof.Proof.Frames
public import proofs.«01_k».proof.Proof.KernelIdealValue
public import proofs.«01_k».proof.Proof.ReferenceIdealValue
public import Idealize.ShloMosaic.Lib.LayoutAt
public import Idealize.ShloMosaic.Lib.ReduceAll

@[expose] public section

noncomputable section

/-! ## The precondition -/

namespace Cert.FiniteProof

open Idealize.ShloMosaic

theorem factsK : Cert.Pre_finite_KernelIdeal.Facts where
  bcast_S_S1x1024x16x128 := by decide
  reducesTo_S1x1024x16x128_S_d0_1_2_3 := by decide
  h_S_ := by decide

theorem factsR : Cert.Pre_finite_ReferenceIdeal.Facts where
  bcast_S_S1x4096x16x128 := by decide
  reducesTo_S1x4096x16x128_S_d0_1_2_3 := by decide
  h_S_ := by decide

attribute [local instance] factsK

instance : Subsingleton Cert.Pre_finite_KernelIdeal.S_.Idx := ⟨fun _ _ => funext fun a => a.elim0⟩

/-- A comparison of an absolute value with infinity that holds says that the number is real. -/
theorem real_of_cmp (x : EReal) (h : Ideal.cmp .olt (max x (-x)) (Ideal.ofBits .f32 0x7F800000#32) = 1#1) : ∃ r : ℝ, x = r := by
  apply Cert.SoftmaxAlgebra.real_of_abs_lt
  rw [show Ideal.ofBits FTy.f32 0x7F800000#32 = ⊤ by simp [Ideal.ofBits, Ideal.ieee]] at h
  by_contra hn
  simp [Ideal.cmp, hn] at h

theorem andi_one {a b : BitVec 1} (h : IntOp.andi a b = 1#1) : a = 1#1 ∧ b = 1#1 := by
  revert a b; decide

/-- Where the precondition holds of a device's blocks, its queries and keys are real. -/
theorem finite_real (a b v : FVec Ideal Cert.Pre_finite_KernelIdeal.S1x1024x16x128 .f32)
    (h : Cert.Pre_finite_KernelIdeal.fn (F := Ideal) a b v = fun _ => 1#1) :
    (∀ j, ∃ r : ℝ, a j = r) ∧ (∀ j, ∃ r : ℝ, b j = r) := by
  have h0 := congrFun h ix0
  obtain ⟨h1, h2⟩ := andi_one h0
  refine ⟨fun j => real_of_cmp _ ?_, fun j => real_of_cmp _ ?_⟩
  · exact Host.reduce_andi_all _ _ _ _ _ h1 j
  · exact Host.reduce_andi_all _ _ _ _ _ h2 j

end Cert.FiniteProof

/-! ## The value -/

namespace Cert.AlgebraicProof

open Idealize.ShloMosaic Idealize.ShloMosaic.TcCoe Idealize.SL.Sem
open Cert.KernelIdeal (nD τ sig main_arg0 main_arg1 main_arg2)
open Cert.KernelIdealProof (dh dz hd wt aQ aK aV OUT pr)
open Cert.ReferenceIdealProof (score RES)

attribute [local instance] Cert.Kernel.Gen.facts Cert.KernelIdeal.Gen.facts Cert.ReferenceIdeal.Gen.facts Cert.FiniteProof.factsK Cert.FiniteProof.factsR

/-- Row `r` of the block with number `z`, in the whole sequence. -/
def row (z : ℕ) (r : Fin 1024) : Fin 4096 := ⟨z % 4 * 1024 + r.val, by omega⟩

/-- A device's block of an argument, at an index. -/
theorem block_in (X : FVec Ideal ⟨4, ![1, 4096, 16, 128]⟩ .f32) (c : Dev nD) (r : Fin 1024) (h : Fin 16) (e : Fin 128) :
    Layout.blockN ⟨4, ![1, 1024, 16, 128]⟩ ⟨4, ![1, 4096, 16, 128]⟩ (Layout.meshBlock [2, 4, 4] ![[], [2], [], []] c) X (by decide) (ix4 (0 : Fin 1) r h e)
      = X (ix4 (0 : Fin 1) (row c.val r) h e) := by
  rw [Layout.blockN_apply]
  refine congrArg X (funext fun a => Fin.ext ?_)
  match a with
  | ⟨0, _⟩ => show 0 * 1 + 0 = 0; rfl
  | ⟨1, _⟩ => show (0 * 4 + c.val / 1 % 4) * 1024 + r.val = c.val % 4 * 1024 + r.val; omega
  | ⟨2, _⟩ => show 0 * 16 + h.val = h.val; omega
  | ⟨3, _⟩ => show 0 * 128 + e.val = e.val; omega

/-- A device's block of the result, at an index. -/
theorem block_out (X : FVec Ideal ⟨3, ![4096, 16, 128]⟩ .f32) (c : Dev nD) (r : Fin 1024) (h : Fin 16) (e : Fin 128) :
    Layout.blockN ⟨3, ![1024, 16, 128]⟩ ⟨3, ![4096, 16, 128]⟩ (Layout.meshBlock [2, 4, 4] ![[2], [], []] c) X (by decide) (ix3 r h e)
      = X (ix3 (row c.val r) h e) := by
  rw [Layout.blockN_apply]
  refine congrArg X (funext fun a => Fin.ext ?_)
  match a with
  | ⟨0, _⟩ => show (0 * 4 + c.val / 1 % 4) * 1024 + r.val = c.val % 4 * 1024 + r.val; omega
  | ⟨1, _⟩ => show 0 * 16 + h.val = h.val; omega
  | ⟨2, _⟩ => show 0 * 128 + e.val = e.val; omega

theorem hd_dz (c : Dev nD) (i o : ℕ) : hd (dz c o) i = hd c i := by
  apply Fin.ext
  show 2 * (2 * ((c.val / 4 * 4 + o % 4) / 4 % 4) + (c.val / 4 * 4 + o % 4) / 16) + i % 2 = 2 * (2 * (c.val / 4 % 4) + c.val / 16) + i % 2
  omega

theorem hd_dh (c : Dev nD) (h : Fin 16) : hd (dh c h.val) (h.val % 2) = h := by
  apply Fin.ext
  show 2 * (2 * ((16 * (h.val / 2 % 2) + 4 * (h.val / 4 % 4) + c.val % 4) / 4 % 4) + (16 * (h.val / 2 % 2) + 4 * (h.val / 4 % 4) + c.val % 4) / 16) + h.val % 2 % 2 = h.val
  have key : ∀ x y z : ℕ, x < 2 → y < 4 → z < 4 → (16 * x + 4 * y + z) / 4 % 4 = y ∧ (16 * x + 4 * y + z) / 16 = x := fun x y z hx hy hz => by omega
  obtain ⟨e1, e2⟩ := key (h.val / 2 % 2) (h.val / 4 % 4) (c.val % 4) (Nat.mod_lt _ (by decide)) (Nat.mod_lt _ (by decide)) (Nat.mod_lt _ (by decide))
  rw [e1, e2]
  omega

theorem row_dh (c : Dev nD) (h : ℕ) (r : Fin 1024) : row (dh c h).val r = row c.val r := by
  apply Fin.ext
  show (16 * (h / 2 % 2) + 4 * (h / 4 % 4) + c.val % 4) % 4 * 1024 + r.val = c.val % 4 * 1024 + r.val
  omega

theorem row_dz (c : Dev nD) (o : ℕ) (r : Fin 1024) : row (dz c o).val r = row o r := by
  apply Fin.ext
  show (c.val / 4 * 4 + o % 4) % 4 * 1024 + r.val = o % 4 * 1024 + r.val
  omega

section
variable (m : (ℓ : Loc nD τ sig) → Buf (Elt Ideal) ℓ) (Q K V : FVec Ideal ⟨4, ![1, 4096, 16, 128]⟩ .f32)
  (hQ : ∀ c r h e, aQ m c r h e = Q (ix4 (0 : Fin 1) (row c.val r) h e))
  (hK : ∀ c r h e, aK m c r h e = K (ix4 (0 : Fin 1) (row c.val r) h e))
  (hV : ∀ c r h e, aV m c r h e = V (ix4 (0 : Fin 1) (row c.val r) h e))

include hQ hK in
theorem wt_eq (c : Dev nD) (r : Fin 1024) (h : Fin 16) (o : Fin 4) (l : Fin 1024) :
    wt m (dh c h.val) (h.val % 2) r o.val l = Ideal.exp (score Q K h (row c.val r) (row o.val l)) := by
  unfold wt score
  simp only [hQ, hK, hd_dz, hd_dh, row_dh, row_dz]

include hV in
theorem av_eq (c : Dev nD) (h : Fin 16) (o : Fin 4) (l : Fin 1024) (d : Fin 128) :
    aV m (dz (dh c h.val) o.val) l (hd (dz (dh c h.val) o.val) (h.val % 2)) d = V (ix4 (0 : Fin 1) (row o.val l) h d) := by
  simp only [hV, hd_dz, hd_dh, row_dz]

/-- A sum over the sequence, block by block. -/
theorem sum_rows (f : Fin 4096 → EReal) : ∑ o : Fin 4, ∑ l : Fin 1024, f (row o.val l) = ∑ k, f k := by
  rw [Fin.sum_univ_tiles 4 1024 rfl f]
  refine Finset.sum_congr rfl fun o _ => Finset.sum_congr rfl fun l _ => congrArg f (Fin.ext ?_)
  show o.val % 4 * 1024 + l.val = o.val * 1024 + l.val
  have := o.isLt
  omega

include hQ hK hV in
theorem out_eq (rQ : ∀ j, ∃ r : ℝ, Q j = r) (rK : ∀ j, ∃ r : ℝ, K j = r) (c : Dev nD) (r : Fin 1024) (h : Fin 16) (d : Fin 128) :
    OUT m c (ix3 r h d) = RES Q K V (ix3 (row c.val r) h d) := by
  rw [Cert.KernelIdealProof.OUT_at, Cert.ReferenceIdealProof.RES_eq Q K V rQ rK]
  simp only [wt_eq m Q K hQ hK, av_eq m V hV]
  rw [sum_rows (fun k => Ideal.exp (score Q K h (row c.val r) k) * V (ix4 (0 : Fin 1) k h d)), sum_rows (fun k => Ideal.exp (score Q K h (row c.val r) k))]

end

/-- A row of the whole sequence lies in the block of some device. -/
theorem row_of (q : Fin 4096) : ∃ (c : Dev nD) (r : Fin 1024), q = row c.val r :=
  ⟨⟨q.val / 1024, by show _ < 32; omega⟩, ⟨q.val % 1024, by omega⟩, Fin.ext (by show q.val = q.val / 1024 % 4 * 1024 + q.val % 1024; omega)⟩

theorem real_whole (X : FVec Ideal ⟨4, ![1, 4096, 16, 128]⟩ .f32) (h : ∀ (c : Dev nD) r h e, ∃ x : ℝ, X (ix4 (0 : Fin 1) (row c.val r) h e) = x) (j) : ∃ x : ℝ, X j = x := by
  obtain ⟨c, r, e⟩ := row_of (j 1)
  have e0 : j = ix4 (0 : Fin 1) (row c.val r) (j 2) (j 3) := by
    rw [← e]
    funext a
    match a with
    | ⟨0, _⟩ => exact Fin.ext (by have : (j 0).val < 1 := (j 0).isLt; show (j 0).val = 0; omega)
    | ⟨1, _⟩ => rfl
    | ⟨2, _⟩ => rfl
    | ⟨3, _⟩ => rfl
  rw [e0]
  exact h c r _ _

theorem algebraic : Cert.algebraic_KernelIdeal_ReferenceIdeal_pre_finite_KernelIdeal := by
  intro m g m' g' hpre hag
  let Q : FVec Ideal ⟨4, ![1, 4096, 16, 128]⟩ .f32 := m' (((0 : Dev Cert.ReferenceIdeal.nD).tc : Thread Cert.ReferenceIdeal.nD Cert.ReferenceIdeal.τ).loc Cert.ReferenceIdeal.main_arg0)
  let K : FVec Ideal ⟨4, ![1, 4096, 16, 128]⟩ .f32 := m' (((0 : Dev Cert.ReferenceIdeal.nD).tc : Thread Cert.ReferenceIdeal.nD Cert.ReferenceIdeal.τ).loc Cert.ReferenceIdeal.main_arg1)
  let V : FVec Ideal ⟨4, ![1, 4096, 16, 128]⟩ .f32 := m' (((0 : Dev Cert.ReferenceIdeal.nD).tc : Thread Cert.ReferenceIdeal.nD Cert.ReferenceIdeal.τ).loc Cert.ReferenceIdeal.main_arg2)
  have hQ : ∀ c r h e, aQ m c r h e = Q (ix4 (0 : Fin 1) (row c.val r) h e) := fun c r h e =>
    (congrFun (hag c).1 (ix4 (0 : Fin 1) r h e)).trans (block_in Q c r h e)
  have hK : ∀ c r h e, aK m c r h e = K (ix4 (0 : Fin 1) (row c.val r) h e) := fun c r h e =>
    (congrFun (hag c).2.1 (ix4 (0 : Fin 1) r h e)).trans (block_in K c r h e)
  have hV : ∀ c r h e, aV m c r h e = V (ix4 (0 : Fin 1) (row c.val r) h e) := fun c r h e =>
    (congrFun (hag c).2.2 (ix4 (0 : Fin 1) r h e)).trans (block_in V c r h e)
  have rQ : ∀ j, ∃ r : ℝ, Q j = r := real_whole Q fun c r h e => by
    rw [← hQ]; exact (Cert.FiniteProof.finite_real _ _ _ (hpre c)).1 _
  have rK : ∀ j, ∃ r : ℝ, K j = r := real_whole K fun c r h e => by
    rw [← hK]; exact (Cert.FiniteProof.finite_real _ _ _ (hpre c)).2 _
  refine ⟨RES Q K V, ?_, ?_⟩
  · refine (θ_run Cert.KernelIdeal.defs _ _).mono (fun _ h c => ⟨(h.1 c).1.trans ?_, (h.1 c).2⟩)
      (Cert.KernelIdealProof.run_main (F := Ideal) m g)
    funext j
    have e : j = ix3 (j 0) (j 1) (j 2) := by
      funext a
      match a with
      | ⟨0, _⟩ => rfl
      | ⟨1, _⟩ => rfl
      | ⟨2, _⟩ => rfl
    rw [e]
    exact (out_eq m Q K V hQ hK hV rQ rK c (j 0) (j 1) (j 2)).trans (block_out (RES Q K V) c (j 0) (j 1) (j 2)).symm
  · exact (θ_run Cert.ReferenceIdeal.defs _ _).mono (fun _ h => h 0) (Cert.ReferenceIdeal.Value.run (F := Ideal) m' g')

/-- The idealized kernel's frame where the precondition holds: it holds everywhere. -/
theorem frame_kernelIdeal_pre : Cert.quiescent_KernelIdeal_pre_finite_KernelIdeal := fun m g _ =>
  Cert.FramesProof.frame_kernelIdeal m g trivial

theorem frame_referenceIdeal_pre : Cert.quiescent_ReferenceIdeal_pre_finite_ReferenceIdeal := fun m g _ =>
  Cert.FramesProof.frame_referenceIdeal m g trivial

end Cert.AlgebraicProof

end
-- ==== Proof.lean ====
module

public import proofs.«01_k».proof.Defs
public import proofs.«01_k».proof.Proof.Gen.Kernel
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts,
    Cert.FiniteProof.factsK, Cert.FiniteProof.factsR,
    Cert.FramesProof.frame_kernel, Cert.FramesProof.frame_kernelIdeal, Cert.AlgebraicProof.frame_kernelIdeal_pre,
    Cert.FramesProof.frame_referenceIdeal, Cert.AlgebraicProof.frame_referenceIdeal_pre, trivial,
    Cert.AlgebraicProof.algebraic⟩

end Cert.Proof

end
